-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v11)) (v7 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_v12) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_v19) = v6 c
          ∧ r.2.mem ((c.tc : Thread Cert.ReferenceIdeal.nD Cert.ReferenceIdeal.τ).loc Cert.ReferenceIdeal.main_v20) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v24)) (v1 : (c : Dev Cert.Kernel5Ideal.nD) → Buf (Elt Ideal) ((c.tc : Thread Cert.Kernel5Ideal.nD Cert.Kernel5Ideal.τ).loc Cert.Kernel5Ideal.main_v27)) (v2 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_v27) = v1 c
          ∧ r.2.mem ((c.tc : Thread Cert.Kernel5Ideal.nD Cert.Kernel5Ideal.τ).loc Cert.Kernel5Ideal.main_v31) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v51) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v38)) (v1 : (c : Dev Cert.Kernel6Ideal.nD) → Buf (Elt Ideal) ((c.tc : Thread Cert.Kernel6Ideal.nD Cert.Kernel6Ideal.τ).loc Cert.Kernel6Ideal.main_v43)) (v2 : (c : Dev Cert.Kernel6Ideal.nD) → Buf (Elt Ideal) ((c.tc : Thread Cert.Kernel6Ideal.nD Cert.Kernel6Ideal.τ).loc Cert.Kernel6Ideal.main_v46)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v38) = v0 c
          ∧ r.2.mem ((c.tc : Thread Cert.Kernel6Ideal.nD Cert.Kernel6Ideal.τ).loc Cert.Kernel6Ideal.main_v43) = v1 c
          ∧ r.2.mem ((c.tc : Thread Cert.Kernel6Ideal.nD Cert.Kernel6Ideal.τ).loc Cert.Kernel6Ideal.main_v46) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v57) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v18)) (v1 : (c : Dev Cert.Kernel7Ideal.nD) → Buf (Elt Ideal) ((c.tc : Thread Cert.Kernel7Ideal.nD Cert.Kernel7Ideal.τ).loc Cert.Kernel7Ideal.main_v19)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18) = v0 c
          ∧ r.2.mem ((c.tc : Thread Cert.Kernel7Ideal.nD Cert.Kernel7Ideal.τ).loc Cert.Kernel7Ideal.main_v19) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v52) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9)) (v1 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_v10) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S1x8192x2048 : Shape := ⟨3, ![1, 8192, 2048]⟩
abbrev S1x2048x10816 : Shape := ⟨3, ![1, 2048, 10816]⟩
abbrev S9 : Shape := ⟨1, ![9]⟩
abbrev S2048x10816 : Shape := ⟨2, ![2048, 10816]⟩
abbrev S10816x2048 : Shape := ⟨2, ![10816, 2048]⟩
abbrev S8192x2048 : Shape := ⟨2, ![8192, 2048]⟩
abbrev S8192x9216 : Shape := ⟨2, ![8192, 9216]⟩
abbrev S1024x2048 : Shape := ⟨2, ![1024, 2048]⟩
abbrev S1 : Shape := ⟨1, ![1]⟩
abbrev S1024x1024 : Shape := ⟨2, ![1024, 1024]⟩
abbrev S8192x1024 : Shape := ⟨2, ![8192, 1024]⟩
abbrev S8192x512 : Shape := ⟨2, ![8192, 512]⟩
abbrev S8192x16 : Shape := ⟨2, ![8192, 16]⟩

abbrev nBuf : Space → Nat
  | .hbm => 15
  | .vmem => 7
  | .smem => 1
  | _ => 0

abbrev bufTy : (tb : Table) → Fin (tcTables nBuf tb) → BufTy
  | .hbm, ⟨0, _⟩ => ⟨S1x8192x2048, .f32⟩
  | .hbm, ⟨1, _⟩ => ⟨S1x2048x10816, .f32⟩
  | .hbm, ⟨2, _⟩ => ⟨S2048x10816, .f32⟩
  | .hbm, ⟨3, _⟩ => ⟨S10816x2048, .f32⟩
  | .hbm, ⟨4, _⟩ => ⟨S8192x2048, .f32⟩
  | .hbm, ⟨5, _⟩ => ⟨S8192x2048, .bf16⟩
  | .hbm, ⟨6, _⟩ => ⟨S8192x9216, .f32⟩
  | .hbm, ⟨7, _⟩ => ⟨S8192x2048, .f32⟩
  | .hbm, ⟨8, _⟩ => ⟨S8192x2048, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S8192x16, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .smem, ⟨0, _⟩ => ⟨S9, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c16_i32 : BitVec 32 := 16#32
  let v2 : BitVec 32 := Scalar.muli v1 c16_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S9.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let c16_i32 : BitVec 32 := 16#32
  let v2 : BitVec 32 := Scalar.muli v1 c16_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1x8192x2048 : Shape := ⟨3, ![1, 8192, 2048]⟩
abbrev S1x2048x10816 : Shape := ⟨3, ![1, 2048, 10816]⟩
abbrev S2048x10816 : Shape := ⟨2, ![2048, 10816]⟩
abbrev S1x8192x10816 : Shape := ⟨3, ![1, 8192, 10816]⟩
abbrev S1x8192x1024 : Shape := ⟨3, ![1, 8192, 1024]⟩
abbrev S1x8192x1536 : Shape := ⟨3, ![1, 8192, 1536]⟩
abbrev S1x8192x48 : Shape := ⟨3, ![1, 8192, 48]⟩
abbrev S1x8192x512 : Shape := ⟨3, ![1, 8192, 512]⟩
abbrev S1x8192x16 : Shape := ⟨3, ![1, 8192, 16]⟩
abbrev S8192x2048 : Shape := ⟨2, ![8192, 2048]⟩
abbrev S8192x1024 : Shape := ⟨2, ![8192, 1024]⟩
abbrev S8192x512 : Shape := ⟨2, ![8192, 512]⟩
abbrev S8192x16 : Shape := ⟨2, ![8192, 16]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10816, .f32⟩
  | .hbm, ⟨2, _⟩ => ⟨S2048x10816, .f32⟩
  | .hbm, ⟨3, _⟩ => ⟨S1x8192x10816, .f32⟩
  | .hbm, ⟨4, _⟩ => ⟨S1x8192x1024, .f32⟩
  | .hbm, ⟨5, _⟩ => ⟨S1x8192x1536, .f32⟩
  | .hbm, ⟨6, _⟩ => ⟨S1x8192x48, .f32⟩
  | .hbm, ⟨7, _⟩ => ⟨S1x8192x1024, .f32⟩
  | .hbm, ⟨8, _⟩ => ⟨S1x8192x512, .f32⟩
  | .hbm, ⟨9, _⟩ => ⟨S1x8192x512, .f32⟩
  | .hbm, ⟨10, _⟩ => ⟨S1x8192x1024, .f32⟩
  | .hbm, ⟨11, _⟩ => ⟨S1x8192x16, .f32⟩
  | .hbm, ⟨12, _⟩ => ⟨S1x8192x1024, .f32⟩
  | .hbm, ⟨13, _⟩ => ⟨S1x8192x2048, .f32⟩
  | .hbm, ⟨14, _⟩ => ⟨S1x8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S8192x16, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel2.lean ====
abbrev S1x8192x2048 : Shape := ⟨3, ![1, 8192, 2048]⟩
abbrev S1x2048x10816 : Shape := ⟨3, ![1, 2048, 10816]⟩
abbrev S2 : Shape := ⟨1, ![2]⟩
abbrev S2048x10816 : Shape := ⟨2, ![2048, 10816]⟩
abbrev S10816x2048 : Shape := ⟨2, ![10816, 2048]⟩
abbrev S8192x2048 : Shape := ⟨2, ![8192, 2048]⟩
abbrev S2688x8192 : Shape := ⟨2, ![2688, 8192]⟩
abbrev S512x2048 : Shape := ⟨2, ![512, 2048]⟩
abbrev S1344x2048 : Shape := ⟨2, ![1344, 2048]⟩
abbrev S1 : Shape := ⟨1, ![1]⟩
abbrev S1344x512 : Shape := ⟨2, ![1344, 512]⟩
abbrev S1024x8192 : Shape := ⟨2, ![1024, 8192]⟩
abbrev S1536x8192 : Shape := ⟨2, ![1536, 8192]⟩
abbrev S48x8192 : Shape := ⟨2, ![48, 8192]⟩

abbrev nBuf : Space → Nat
  | .hbm => 10
  | .vmem => 7
  | .smem => 1
  | _ => 0

abbrev bufTy : (tb : Table) → Fin (tcTables nBuf tb) → BufTy
  | .hbm, ⟨0, _⟩ => ⟨S1x8192x2048, .f32⟩
  | .hbm, ⟨1, _⟩ => ⟨S1x2048x10816, .f32⟩
  | .hbm, ⟨2, _⟩ => ⟨S2048x10816, .f32⟩
  | .hbm, ⟨3, _⟩ => ⟨S10816x2048, .f32⟩
  | .hbm, ⟨4, _⟩ => ⟨S8192x2048, .f32⟩
  | .hbm, ⟨5, _⟩ => ⟨S8192x2048, .bf16⟩
  | .hbm, ⟨6, _⟩ => ⟨S2688x8192, .f32⟩
  | .hbm, ⟨7, _⟩ => ⟨S1024x8192, .f32⟩
  | .hbm, ⟨8, _⟩ => ⟨S1536x8192, .f32⟩
  | .hbm, ⟨9, _⟩ => ⟨S48x8192, .f32⟩
  | .local _ .vmem, ⟨0, _⟩ => ⟨S512x2048, .bf16⟩
  | .local _ .vmem, ⟨1, _⟩ => ⟨S512x2048, .bf16⟩
  | .local _ .vmem, ⟨2, _⟩ => ⟨S1344x2048, .f32⟩
  | .local _ .vmem, ⟨3, _⟩ => ⟨S1344x2048, .f32⟩
  | .local _ .vmem, ⟨4, _⟩ => ⟨S1344x512, .f32⟩
  | .local _ .vmem, ⟨5, _⟩ => ⟨S1344x512, .f32⟩
  | .local _ .vmem, ⟨6, _⟩ => ⟨S1344x2048, .bf16⟩
  | .local _ .smem, ⟨0, _⟩ => ⟨S2, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c16_i32 : BitVec 32 := 16#32
  let v2 : BitVec 32 := Scalar.muli v1 c16_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c16_i32 : BitVec 32 := 16#32
  let v2 : BitVec 32 := Scalar.muli v1 c16_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1344x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S1x8192x2048 : Shape := ⟨3, ![1, 8192, 2048]⟩
abbrev S1x2048x10816 : Shape := ⟨3, ![1, 2048, 10816]⟩
abbrev S2048x10816 : Shape := ⟨2, ![2048, 10816]⟩
abbrev S1x8192x10816 : Shape := ⟨3, ![1, 8192, 10816]⟩
abbrev S1x8192x1024 : Shape := ⟨3, ![1, 8192, 1024]⟩
abbrev S1x8192x1536 : Shape := ⟨3, ![1, 8192, 1536]⟩
abbrev S1x8192x48 : Shape := ⟨3, ![1, 8192, 48]⟩
abbrev S1x8192x512 : Shape := ⟨3, ![1, 8192, 512]⟩
abbrev S1x8192x16 : Shape := ⟨3, ![1, 8192, 16]⟩
abbrev S8192x1024 : Shape := ⟨2, ![8192, 1024]⟩
abbrev S1024x8192 : Shape := ⟨2, ![1024, 8192]⟩
abbrev S8192x1536 : Shape := ⟨2, ![8192, 1536]⟩
abbrev S1536x8192 : Shape := ⟨2, ![1536, 8192]⟩
abbrev S8192x48 : Shape := ⟨2, ![8192, 48]⟩
abbrev S48x8192 : Shape := ⟨2, ![48, 8192]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10816, .f32⟩
  | .hbm, ⟨2, _⟩ => ⟨S2048x10816, .f32⟩
  | .hbm, ⟨3, _⟩ => ⟨S1x8192x10816, .f32⟩
  | .hbm, ⟨4, _⟩ => ⟨S1x8192x1024, .f32⟩
  | .hbm, ⟨5, _⟩ => ⟨S1x8192x1536, .f32⟩
  | .hbm, ⟨6, _⟩ => ⟨S1x8192x48, .f32⟩
  | .hbm, ⟨7, _⟩ => ⟨S1x8192x1024, .f32⟩
  | .hbm, ⟨8, _⟩ => ⟨S1x8192x512, .f32⟩
  | .hbm, ⟨9, _⟩ => ⟨S1x8192x512, .f32⟩
  | .hbm, ⟨10, _⟩ => ⟨S1x8192x1024, .f32⟩
  | .hbm, ⟨11, _⟩ => ⟨S1x8192x16, .f32⟩
  | .hbm, ⟨12, _⟩ => ⟨S1x8192x1024, .f32⟩
  | .hbm, ⟨13, _⟩ => ⟨S1x8192x2048, .f32⟩
  | .hbm, ⟨14, _⟩ => ⟨S1x8192x2048, .f32⟩
  | .hbm, ⟨15, _⟩ => ⟨S8192x1024, .f32⟩
  | .hbm, ⟨16, _⟩ => ⟨S1024x8192, .f32⟩
  | .hbm, ⟨17, _⟩ => ⟨S8192x1536, .f32⟩
  | .hbm, ⟨18, _⟩ => ⟨S1536x8192, .f32⟩
  | .hbm, ⟨19, _⟩ => ⟨S8192x48, .f32⟩
  | .hbm, ⟨20, _⟩ => ⟨S48x8192, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x8192x2048 : Shape := ⟨3, ![1, 8192, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S2048 : Shape := ⟨1, ![2048]⟩
abbrev S8192x2048 : Shape := ⟨2, ![8192, 2048]⟩
abbrev S8192x1024 : Shape := ⟨2, ![8192, 1024]⟩
abbrev S_ : Shape := ⟨0, ![]⟩
abbrev S8192x4096 : Shape := ⟨2, ![8192, 4096]⟩
abbrev S8192x9216 : Shape := ⟨2, ![8192, 9216]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S1x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S_, .f32⟩
  | .hbm, ⟨15, _⟩ => ⟨S8192x4096, .f32⟩
  | .hbm, ⟨16, _⟩ => ⟨S8192x9216, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .bf16⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S1x8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
abbrev S1x8192x1024 : Shape := ⟨3, ![1, 8192, 1024]⟩
abbrev S1x8192x2048 : Shape := ⟨3, ![1, 8192, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S2048 : Shape := ⟨1, ![2048]⟩
abbrev S8192x2048 : Shape := ⟨2, ![8192, 2048]⟩
abbrev S8192x1024 : Shape := ⟨2, ![8192, 1024]⟩
abbrev S_ : Shape := ⟨0, ![]⟩
abbrev S8192x4096 : Shape := ⟨2, ![8192, 4096]⟩
abbrev S8192x9216 : Shape := ⟨2, ![8192, 9216]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S1x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S_, .f32⟩
  | .hbm, ⟨15, _⟩ => ⟨S8192x4096, .f32⟩
  | .hbm, ⟨16, _⟩ => ⟨S8192x9216, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .bf16⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S1x8192x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S1x8192x1024 : Shape := ⟨3, ![1, 8192, 1024]⟩
abbrev S1x8192x2048 : Shape := ⟨3, ![1, 8192, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S2048 : Shape := ⟨1, ![2048]⟩
abbrev S_ : Shape := ⟨0, ![]⟩
abbrev S1024x2048 : Shape := ⟨2, ![1024, 2048]⟩
abbrev S1x1x2048 : Shape := ⟨3, ![1, 1, 2048]⟩
abbrev S2048x2048 : Shape := ⟨2, ![2048, 2048]⟩
abbrev S1x8192 : Shape := ⟨2, ![1, 8192]⟩
abbrev S1x8192x1 : Shape := ⟨3, ![1, 8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S1x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S1x8192x1024, .f32⟩
  | .hbm, ⟨12, _⟩ => ⟨S1x8192x1024, .f32⟩
  | .hbm, ⟨13, _⟩ => ⟨S_, .f32⟩
  | .hbm, ⟨14, _⟩ => ⟨S1x8192x1024, .f32⟩
  | .hbm, ⟨15, _⟩ => ⟨S1x8192x1024, .f32⟩
  | .hbm, ⟨16, _⟩ => ⟨S_, .f32⟩
  | .hbm, ⟨17, _⟩ => ⟨S1x8192x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S1x8192x2048, .f32⟩
  | .hbm, ⟨22, _⟩ => ⟨S1x8192x2048, .f32⟩
  | .hbm, ⟨23, _⟩ => ⟨S_, .f32⟩
  | .hbm, ⟨24, _⟩ => ⟨S1x8192x2048, .f32⟩
  | .hbm, ⟨25, _⟩ => ⟨S1x8192x2048, .f32⟩
  | .hbm, ⟨26, _⟩ => ⟨S_, .f32⟩
  | .hbm, ⟨27, _⟩ => ⟨S1x8192x2048, .f32⟩
  | .hbm, ⟨28, _⟩ => ⟨S1x8192x2048, .f32⟩
  | .hbm, ⟨29, _⟩ => ⟨S1024x2048, .f32⟩
  | .hbm, ⟨30, _⟩ => ⟨S1x8192x2048, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S_, .f32⟩
  | .hbm, ⟨35, _⟩ => ⟨S1x8192x2048, .f32⟩
  | .hbm, ⟨36, _⟩ => ⟨S1x8192x2048, .f32⟩
  | .hbm, ⟨37, _⟩ => ⟨S_, .f32⟩
  | .hbm, ⟨38, _⟩ => ⟨S1x8192x2048, .f32⟩
  | .hbm, ⟨39, _⟩ => ⟨S1x8192x2048, .f32⟩
  | .hbm, ⟨40, _⟩ => ⟨S1024x2048, .f32⟩
  | .hbm, ⟨41, _⟩ => ⟨S1x8192x2048, .f32⟩
  | .hbm, ⟨42, _⟩ => ⟨S1x8192x2048, .f32⟩
  | .hbm, ⟨43, _⟩ => ⟨S1x8192x2048, .f32⟩
  | .hbm, ⟨44, _⟩ => ⟨S1x1x2048, .f32⟩
  | .hbm, ⟨45, _⟩ => ⟨S2048x2048, .f32⟩
  | .hbm, ⟨46, _⟩ => ⟨S1x8192x2048, .f32⟩
  | .hbm, ⟨47, _⟩ => ⟨S1x8192x2048, .f32⟩
  | .hbm, ⟨48, _⟩ => ⟨S1x8192x2048, .f32⟩
  | .hbm, ⟨49, _⟩ => ⟨S1x8192x2048, .f32⟩
  | .hbm, ⟨50, _⟩ => ⟨S1x8192x2048, .f32⟩
  | .hbm, ⟨51, _⟩ => ⟨S_, .f32⟩
  | .hbm, ⟨52, _⟩ => ⟨S1x8192, .f32⟩
  | .hbm, ⟨53, _⟩ => ⟨S1x8192x1, .f32⟩
  | .hbm, ⟨54, _⟩ => ⟨S_, .f32⟩
  | .hbm, ⟨55, _⟩ => ⟨S1x8192x1, .f32⟩
  | .hbm, ⟨56, _⟩ => ⟨S1x8192x1, .f32⟩
  | .hbm, ⟨57, _⟩ => ⟨S_, .f32⟩
  | .hbm, ⟨58, _⟩ => ⟨S1x8192x1, .f32⟩
  | .hbm, ⟨59, _⟩ => ⟨S1x8192x1, .f32⟩
  | .hbm, ⟨60, _⟩ => ⟨S1x8192x1, .f32⟩
  | .hbm, ⟨61, _⟩ => ⟨S1x8192x2048, .f32⟩
  | .hbm, ⟨62, _⟩ => ⟨S1x8192x2048, .f32⟩
  | .hbm, ⟨63, _⟩ => ⟨S1x1x2048, .f32⟩
  | .hbm, ⟨64, _⟩ => ⟨S1x8192x2048, .f32⟩
  | .hbm, ⟨65, _⟩ => ⟨S1x8192x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel4.lean ====
abbrev S32x8x1024 : Shape := ⟨3, ![32, 8, 1024]⟩
abbrev S32x8x2048 : Shape := ⟨3, ![32, 8, 2048]⟩
abbrev S32x2048 : Shape := ⟨2, ![32, 2048]⟩
abbrev S1x1024x2048 : Shape := ⟨3, ![1, 1024, 2048]⟩
abbrev S1x2048x2048 : Shape := ⟨3, ![1, 2048, 2048]⟩
abbrev S2048 : Shape := ⟨1, ![2048]⟩
abbrev S256x2048 : Shape := ⟨2, ![256, 2048]⟩
abbrev S256x1024 : Shape := ⟨2, ![256, 1024]⟩
abbrev S_ : Shape := ⟨0, ![]⟩
abbrev S256x4096 : Shape := ⟨2, ![256, 4096]⟩
abbrev S256x9216 : Shape := ⟨2, ![256, 9216]⟩
abbrev S1024x2048 : Shape := ⟨2, ![1024, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 31
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x8x2048, .f32⟩
  | .hbm, ⟨4, _⟩ => ⟨S32x8x2048, .f32⟩
  | .hbm, ⟨5, _⟩ => ⟨S32x8x2048, .f32⟩
  | .hbm, ⟨6, _⟩ => ⟨S32x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S256x2048, .f32⟩
  | .hbm, ⟨12, _⟩ => ⟨S256x2048, .f32⟩
  | .hbm, ⟨13, _⟩ => ⟨S256x1024, .f32⟩
  | .hbm, ⟨14, _⟩ => ⟨S_, .f32⟩
  | .hbm, ⟨15, _⟩ => ⟨S256x4096, .f32⟩
  | .hbm, ⟨16, _⟩ => ⟨S256x9216, .f32⟩
  | .hbm, ⟨17, _⟩ => ⟨S32x8x2048, .f32⟩
  | .hbm, ⟨18, _⟩ => ⟨S256x2048, .f32⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S2048x2048, .f32⟩
  | .hbm, ⟨24, _⟩ => ⟨S2048x2048, .bf16⟩
  | .hbm, ⟨25, _⟩ => ⟨S256x1024, .f32⟩
  | .hbm, ⟨26, _⟩ => ⟨S256x1024, .f32⟩
  | .hbm, ⟨27, _⟩ => ⟨S256x2048, .f32⟩
  | .hbm, ⟨28, _⟩ => ⟨S1x2048, .f32⟩
  | .hbm, ⟨29, _⟩ => ⟨S256x2048, .f32⟩
  | .hbm, ⟨30, _⟩ => ⟨S32x8x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1024x2048, .bf16⟩
  | .local _ .vmem, ⟨8, _⟩ => ⟨S1024x2048, .bf16⟩
  | .local _ .vmem, ⟨9, _⟩ => ⟨S2048x2048, .bf16⟩
  | .local _ .vmem, ⟨10, _⟩ => ⟨S1x2048, .f32⟩
  | .local _ .vmem, ⟨11, _⟩ => ⟨S256x2048, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference4Ideal.lean ====
abbrev S32x8x1024 : Shape := ⟨3, ![32, 8, 1024]⟩
abbrev S32x8x2048 : Shape := ⟨3, ![32, 8, 2048]⟩
abbrev S32x2048 : Shape := ⟨2, ![32, 2048]⟩
abbrev S1x1024x2048 : Shape := ⟨3, ![1, 1024, 2048]⟩
abbrev S1x2048x2048 : Shape := ⟨3, ![1, 2048, 2048]⟩
abbrev S2048 : Shape := ⟨1, ![2048]⟩
abbrev S_ : Shape := ⟨0, ![]⟩
abbrev S1024x2048 : Shape := ⟨2, ![1024, 2048]⟩
abbrev S32x1x2048 : Shape := ⟨3, ![32, 1, 2048]⟩
abbrev S2048x2048 : Shape := ⟨2, ![2048, 2048]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x8x2048, .f32⟩
  | .hbm, ⟨4, _⟩ => ⟨S32x8x2048, .f32⟩
  | .hbm, ⟨5, _⟩ => ⟨S32x8x2048, .f32⟩
  | .hbm, ⟨6, _⟩ => ⟨S32x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S2048, .f32⟩
  | .hbm, ⟨11, _⟩ => ⟨S32x8x1024, .f32⟩
  | .hbm, ⟨12, _⟩ => ⟨S32x8x1024, .f32⟩
  | .hbm, ⟨13, _⟩ => ⟨S_, .f32⟩
  | .hbm, ⟨14, _⟩ => ⟨S32x8x1024, .f32⟩
  | .hbm, ⟨15, _⟩ => ⟨S32x8x1024, .f32⟩
  | .hbm, ⟨16, _⟩ => ⟨S_, .f32⟩
  | .hbm, ⟨17, _⟩ => ⟨S32x8x1024, .f32⟩
  | .hbm, ⟨18, _⟩ => ⟨S32x8x1024, .f32⟩
  | .hbm, ⟨19, _⟩ => ⟨S32x8x1024, .f32⟩
  | .hbm, ⟨20, _⟩ => ⟨S32x8x1024, .f32⟩
  | .hbm, ⟨21, _⟩ => ⟨S32x8x2048, .f32⟩
  | .hbm, ⟨22, _⟩ => ⟨S32x8x2048, .f32⟩
  | .hbm, ⟨23, _⟩ => ⟨S_, .f32⟩
  | .hbm, ⟨24, _⟩ => ⟨S32x8x2048, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S1024x2048, .f32⟩
  | .hbm, ⟨30, _⟩ => ⟨S32x8x2048, .f32⟩
  | .hbm, ⟨31, _⟩ => ⟨S32x8x2048, .f32⟩
  | .hbm, ⟨32, _⟩ => ⟨S32x8x2048, .f32⟩
  | .hbm, ⟨33, _⟩ => ⟨S32x8x2048, .f32⟩
  | .hbm, ⟨34, _⟩ => ⟨S_, .f32⟩
  | .hbm, ⟨35, _⟩ => ⟨S32x8x2048, .f32⟩
  | .hbm, ⟨36, _⟩ => ⟨S32x8x2048, .f32⟩
  | .hbm, ⟨37, _⟩ => ⟨S_, .f32⟩
  | .hbm, ⟨38, _⟩ => ⟨S32x8x2048, .f32⟩
  | .hbm, ⟨39, _⟩ => ⟨S32x8x2048, .f32⟩
  | .hbm, ⟨40, _⟩ => ⟨S1024x2048, .f32⟩
  | .hbm, ⟨41, _⟩ => ⟨S32x8x2048, .f32⟩
  | .hbm, ⟨42, _⟩ => ⟨S32x8x2048, .f32⟩
  | .hbm, ⟨43, _⟩ => ⟨S32x8x2048, .f32⟩
  | .hbm, ⟨44, _⟩ => ⟨S32x1x2048, .f32⟩
  | .hbm, ⟨45, _⟩ => ⟨S2048x2048, .f32⟩
  | .hbm, ⟨46, _⟩ => ⟨S32x8x2048, .f32⟩
  | .hbm, ⟨47, _⟩ => ⟨S32x8x2048, .f32⟩
  | .hbm, ⟨48, _⟩ => ⟨S32x8x2048, .f32⟩
  | .hbm, ⟨49, _⟩ => ⟨S32x8x2048, .f32⟩
  | .hbm, ⟨50, _⟩ => ⟨S32x8x2048, .f32⟩
  | .hbm, ⟨51, _⟩ => ⟨S_, .f32⟩
  | .hbm, ⟨52, _⟩ => ⟨S32x8, .f32⟩
  | .hbm, ⟨53, _⟩ => ⟨S32x8x1, .f32⟩
  | .hbm, ⟨54, _⟩ => ⟨S_, .f32⟩
  | .hbm, ⟨55, _⟩ => ⟨S32x8x1, .f32⟩
  | .hbm, ⟨56, _⟩ => ⟨S32x8x1, .f32⟩
  | .hbm, ⟨57, _⟩ => ⟨S_, .f32⟩
  | .hbm, ⟨58, _⟩ => ⟨S32x8x1, .f32⟩
  | .hbm, ⟨59, _⟩ => ⟨S32x8x1, .f32⟩
  | .hbm, ⟨60, _⟩ => ⟨S32x8x1, .f32⟩
  | .hbm, ⟨61, _⟩ => ⟨S32x8x2048, .f32⟩
  | .hbm, ⟨62, _⟩ => ⟨S32x8x2048, .f32⟩
  | .hbm, ⟨63, _⟩ => ⟨S1x1x2048, .f32⟩
  | .hbm, ⟨64, _⟩ => ⟨S32x8x2048, .f32⟩
  | .hbm, ⟨65, _⟩ => ⟨S32x8x2048, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel5.lean ====
abbrev S1x8192x1024 : Shape := ⟨3, ![1, 8192, 1024]⟩
abbrev S1x8192x1536 : Shape := ⟨3, ![1, 8192, 1536]⟩
abbrev S8192 : Shape := ⟨1, ![8192]⟩
abbrev S32 : Shape := ⟨1, ![32]⟩
abbrev S_ : Shape := ⟨0, ![]⟩
abbrev S32x1 : Shape := ⟨2, ![32, 1]⟩
abbrev S1x8192 : Shape := ⟨2, ![1, 8192]⟩
abbrev S32x8192 : Shape := ⟨2, ![32, 8192]⟩
abbrev S8192x1024 : Shape := ⟨2, ![8192, 1024]⟩
abbrev S1024x8192 : Shape := ⟨2, ![1024, 8192]⟩
abbrev S8192x1536 : Shape := ⟨2, ![8192, 1536]⟩
abbrev S1536x8192 : Shape := ⟨2, ![1536, 8192]⟩
abbrev S128x8192 : Shape := ⟨2, ![128, 8192]⟩
abbrev S2688x8192 : Shape := ⟨2, ![2688, 8192]⟩
abbrev S512x8192 : Shape := ⟨2, ![512, 8192]⟩
abbrev S4x8192x128 : Shape := ⟨3, ![4, 8192, 128]⟩
abbrev S4x8192x64 : Shape := ⟨3, ![4, 8192, 64]⟩
abbrev S4x16x80x512 : Shape := ⟨4, ![4, 16, 80, 512]⟩
abbrev S4x64x64x128 : Shape := ⟨4, ![4, 64, 64, 128]⟩
abbrev S1024x512 : Shape := ⟨2, ![1024, 512]⟩
abbrev S512x512 : Shape := ⟨2, ![512, 512]⟩
abbrev S32x512 : Shape := ⟨2, ![32, 512]⟩
abbrev S4x512x128 : Shape := ⟨3, ![4, 512, 128]⟩
abbrev S4x512x64 : Shape := ⟨3, ![4, 512, 64]⟩
abbrev S4x1x80x512 : Shape := ⟨4, ![4, 1, 80, 512]⟩
abbrev S4x4x64x128 : Shape := ⟨4, ![4, 4, 64, 128]⟩
abbrev S256x512 : Shape := ⟨2, ![256, 512]⟩
abbrev S1x128 : Shape := ⟨2, ![1, 128]⟩
abbrev S512x1 : Shape := ⟨2, ![512, 1]⟩
abbrev S512x128 : Shape := ⟨2, ![512, 128]⟩
abbrev S16x512 : Shape := ⟨2, ![16, 512]⟩
abbrev S128x512 : Shape := ⟨2, ![128, 512]⟩
abbrev S1x512x128 : Shape := ⟨3, ![1, 512, 128]⟩
abbrev S512x64 : Shape := ⟨2, ![512, 64]⟩
abbrev S1x512x64 : Shape := ⟨3, ![1, 512, 64]⟩
abbrev S64x512 : Shape := ⟨2, ![64, 512]⟩
abbrev S80x512 : Shape := ⟨2, ![80, 512]⟩
abbrev S1x1x80x512 : Shape := ⟨4, ![1, 1, 80, 512]⟩
abbrev S64x128 : Shape := ⟨2, ![64, 128]⟩
abbrev S1x1x64x128 : Shape := ⟨4, ![1, 1, 64, 128]⟩
abbrev S2x4x64x8192 : Shape := ⟨4, ![2, 4, 64, 8192]⟩
abbrev S8192x2x4x64 : Shape := ⟨4, ![8192, 2, 4, 64]⟩
abbrev S1x1x8192x2x4x64 : Shape := ⟨6, ![1, 1, 8192, 2, 4, 64]⟩
abbrev S2x4x64x512 : Shape := ⟨4, ![2, 4, 64, 512]⟩
abbrev S512x2x4x64 : Shape := ⟨4, ![512, 2, 4, 64]⟩
abbrev S1x1x512x2x4x64 : Shape := ⟨6, ![1, 1, 512, 2, 4, 64]⟩

abbrev nBuf : Space → Nat
  | .hbm => 44
  | .vmem => 28
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1536, .f32⟩
  | .hbm, ⟨2, _⟩ => ⟨S8192, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32x1, .f32⟩
  | .hbm, ⟨12, _⟩ => ⟨S8192, .f32⟩
  | .hbm, ⟨13, _⟩ => ⟨S1x8192, .f32⟩
  | .hbm, ⟨14, _⟩ => ⟨S32x8192, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S32x8192, .f32⟩
  | .hbm, ⟨19, _⟩ => ⟨S8192x1024, .f32⟩
  | .hbm, ⟨20, _⟩ => ⟨S1024x8192, .f32⟩
  | .hbm, ⟨21, _⟩ => ⟨S8192x1536, .f32⟩
  | .hbm, ⟨22, _⟩ => ⟨S1536x8192, .f32⟩
  | .hbm, ⟨23, _⟩ => ⟨S_, .f32⟩
  | .hbm, ⟨24, _⟩ => ⟨S128x8192, .f32⟩
  | .hbm, ⟨25, _⟩ => ⟨S2688x8192, .f32⟩
  | .hbm, ⟨26, _⟩ => ⟨S1024x8192, .bf16⟩
  | .hbm, ⟨27, _⟩ => ⟨S512x8192, .f32⟩
  | .hbm, ⟨28, _⟩ => ⟨S512x8192, .f32⟩
  | .hbm, ⟨29, _⟩ => ⟨S512x8192, .f32⟩
  | .hbm, ⟨30, _⟩ => ⟨S4x8192x128, .bf16⟩
  | .hbm, ⟨31, _⟩ => ⟨S4x8192x64, .bf16⟩
  | .hbm, ⟨32, _⟩ => ⟨S4x16x80x512, .bf16⟩
  | .hbm, ⟨33, _⟩ => ⟨S4x64x64x128, .bf16⟩
  | .hbm, ⟨34, _⟩ => ⟨S2x4x64x8192, .f32⟩
  | .hbm, ⟨35, _⟩ => ⟨S8192x2x4x64, .f32⟩
  | .hbm, ⟨36, _⟩ => ⟨S1x1x8192x2x4x64, .f32⟩
  | .hbm, ⟨37, _⟩ => ⟨S2x4x64x8192, .f32⟩
  | .hbm, ⟨38, _⟩ => ⟨S8192x2x4x64, .f32⟩
  | .hbm, ⟨39, _⟩ => ⟨S1x1x8192x2x4x64, .f32⟩
  | .hbm, ⟨40, _⟩ => ⟨S512x512, .f32⟩
  | .hbm, ⟨41, _⟩ => ⟨S2x4x64x512, .f32⟩
  | .hbm, ⟨42, _⟩ => ⟨S512x2x4x64, .f32⟩
  | .hbm, ⟨43, _⟩ => ⟨S1x1x512x2x4x64, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S1024x512, .bf16⟩
  | .local _ .vmem, ⟨13, _⟩ => ⟨S1024x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S4x512x128, .bf16⟩
  | .local _ .vmem, ⟨21, _⟩ => ⟨S4x512x128, .bf16⟩
  | .local _ .vmem, ⟨22, _⟩ => ⟨S4x512x64, .bf16⟩
  | .local _ .vmem, ⟨23, _⟩ => ⟨S4x512x64, .bf16⟩
  | .local _ .vmem, ⟨24, _⟩ => ⟨S4x1x80x512, .bf16⟩
  | .local _ .vmem, ⟨25, _⟩ => ⟨S4x1x80x512, .bf16⟩
  | .local _ .vmem, ⟨26, _⟩ => ⟨S4x4x64x128, .bf16⟩
  | .local _ .vmem, ⟨27, _⟩ => ⟨S4x4x64x128, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev main_v21_4 : Ref sig .tc := ⟨.hbm, 30, rfl⟩
abbrev main_v21_5 : Ref sig .tc := ⟨.hbm, 31, rfl⟩
abbrev main_v21_6 : Ref sig .tc := ⟨.hbm, 32, rfl⟩
abbrev main_v21_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_2 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_3 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x80x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x64x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S1x8192x1024 : Shape := ⟨3, ![1, 8192, 1024]⟩
abbrev S1x8192x1536 : Shape := ⟨3, ![1, 8192, 1536]⟩
abbrev S8192 : Shape := ⟨1, ![8192]⟩
abbrev S1x8192x3x2x4x64 : Shape := ⟨6, ![1, 8192, 3, 2, 4, 64]⟩
abbrev S1x8192x3x1x4x64 : Shape := ⟨6, ![1, 8192, 3, 1, 4, 64]⟩
abbrev S1x8192x3x4x64 : Shape := ⟨5, ![1, 8192, 3, 4, 64]⟩
abbrev S1x8192x12x64 : Shape := ⟨4, ![1, 8192, 12, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S1x8192x12x32 : Shape := ⟨4, ![1, 8192, 12, 32]⟩
abbrev S1x8192x1x32 : Shape := ⟨4, ![1, 8192, 1, 32]⟩
abbrev S1x8192x1x2x4x64 : Shape := ⟨6, ![1, 8192, 1, 2, 4, 64]⟩
abbrev S1x8192x2x4x64 : Shape := ⟨5, ![1, 8192, 2, 4, 64]⟩
abbrev S1x1x8192x2x4x64 : Shape := ⟨6, ![1, 1, 8192, 2, 4, 64]⟩
abbrev S1x512x2x4x64 : Shape := ⟨5, ![1, 512, 2, 4, 64]⟩
abbrev S1x1x512x2x4x64 : Shape := ⟨6, ![1, 1, 512, 2, 4, 64]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1536, .f32⟩
  | .hbm, ⟨2, _⟩ => ⟨S8192, .i32⟩
  | .hbm, ⟨3, _⟩ => ⟨S1x8192x3x2x4x64, .f32⟩
  | .hbm, ⟨4, _⟩ => ⟨S1x8192x3x1x4x64, .f32⟩
  | .hbm, ⟨5, _⟩ => ⟨S1x8192x3x4x64, .f32⟩
  | .hbm, ⟨6, _⟩ => ⟨S1x8192x12x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x1x32, .f32⟩
  | .hbm, ⟨23, _⟩ => ⟨S8192x32, .f32⟩
  | .hbm, ⟨24, _⟩ => ⟨S8192x1x32, .f32⟩
  | .hbm, ⟨25, _⟩ => ⟨S1x8192x12x32, .f32⟩
  | .hbm, ⟨26, _⟩ => ⟨S1x8192x12x32, .f32⟩
  | .hbm, ⟨27, _⟩ => ⟨S1x8192x1x32, .f32⟩
  | .hbm, ⟨28, _⟩ => ⟨S1x8192x12x32, .f32⟩
  | .hbm, ⟨29, _⟩ => ⟨S1x8192x12x32, .f32⟩
  | .hbm, ⟨30, _⟩ => ⟨S1x8192x1x32, .f32⟩
  | .hbm, ⟨31, _⟩ => ⟨S1x8192x12x32, .f32⟩
  | .hbm, ⟨32, _⟩ => ⟨S1x8192x12x32, .f32⟩
  | .hbm, ⟨33, _⟩ => ⟨S1x8192x12x32, .f32⟩
  | .hbm, ⟨34, _⟩ => ⟨S1x8192x1x32, .f32⟩
  | .hbm, ⟨35, _⟩ => ⟨S1x8192x12x32, .f32⟩
  | .hbm, ⟨36, _⟩ => ⟨S1x8192x12x32, .f32⟩
  | .hbm, ⟨37, _⟩ => ⟨S1x8192x1x32, .f32⟩
  | .hbm, ⟨38, _⟩ => ⟨S1x8192x12x32, .f32⟩
  | .hbm, ⟨39, _⟩ => ⟨S1x8192x12x32, .f32⟩
  | .hbm, ⟨40, _⟩ => ⟨S1x8192x12x32, .f32⟩
  | .hbm, ⟨41, _⟩ => ⟨S1x8192x12x64, .f32⟩
  | .hbm, ⟨42, _⟩ => ⟨S1x8192x3x4x64, .f32⟩
  | .hbm, ⟨43, _⟩ => ⟨S1x8192x3x1x4x64, .f32⟩
  | .hbm, ⟨44, _⟩ => ⟨S1x8192x3x4x64, .f32⟩
  | .hbm, ⟨45, _⟩ => ⟨S1x8192x3x1x4x64, .f32⟩
  | .hbm, ⟨46, _⟩ => ⟨S1x8192x3x1x4x64, .f32⟩
  | .hbm, ⟨47, _⟩ => ⟨S1x8192x3x2x4x64, .f32⟩
  | .hbm, ⟨48, _⟩ => ⟨S1x8192x1x2x4x64, .f32⟩
  | .hbm, ⟨49, _⟩ => ⟨S1x8192x2x4x64, .f32⟩
  | .hbm, ⟨50, _⟩ => ⟨S1x8192x1x2x4x64, .f32⟩
  | .hbm, ⟨51, _⟩ => ⟨S1x8192x2x4x64, .f32⟩
  | .hbm, ⟨52, _⟩ => ⟨S1x8192x1x2x4x64, .f32⟩
  | .hbm, ⟨53, _⟩ => ⟨S1x8192x2x4x64, .f32⟩
  | .hbm, ⟨54, _⟩ => ⟨S1x1x8192x2x4x64, .f32⟩
  | .hbm, ⟨55, _⟩ => ⟨S1x1x8192x2x4x64, .f32⟩
  | .hbm, ⟨56, _⟩ => ⟨S1x512x2x4x64, .f32⟩
  | .hbm, ⟨57, _⟩ => ⟨S1x1x512x2x4x64, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩

abbrev nD : Nat := 1
abbrev τ : Topo := Topo.v7x

variable {F : FTy → Type} [FloatOps F]
-- ==== Kernel6.lean ====
abbrev S32x8x1024 : Shape := ⟨3, ![32, 8, 1024]⟩
abbrev S32x8x1536 : Shape := ⟨3, ![32, 8, 1536]⟩
abbrev S1x32x512x2x4x64 : Shape := ⟨6, ![1, 32, 512, 2, 4, 64]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S256x1024 : Shape := ⟨2, ![256, 1024]⟩
abbrev S1024x256 : Shape := ⟨2, ![1024, 256]⟩
abbrev S256x1536 : Shape := ⟨2, ![256, 1536]⟩
abbrev S1536x256 : Shape := ⟨2, ![1536, 256]⟩
abbrev S128x256 : Shape := ⟨2, ![128, 256]⟩
abbrev S2688x256 : Shape := ⟨2, ![2688, 256]⟩
abbrev S512x256 : Shape := ⟨2, ![512, 256]⟩
abbrev S256x256 : Shape := ⟨2, ![256, 256]⟩
abbrev S32x512x2x4x64 : Shape := ⟨5, ![32, 512, 2, 4, 64]⟩
abbrev S32x2x4x64x512 : Shape := ⟨5, ![32, 2, 4, 64, 512]⟩
abbrev S32x512x512 : Shape := ⟨3, ![32, 512, 512]⟩
abbrev S512x32x8 : Shape := ⟨3, ![512, 32, 8]⟩
abbrev S32x512x8 : Shape := ⟨3, ![32, 512, 8]⟩
abbrev S32x512x520 : Shape := ⟨3, ![32, 512, 520]⟩
abbrev S32x2x4x64x8 : Shape := ⟨5, ![32, 2, 4, 64, 8]⟩
abbrev S32x8x2x4x64 : Shape := ⟨5, ![32, 8, 2, 4, 64]⟩
abbrev S1x32x8x2x4x64 : Shape := ⟨6, ![1, 32, 8, 2, 4, 64]⟩

abbrev nBuf : Space → Nat
  | .hbm => 57
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S32x8x1536, .f32⟩
  | .hbm, ⟨2, _⟩ => ⟨S1x32x512x2x4x64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S32x8, .i32⟩
  | .hbm, ⟨9, _⟩ => ⟨S256, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S256x1024, .f32⟩
  | .hbm, ⟨27, _⟩ => ⟨S1024x256, .f32⟩
  | .hbm, ⟨28, _⟩ => ⟨S256x1536, .f32⟩
  | .hbm, ⟨29, _⟩ => ⟨S1536x256, .f32⟩
  | .hbm, ⟨30, _⟩ => ⟨S_, .f32⟩
  | .hbm, ⟨31, _⟩ => ⟨S128x256, .f32⟩
  | .hbm, ⟨32, _⟩ => ⟨S2688x256, .f32⟩
  | .hbm, ⟨33, _⟩ => ⟨S1024x256, .bf16⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S32x512x2x4x64, .f32⟩
  | .hbm, ⟨38, _⟩ => ⟨S32x2x4x64x512, .f32⟩
  | .hbm, ⟨39, _⟩ => ⟨S32x512x512, .f32⟩
  | .hbm, ⟨40, _⟩ => ⟨S512x32x8, .f32⟩
  | .hbm, ⟨41, _⟩ => ⟨S32x512x8, .f32⟩
  | .hbm, ⟨42, _⟩ => ⟨S32x512x520, .f32⟩
  | .hbm, ⟨43, _⟩ => ⟨S32x512x512, .f32⟩
  | .hbm, ⟨44, _⟩ => ⟨S512x32x8, .f32⟩
  | .hbm, ⟨45, _⟩ => ⟨S32x512x8, .f32⟩
  | .hbm, ⟨46, _⟩ => ⟨S32x2x4x64x8, .f32⟩
  | .hbm, ⟨47, _⟩ => ⟨S32x8x2x4x64, .f32⟩
  | .hbm, ⟨48, _⟩ => ⟨S1x32x8x2x4x64, .f32⟩
  | .hbm, ⟨49, _⟩ => ⟨S512x32x8, .f32⟩
  | .hbm, ⟨50, _⟩ => ⟨S32x512x8, .f32⟩
  | .hbm, ⟨51, _⟩ => ⟨S32x2x4x64x8, .f32⟩
  | .hbm, ⟨52, _⟩ => ⟨S32x8x2x4x64, .f32⟩
  | .hbm, ⟨53, _⟩ => ⟨S1x32x8x2x4x64, .f32⟩
  | .hbm, ⟨54, _⟩ => ⟨S32x2x4x64x512, .f32⟩
  | .hbm, ⟨55, _⟩ => ⟨S32x512x2x4x64, .f32⟩
  | .hbm, ⟨56, _⟩ => ⟨S1x32x512x2x4x64, .f32⟩
  | .local _ .vmem, ⟨0, _⟩ => ⟨S1024x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S32x256, .f32⟩
  | .local _ .vmem, ⟨6, _⟩ => ⟨S1024x256, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_2 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_3 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference6Ideal.lean ====
abbrev S32x8x1024 : Shape := ⟨3, ![32, 8, 1024]⟩
abbrev S32x8x1536 : Shape := ⟨3, ![32, 8, 1536]⟩
abbrev S1x32x512x2x4x64 : Shape := ⟨6, ![1, 32, 512, 2, 4, 64]⟩
abbrev S8 : Shape := ⟨1, ![8]⟩
abbrev S_ : Shape := ⟨0, ![]⟩
abbrev S32x8x3x2x4x64 : Shape := ⟨6, ![32, 8, 3, 2, 4, 64]⟩
abbrev S32x8x3x1x4x64 : Shape := ⟨6, ![32, 8, 3, 1, 4, 64]⟩
abbrev S32x8x3x4x64 : Shape := ⟨5, ![32, 8, 3, 4, 64]⟩
abbrev S32x8x12x64 : Shape := ⟨4, ![32, 8, 12, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S32x8x12x32 : Shape := ⟨4, ![32, 8, 12, 32]⟩
abbrev S1x8x1x32 : Shape := ⟨4, ![1, 8, 1, 32]⟩
abbrev S32x8x1x2x4x64 : Shape := ⟨6, ![32, 8, 1, 2, 4, 64]⟩
abbrev S32x8x2x4x64 : Shape := ⟨5, ![32, 8, 2, 4, 64]⟩
abbrev S1x32x8x2x4x64 : Shape := ⟨6, ![1, 32, 8, 2, 4, 64]⟩
abbrev S32x512x2x4x64 : Shape := ⟨5, ![32, 512, 2, 4, 64]⟩
abbrev S32x520x2x4x64 : Shape := ⟨5, ![32, 520, 2, 4, 64]⟩

abbrev nBuf : Space → Nat
  | .hbm => 64
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1536, .f32⟩
  | .hbm, ⟨2, _⟩ => ⟨S1x32x512x2x4x64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32x8x3x2x4x64, .f32⟩
  | .hbm, ⟨8, _⟩ => ⟨S32x8x3x1x4x64, .f32⟩
  | .hbm, ⟨9, _⟩ => ⟨S32x8x3x4x64, .f32⟩
  | .hbm, ⟨10, _⟩ => ⟨S32x8x12x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8, .f32⟩
  | .hbm, ⟨20, _⟩ => ⟨S8x1, .f32⟩
  | .hbm, ⟨21, _⟩ => ⟨S1x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S8x1x32, .f32⟩
  | .hbm, ⟨27, _⟩ => ⟨S8x32, .f32⟩
  | .hbm, ⟨28, _⟩ => ⟨S8x1x32, .f32⟩
  | .hbm, ⟨29, _⟩ => ⟨S32x8x12x32, .f32⟩
  | .hbm, ⟨30, _⟩ => ⟨S32x8x12x32, .f32⟩
  | .hbm, ⟨31, _⟩ => ⟨S1x8x1x32, .f32⟩
  | .hbm, ⟨32, _⟩ => ⟨S32x8x12x32, .f32⟩
  | .hbm, ⟨33, _⟩ => ⟨S32x8x12x32, .f32⟩
  | .hbm, ⟨34, _⟩ => ⟨S1x8x1x32, .f32⟩
  | .hbm, ⟨35, _⟩ => ⟨S32x8x12x32, .f32⟩
  | .hbm, ⟨36, _⟩ => ⟨S32x8x12x32, .f32⟩
  | .hbm, ⟨37, _⟩ => ⟨S32x8x12x32, .f32⟩
  | .hbm, ⟨38, _⟩ => ⟨S1x8x1x32, .f32⟩
  | .hbm, ⟨39, _⟩ => ⟨S32x8x12x32, .f32⟩
  | .hbm, ⟨40, _⟩ => ⟨S32x8x12x32, .f32⟩
  | .hbm, ⟨41, _⟩ => ⟨S1x8x1x32, .f32⟩
  | .hbm, ⟨42, _⟩ => ⟨S32x8x12x32, .f32⟩
  | .hbm, ⟨43, _⟩ => ⟨S32x8x12x32, .f32⟩
  | .hbm, ⟨44, _⟩ => ⟨S32x8x12x32, .f32⟩
  | .hbm, ⟨45, _⟩ => ⟨S32x8x12x64, .f32⟩
  | .hbm, ⟨46, _⟩ => ⟨S32x8x3x4x64, .f32⟩
  | .hbm, ⟨47, _⟩ => ⟨S32x8x3x1x4x64, .f32⟩
  | .hbm, ⟨48, _⟩ => ⟨S32x8x3x4x64, .f32⟩
  | .hbm, ⟨49, _⟩ => ⟨S32x8x3x1x4x64, .f32⟩
  | .hbm, ⟨50, _⟩ => ⟨S32x8x3x1x4x64, .f32⟩
  | .hbm, ⟨51, _⟩ => ⟨S32x8x3x2x4x64, .f32⟩
  | .hbm, ⟨52, _⟩ => ⟨S32x8x1x2x4x64, .f32⟩
  | .hbm, ⟨53, _⟩ => ⟨S32x8x2x4x64, .f32⟩
  | .hbm, ⟨54, _⟩ => ⟨S32x8x1x2x4x64, .f32⟩
  | .hbm, ⟨55, _⟩ => ⟨S32x8x2x4x64, .f32⟩
  | .hbm, ⟨56, _⟩ => ⟨S32x8x1x2x4x64, .f32⟩
  | .hbm, ⟨57, _⟩ => ⟨S32x8x2x4x64, .f32⟩
  | .hbm, ⟨58, _⟩ => ⟨S1x32x8x2x4x64, .f32⟩
  | .hbm, ⟨59, _⟩ => ⟨S1x32x8x2x4x64, .f32⟩
  | .hbm, ⟨60, _⟩ => ⟨S32x512x2x4x64, .f32⟩
  | .hbm, ⟨61, _⟩ => ⟨S32x520x2x4x64, .f32⟩
  | .hbm, ⟨62, _⟩ => ⟨S32x512x2x4x64, .f32⟩
  | .hbm, ⟨63, _⟩ => ⟨S1x32x512x2x4x64, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]
-- ==== Kernel7.lean ====
abbrev S32x8x512 : Shape := ⟨3, ![32, 8, 512]⟩
abbrev S32x8x1024 : Shape := ⟨3, ![32, 8, 1024]⟩
abbrev S32x8x16 : Shape := ⟨3, ![32, 8, 16]⟩
abbrev S1x16x512 : Shape := ⟨3, ![1, 16, 512]⟩
abbrev S1x512 : Shape := ⟨2, ![1, 512]⟩
abbrev S1x256 : Shape := ⟨2, ![1, 256]⟩
abbrev S1x32x4x128x256 : Shape := ⟨5, ![1, 32, 4, 128, 256]⟩
abbrev S_ : Shape := ⟨0, ![]⟩
abbrev S128x512 : Shape := ⟨2, ![128, 512]⟩
abbrev S16x512 : Shape := ⟨2, ![16, 512]⟩
abbrev S1 : Shape := ⟨1, ![1]⟩
abbrev S256x512 : Shape := ⟨2, ![256, 512]⟩
abbrev S256x1024 : Shape := ⟨2, ![256, 1024]⟩
abbrev S256x16 : Shape := ⟨2, ![256, 16]⟩
abbrev S256x5120 : Shape := ⟨2, ![256, 5120]⟩
abbrev S256x1008 : Shape := ⟨2, ![256, 1008]⟩
abbrev S256x9216 : Shape := ⟨2, ![256, 9216]⟩
abbrev S512 : Shape := ⟨1, ![512]⟩
abbrev S256 : Shape := ⟨1, ![256]⟩
abbrev S32x4x128x256 : Shape := ⟨4, ![32, 4, 128, 256]⟩
abbrev S8x512 : Shape := ⟨2, ![8, 512]⟩
abbrev S8x1024 : Shape := ⟨2, ![8, 1024]⟩
abbrev S8x128 : Shape := ⟨2, ![8, 128]⟩
abbrev S1x4x128x256 : Shape := ⟨4, ![1, 4, 128, 256]⟩
abbrev S4x128x256 : Shape := ⟨3, ![4, 128, 256]⟩
abbrev S8x1 : Shape := ⟨2, ![8, 1]⟩
abbrev S8x256 : Shape := ⟨2, ![8, 256]⟩
abbrev S1x128x256 : Shape := ⟨3, ![1, 128, 256]⟩
abbrev S128x256 : Shape := ⟨2, ![128, 256]⟩
abbrev S1x128 : Shape := ⟨2, ![1, 128]⟩
abbrev S120x256 : Shape := ⟨2, ![120, 256]⟩
abbrev S8 : Shape := ⟨1, ![8]⟩
abbrev S120x128 : Shape := ⟨2, ![120, 128]⟩
abbrev S128x128 : Shape := ⟨2, ![128, 128]⟩
abbrev S128 : Shape := ⟨1, ![128]⟩
abbrev S128x1 : Shape := ⟨2, ![128, 1]⟩

abbrev nBuf : Space → Nat
  | .hbm => 34
  | .vmem => 20
  | .smem => 0
  | _ => 0

abbrev bufTy : (tb : Table) → Fin (tcTables nBuf tb) → BufTy
  | .hbm, ⟨0, _⟩ => ⟨S32x8x512, .f32⟩
  | .hbm, ⟨1, _⟩ => ⟨S32x8x512, .f32⟩
  | .hbm, ⟨2, _⟩ => ⟨S32x8x1024, .f32⟩
  | .hbm, ⟨3, _⟩ => ⟨S32x8x16, .f32⟩
  | .hbm, ⟨4, _⟩ => ⟨S32x8x1024, .f32⟩
  | .hbm, ⟨5, _⟩ => ⟨S1x16x512, .f32⟩
  | .hbm, ⟨6, _⟩ => ⟨S1x512, .f32⟩
  | .hbm, ⟨7, _⟩ => ⟨S1x256, .f32⟩
  | .hbm, ⟨8, _⟩ => ⟨S1x32x4x128x256, .f32⟩
  | .hbm, ⟨9, _⟩ => ⟨S_, .f32⟩
  | .hbm, ⟨10, _⟩ => ⟨S128x512, .f32⟩
  | .hbm, ⟨11, _⟩ => ⟨S16x512, .f32⟩
  | .hbm, ⟨12, _⟩ => ⟨S_, .i32⟩
  | .hbm, ⟨13, _⟩ => ⟨S1, .i32⟩
  | .hbm, ⟨14, _⟩ => ⟨S128x512, .f32⟩
  | .hbm, ⟨15, _⟩ => ⟨S256x512, .f32⟩
  | .hbm, ⟨16, _⟩ => ⟨S256x512, .f32⟩
  | .hbm, ⟨17, _⟩ => ⟨S256x1024, .f32⟩
  | .hbm, ⟨18, _⟩ => ⟨S256x16, .f32⟩
  | .hbm, ⟨19, _⟩ => ⟨S256x1024, .f32⟩
  | .hbm, ⟨20, _⟩ => ⟨S_, .f32⟩
  | .hbm, ⟨21, _⟩ => ⟨S256x5120, .f32⟩
  | .hbm, ⟨22, _⟩ => ⟨S_, .f32⟩
  | .hbm, ⟨23, _⟩ => ⟨S256x1008, .f32⟩
  | .hbm, ⟨24, _⟩ => ⟨S256x9216, .f32⟩
  | .hbm, ⟨25, _⟩ => ⟨S512, .f32⟩
  | .hbm, ⟨26, _⟩ => ⟨S256, .f32⟩
  | .hbm, ⟨27, _⟩ => ⟨S32x4x128x256, .f32⟩
  | .hbm, ⟨28, _⟩ => ⟨S1x512, .f32⟩
  | .hbm, ⟨29, _⟩ => ⟨S1x256, .f32⟩
  | .hbm, ⟨30, _⟩ => ⟨S256x1024, .f32⟩
  | .hbm, ⟨31, _⟩ => ⟨S32x4x128x256, .f32⟩
  | .hbm, ⟨32, _⟩ => ⟨S32x8x1024, .f32⟩
  | .hbm, ⟨33, _⟩ => ⟨S1x32x4x128x256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x128, .f32⟩
  | .local _ .vmem, ⟨7, _⟩ => ⟨S8x128, .f32⟩
  | .local _ .vmem, ⟨8, _⟩ => ⟨S8x1024, .f32⟩
  | .local _ .vmem, ⟨9, _⟩ => ⟨S8x1024, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S8x1024, .f32⟩
  | .local _ .vmem, ⟨16, _⟩ => ⟨S8x1024, .f32⟩
  | .local _ .vmem, ⟨17, _⟩ => ⟨S1x4x128x256, .f32⟩
  | .local _ .vmem, ⟨18, _⟩ => ⟨S1x4x128x256, .f32⟩
  | .local _ .vmem, ⟨19, _⟩ => ⟨S4x128x256, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_251 : BitVec 32 := 0#32
  let v1069 : BitVec 1 := Scalar.cmpi .eq arg1 c0_i32_251
  let v1070 : BitVec 32 := Scalar.extui v1069
  let c0_i32_252 : BitVec 32 := 0#32
  let v1071 : BitVec 1 := Scalar.cmpi .ne v1070 c0_i32_252
  v1071

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c15_i32 : BitVec 32 := 15#32
  let c0_i32 : BitVec 32 := 0#32
  ![v1.toNat, c15_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c64_i32 : BitVec 32 := 64#32
  let c0_i32 : BitVec 32 := 0#32
  ![v1.toNat, c64_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S32x8x512 : Shape := ⟨3, ![32, 8, 512]⟩
abbrev S32x8x1024 : Shape := ⟨3, ![32, 8, 1024]⟩
abbrev S32x8x16 : Shape := ⟨3, ![32, 8, 16]⟩
abbrev S1x16x512 : Shape := ⟨3, ![1, 16, 512]⟩
abbrev S1x512 : Shape := ⟨2, ![1, 512]⟩
abbrev S1x256 : Shape := ⟨2, ![1, 256]⟩
abbrev S1x32x4x128x256 : Shape := ⟨5, ![1, 32, 4, 128, 256]⟩
abbrev S32x8x4x128 : Shape := ⟨4, ![32, 8, 4, 128]⟩
abbrev S_ : Shape := ⟨0, ![]⟩
abbrev S32x8x4x256 : Shape := ⟨4, ![32, 8, 4, 256]⟩
abbrev S16x512 : Shape := ⟨2, ![16, 512]⟩
abbrev S512 : Shape := ⟨1, ![512]⟩
abbrev S1x1x512 : Shape := ⟨3, ![1, 1, 512]⟩
abbrev S32x4x128x256 : Shape := ⟨4, ![32, 4, 128, 256]⟩
abbrev S8x8 : Shape := ⟨2, ![8, 8]⟩
abbrev S1x8x8x1x1 : Shape := ⟨5, ![1, 8, 8, 1, 1]⟩
abbrev S32x1x8x4x128 : Shape := ⟨5, ![32, 1, 8, 4, 128]⟩
abbrev S1x32x8x4x128 : Shape := ⟨5, ![1, 32, 8, 4, 128]⟩
abbrev S32x1x8x4x256 : Shape := ⟨5, ![32, 1, 8, 4, 256]⟩
abbrev S1x32x8x4x256 : Shape := ⟨5, ![1, 32, 8, 4, 256]⟩
abbrev S32x4x256x8 : Shape := ⟨4, ![32, 4, 256, 8]⟩
abbrev S32x8x1x4x128 : Shape := ⟨5, ![32, 8, 1, 4, 128]⟩
abbrev S32x8x8x4x128 : Shape := ⟨5, ![32, 8, 8, 4, 128]⟩
abbrev S32x8x8x4 : Shape := ⟨4, ![32, 8, 8, 4]⟩
abbrev S32x4x8x8 : Shape := ⟨4, ![32, 4, 8, 8]⟩
abbrev S32x1x4x128 : Shape := ⟨4, ![32, 1, 4, 128]⟩
abbrev S32x4x128 : Shape := ⟨3, ![32, 4, 128]⟩
abbrev S32x4x128x1 : Shape := ⟨4, ![32, 4, 128, 1]⟩
abbrev S256 : Shape := ⟨1, ![256]⟩
abbrev S32x8x4 : Shape := ⟨3, ![32, 8, 4]⟩
abbrev S32x8x4x1 : Shape := ⟨4, ![32, 8, 4, 1]⟩
abbrev S1x1x1x256 : Shape := ⟨4, ![1, 1, 1, 256]⟩

abbrev nBuf : Space → Nat
  | .hbm => 193
  | .vmem => 0
  | .smem => 0
  | _ => 0

abbrev hbmTy0_0 (i : Nat) : BufTy := match i % 128 with
  | 0 => ⟨S32x8x512, .f32⟩
  | 1 => ⟨S32x8x512, .f32⟩
  | 2 => ⟨S32x8x1024, .f32⟩
  | 3 => ⟨S32x8x16, .f32⟩
  | 4 => ⟨S32x8x1024, .f32⟩
  | 5 => ⟨S1x16x512, .f32⟩
  | 6 => ⟨S1x512, .f32⟩
  | 7 => ⟨S1x256, .f32⟩
  | 8 => ⟨S1x32x4x128x256, .f32⟩
  | 9 => ⟨S32x8x4x128, .f32⟩
  | 10 => ⟨S_, .f32⟩
  | 11 => ⟨S32x8x4x128, .f32⟩
  | 12 => ⟨S32x8x4x128, .f32⟩
  | 13 => ⟨S32x8x4x128, .f32⟩
  | 14 => ⟨S32x8x4x256, .f32⟩
  | 15 => ⟨S16x512, .f32⟩
  | 16 => ⟨S32x8x512, .f32⟩
  | 17 => ⟨S512, .f32⟩
  | 18 => ⟨S1x1x512, .f32⟩
  | 19 => ⟨S32x8x512, .f32⟩
  | 20 => ⟨S32x8x512, .f32⟩
  | 21 => ⟨S32x8x512, .f32⟩
  | 22 => ⟨S_, .f32⟩
  | 23 => ⟨S32x8x512, .f32⟩
  | 24 => ⟨S32x8x512, .f32⟩
  | 25 => ⟨S32x8x512, .f32⟩
  | 26 => ⟨S32x8x512, .f32⟩
  | 27 => ⟨S32x8x512, .i1⟩
  | 28 => ⟨S32x8x512, .f32⟩
  | 29 => ⟨S32x8x512, .f32⟩
  | 30 => ⟨S32x8x512, .f32⟩
  | 31 => ⟨S32x8x512, .f32⟩
  | 32 => ⟨S32x8x512, .f32⟩
  | 33 => ⟨S32x8x512, .f32⟩
  | 34 => ⟨S32x8x512, .f32⟩
  | 35 => ⟨S32x8x512, .f32⟩
  | 36 => ⟨S32x8x512, .f32⟩
  | 37 => ⟨S_, .f32⟩
  | 38 => ⟨S32x8x512, .f32⟩
  | 39 => ⟨S32x8x512, .f32⟩
  | 40 => ⟨S32x8x4x128, .f32⟩
  | 41 => ⟨S32x4x128x256, .f32⟩
  | 42 => ⟨S_, .i1⟩
  | 43 => ⟨S8x8, .i1⟩
  | 44 => ⟨S8x8, .i32⟩
  | 45 => ⟨S_, .i32⟩
  | 46 => ⟨S8x8, .i32⟩
  | 47 => ⟨S8x8, .i32⟩
  | 48 => ⟨S8x8, .i32⟩
  | 49 => ⟨S8x8, .i1⟩
  | 50 => ⟨S_, .i1⟩
  | 51 => ⟨S8x8, .i1⟩
  | 52 => ⟨S8x8, .i1⟩
  | 53 => ⟨S1x8x8x1x1, .i1⟩
  | 54 => ⟨S_, .i32⟩
  | 55 => ⟨S_, .f32⟩
  | 56 => ⟨S32x8x4x128, .f32⟩
  | 57 => ⟨S32x1x8x4x128, .f32⟩
  | 58 => ⟨S1x32x8x4x128, .f32⟩
  | 59 => ⟨S_, .i32⟩
  | 60 => ⟨S_, .f32⟩
  | 61 => ⟨S32x8x4x128, .f32⟩
  | 62 => ⟨S32x1x8x4x128, .f32⟩
  | 63 => ⟨S1x32x8x4x128, .f32⟩
  | 64 => ⟨S_, .i32⟩
  | 65 => ⟨S_, .f32⟩
  | 66 => ⟨S32x8x4x256, .f32⟩
  | 67 => ⟨S32x1x8x4x256, .f32⟩
  | 68 => ⟨S1x32x8x4x256, .f32⟩
  | 69 => ⟨S_, .i32⟩
  | 70 => ⟨S_, .f32⟩
  | 71 => ⟨S32x8x4x128, .f32⟩
  | 72 => ⟨S32x1x8x4x128, .f32⟩
  | 73 => ⟨S1x32x8x4x128, .f32⟩
  | 74 => ⟨S_, .f32⟩
  | 75 => ⟨S1x32x8x4x256, .f32⟩
  | 76 => ⟨S_, .i32⟩
  | 77 => ⟨S1x32x8x4x128, .f32⟩
  | 78 => ⟨S1x32x8x4x128, .f32⟩
  | 79 => ⟨S1x32x8x4x256, .f32⟩
  | 80 => ⟨S1x32x8x4x128, .f32⟩
  | 81 => ⟨S1x8x8x1x1, .i1⟩
  | 82 => ⟨S_, .i32⟩
  | 83 => ⟨S32x4x128x256, .f32⟩
  | 84 => ⟨S1x32x8x4x256, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x32x8x4x128, .f32⟩
  | 92 => ⟨S32x8x4x128, .f32⟩
  | 93 => ⟨S_, .i32⟩
  | 94 => ⟨S_, .i32⟩
  | 95 => ⟨S_, .i32⟩
  | 96 => ⟨S_, .i32⟩
  | 97 => ⟨S1x32x8x4x128, .f32⟩
  | 98 => ⟨S32x8x4x128, .f32⟩
  | 99 => ⟨S_, .i32⟩
  | 100 => ⟨S_, .i32⟩
  | 101 => ⟨S_, .i32⟩
  | 102 => ⟨S_, .i32⟩
  | 103 => ⟨S1x32x8x4x256, .f32⟩
  | 104 => ⟨S32x8x4x256, .f32⟩
  | 105 => ⟨S_, .i32⟩
  | 106 => ⟨S_, .i32⟩
  | 107 => ⟨S_, .i32⟩
  | 108 => ⟨S_, .i32⟩
  | 109 => ⟨S1x32x8x4x128, .f32⟩
  | 110 => ⟨S32x8x4x128, .f32⟩
  | 111 => ⟨S_, .f32⟩
  | 112 => ⟨S_, .f32⟩
  | 113 => ⟨S32x8x4x128, .f32⟩
  | 114 => ⟨S32x8x4x128, .f32⟩
  | 115 => ⟨S32x8x4x128, .f32⟩
  | 116 => ⟨S32x4x256x8, .f32⟩
  | 117 => ⟨S32x8x4x256, .f32⟩
  | 118 => ⟨S32x8x1x4x128, .f32⟩
  | 119 => ⟨S32x1x8x4x128, .f32⟩
  | 120 => ⟨S32x8x8x4x128, .f32⟩
  | 121 => ⟨S32x8x8x4x128, .f32⟩
  | 122 => ⟨S32x8x8x4x128, .f32⟩
  | 123 => ⟨S_, .f32⟩
  | 124 => ⟨S_, .f32⟩
  | 125 => ⟨S32x8x8x4x128, .i1⟩
  | 126 => ⟨S32x8x8x4x128, .f32⟩
  | 127 => ⟨S32x8x8x4x128, .f32⟩
  | _ => ⟨S32x8x512, .f32⟩

abbrev hbmTy0_1 (i : Nat) : BufTy := match i % 128 with
  | 0 => ⟨S32x8x8x4x128, .f32⟩
  | 1 => ⟨S32x8x1x4x128, .f32⟩
  | 2 => ⟨S32x1x8x4x128, .f32⟩
  | 3 => ⟨S32x8x8x4x128, .f32⟩
  | 4 => ⟨S32x8x8x4x128, .f32⟩
  | 5 => ⟨S32x8x8x4x128, .f32⟩
  | 6 => ⟨S32x8x8x4x128, .f32⟩
  | 7 => ⟨S_, .f32⟩
  | 8 => ⟨S32x8x8x4, .f32⟩
  | 9 => ⟨S32x4x8x8, .f32⟩
  | 10 => ⟨S32x4x256x8, .f32⟩
  | 11 => ⟨S32x8x4x256, .f32⟩
  | 12 => ⟨S32x1x4x128, .f32⟩
  | 13 => ⟨S32x4x128, .f32⟩
  | 14 => ⟨S32x4x128, .f32⟩
  | 15 => ⟨S32x4x128x1, .f32⟩
  | 16 => ⟨S32x4x128x256, .f32⟩
  | 17 => ⟨S32x4x128x256, .f32⟩
  | 18 => ⟨S32x1x4x128, .f32⟩
  | 19 => ⟨S32x8x4x128, .f32⟩
  | 20 => ⟨S32x8x4x128, .f32⟩
  | 21 => ⟨S32x8x4x128, .f32⟩
  | 22 => ⟨S32x8x4x128, .f32⟩
  | 23 => ⟨S32x4x128x256, .f32⟩
  | 24 => ⟨S32x4x128x256, .f32⟩
  | 25 => ⟨S32x8x4x256, .f32⟩
  | 26 => ⟨S1x32x8x4x256, .f32⟩
  | 27 => ⟨S_, .i32⟩
  | 28 => ⟨S_, .i32⟩
  | 29 => ⟨S_, .i32⟩
  | 30 => ⟨S_, .i32⟩
  | 31 => ⟨S1x32x8x4x256, .f32⟩
  | 32 => ⟨S_, .i32⟩
  | 33 => ⟨S_, .i32⟩
  | 34 => ⟨S32x1x8x4x256, .f32⟩
  | 35 => ⟨S32x8x4x256, .f32⟩
  | 36 => ⟨S256, .f32⟩
  | 37 => ⟨S32x8x4x256, .f32⟩
  | 38 => ⟨S_, .f32⟩
  | 39 => ⟨S32x8x4, .f32⟩
  | 40 => ⟨S32x8x4x1, .f32⟩
  | 41 => ⟨S_, .f32⟩
  | 42 => ⟨S32x8x4x1, .f32⟩
  | 43 => ⟨S32x8x4x1, .f32⟩
  | 44 => ⟨S_, .f32⟩
  | 45 => ⟨S32x8x4x1, .f32⟩
  | 46 => ⟨S32x8x4x1, .f32⟩
  | 47 => ⟨S32x8x4x1, .f32⟩
  | 48 => ⟨S32x8x4x256, .f32⟩
  | 49 => ⟨S32x8x4x256, .f32⟩
  | 50 => ⟨S1x1x1x256, .f32⟩
  | 51 => ⟨S32x8x4x256, .f32⟩
  | 52 => ⟨S32x8x4x256, .f32⟩
  | 53 => ⟨S32x8x1024, .f32⟩
  | 54 => ⟨S32x8x1024, .f32⟩
  | 55 => ⟨S32x8x1024, .f32⟩
  | 56 => ⟨S_, .f32⟩
  | 57 => ⟨S32x8x1024, .f32⟩
  | 58 => ⟨S32x8x1024, .f32⟩
  | 59 => ⟨S_, .f32⟩
  | 60 => ⟨S32x8x1024, .f32⟩
  | 61 => ⟨S32x8x1024, .f32⟩
  | 62 => ⟨S32x8x1024, .f32⟩
  | 63 => ⟨S32x8x1024, .f32⟩
  | 64 => ⟨S1x32x4x128x256, .f32⟩
  | _ => ⟨S32x8x512, .f32⟩

abbrev hbmTy (i : Nat) : BufTy := match i / 128 with
  | 0 => hbmTy0_0 i
  | 1 => hbmTy0_1 i
  | _ => ⟨S32x8x512, .f32⟩

abbrev bufTy : (tb : Table) → Fin (tcTables nBuf tb) → BufTy
  | .hbm, ⟨i, _⟩ => hbmTy i
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_call2_v0 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_2 : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_3 : Ref sig .tc := ⟨.hbm, 64, rfl⟩
abbrev main_call4_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_4 : Ref sig .tc := ⟨.hbm, 69, rfl⟩
abbrev main_call5_v0 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_5 : Ref sig .tc := ⟨.hbm, 74, rfl⟩
abbrev main_v31 : Ref sig .tc := ⟨.hbm, 75, rfl⟩
abbrev main_c_6 : Ref sig .tc := ⟨.hbm, 76, rfl⟩
abbrev main_v32_0 : Ref sig .tc := ⟨.hbm, 77, rfl⟩
abbrev main_v32_1 : Ref sig .tc := ⟨.hbm, 78, rfl⟩
abbrev main_v32_2 : Ref sig .tc := ⟨.hbm, 79, rfl⟩
abbrev main_v32_3 : Ref sig .tc := ⟨.hbm, 80, rfl⟩
abbrev main_v32_4 : Ref sig .tc := ⟨.hbm, 81, rfl⟩
abbrev main_v32_5 : Ref sig .tc := ⟨.hbm, 82, rfl⟩
abbrev main_v32_6 : Ref sig .tc := ⟨.hbm, 83, rfl⟩
abbrev main_v32_7 : Ref sig .tc := ⟨.hbm, 84, rfl⟩
abbrev main_while0c_c_17 : Ref sig .tc := ⟨.hbm, 85, rfl⟩
abbrev main_while0c_v53 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_v0 : Ref sig .tc := ⟨.hbm, 91, rfl⟩
abbrev main_while0b_v53 : Ref sig .tc := ⟨.hbm, 92, rfl⟩
abbrev main_while0b_call7_c : Ref sig .tc := ⟨.hbm, 93, rfl⟩
abbrev main_while0b_call7_c_0 : Ref sig .tc := ⟨.hbm, 94, rfl⟩
abbrev main_while0b_call7_c_1 : Ref sig .tc := ⟨.hbm, 95, rfl⟩
abbrev main_while0b_call7_c_2 : Ref sig .tc := ⟨.hbm, 96, rfl⟩
abbrev main_while0b_call7_v0 : Ref sig .tc := ⟨.hbm, 97, rfl⟩
abbrev main_while0b_v54 : Ref sig .tc := ⟨.hbm, 98, rfl⟩
abbrev main_while0b_call8_c : Ref sig .tc := ⟨.hbm, 99, rfl⟩
abbrev main_while0b_call8_c_0 : Ref sig .tc := ⟨.hbm, 100, rfl⟩
abbrev main_while0b_call8_c_1 : Ref sig .tc := ⟨.hbm, 101, rfl⟩
abbrev main_while0b_call8_c_2 : Ref sig .tc := ⟨.hbm, 102, rfl⟩
abbrev main_while0b_call8_v0 : Ref sig .tc := ⟨.hbm, 103, rfl⟩
abbrev main_while0b_v55 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_call9_c_1 : Ref sig .tc := ⟨.hbm, 107, rfl⟩
abbrev main_while0b_call9_c_2 : Ref sig .tc := ⟨.hbm, 108, rfl⟩
abbrev main_while0b_call9_v0 : Ref sig .tc := ⟨.hbm, 109, rfl⟩
abbrev main_while0b_v56 : Ref sig .tc := ⟨.hbm, 110, rfl⟩
abbrev main_while0b_call10_call0_cst : Ref sig .tc := ⟨.hbm, 111, rfl⟩
abbrev main_while0b_call10_call0_v0 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_v65 : Ref sig .tc := ⟨.hbm, 121, rfl⟩
abbrev main_while0b_v66 : Ref sig .tc := ⟨.hbm, 122, rfl⟩
abbrev main_while0b_cst_17 : Ref sig .tc := ⟨.hbm, 123, rfl⟩
abbrev main_while0b_call11_v0 : Ref sig .tc := ⟨.hbm, 124, rfl⟩
abbrev main_while0b_call11_v1 : Ref sig .tc := ⟨.hbm, 125, rfl⟩
abbrev main_while0b_call11_v2 : Ref sig .tc := ⟨.hbm, 126, rfl⟩
abbrev main_while0b_v67 : Ref sig .tc := ⟨.hbm, 127, rfl⟩
abbrev main_while0b_v68 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_cst_18 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_v85 : Ref sig .tc := ⟨.hbm, 146, rfl⟩
abbrev main_while0b_v86 : Ref sig .tc := ⟨.hbm, 147, rfl⟩
abbrev main_while0b_v87 : Ref sig .tc := ⟨.hbm, 148, rfl⟩
abbrev main_while0b_v88 : Ref sig .tc := ⟨.hbm, 149, rfl⟩
abbrev main_while0b_v89 : Ref sig .tc := ⟨.hbm, 150, rfl⟩
abbrev main_while0b_v90 : Ref sig .tc := ⟨.hbm, 151, rfl⟩
abbrev main_while0b_v91 : Ref sig .tc := ⟨.hbm, 152, rfl⟩
abbrev main_while0b_v92 : Ref sig .tc := ⟨.hbm, 153, rfl⟩
abbrev main_while0b_call12_v0 : Ref sig .tc := ⟨.hbm, 154, rfl⟩
abbrev main_while0b_call12_c : Ref sig .tc := ⟨.hbm, 155, rfl⟩
abbrev main_while0b_call12_c_0 : Ref sig .tc := ⟨.hbm, 156, rfl⟩
abbrev main_while0b_call12_c_1 : Ref sig .tc := ⟨.hbm, 157, rfl⟩
abbrev main_while0b_call12_c_2 : Ref sig .tc := ⟨.hbm, 158, rfl⟩
abbrev main_while0b_v93 : Ref sig .tc := ⟨.hbm, 159, rfl⟩
abbrev main_while0b_c_19 : Ref sig .tc := ⟨.hbm, 160, rfl⟩
abbrev main_while0b_v94 : Ref sig .tc := ⟨.hbm, 161, rfl⟩
abbrev main_v33 : Ref sig .tc := ⟨.hbm, 162, rfl⟩
abbrev main_v34 : Ref sig .tc := ⟨.hbm, 163, rfl⟩
abbrev main_v35 : Ref sig .tc := ⟨.hbm, 164, rfl⟩
abbrev main_v36 : Ref sig .tc := ⟨.hbm, 165, rfl⟩
abbrev main_cst_7 : Ref sig .tc := ⟨.hbm, 166, rfl⟩
abbrev main_v37 : Ref sig .tc := ⟨.hbm, 167, rfl⟩
abbrev main_v38 : Ref sig .tc := ⟨.hbm, 168, rfl⟩
abbrev main_cst_8 : Ref sig .tc := ⟨.hbm, 169, rfl⟩
abbrev main_v39 : Ref sig .tc := ⟨.hbm, 170, rfl⟩
abbrev main_v40 : Ref sig .tc := ⟨.hbm, 171, rfl⟩
abbrev main_cst_9 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_v44 : Ref sig .tc := ⟨.hbm, 176, rfl⟩
abbrev main_v45 : Ref sig .tc := ⟨.hbm, 177, rfl⟩
abbrev main_v46 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩
abbrev main_call13_v0 : Ref sig .tc := ⟨.hbm, 182, rfl⟩
abbrev main_call13_v1 : Ref sig .tc := ⟨.hbm, 183, rfl⟩
abbrev main_call13_cst : Ref sig .tc := ⟨.hbm, 184, rfl⟩
abbrev main_call13_v2 : Ref sig .tc := ⟨.hbm, 185, rfl⟩
abbrev main_call13_v3 : Ref sig .tc := ⟨.hbm, 186, rfl⟩
abbrev main_call13_cst_0 : Ref sig .tc := ⟨.hbm, 187, rfl⟩
abbrev main_call13_v4 : Ref sig .tc := ⟨.hbm, 188, rfl⟩
abbrev main_call13_v5 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩

abbrev nD : Nat := 1
abbrev τ : Topo := Topo.v7x

variable {F : FTy → Type} [FloatOps F]

abbrev main_while0_count : Scf.Loop 32 := ⟨0#32, 1#32, 1#32⟩
-- ==== Kernel8.lean ====
abbrev S1x8192x512 : Shape := ⟨3, ![1, 8192, 512]⟩
abbrev S1x8192x1024 : Shape := ⟨3, ![1, 8192, 1024]⟩
abbrev S1x8192x16 : Shape := ⟨3, ![1, 8192, 16]⟩
abbrev S1x16x512 : Shape := ⟨3, ![1, 16, 512]⟩
abbrev S1x512 : Shape := ⟨2, ![1, 512]⟩
abbrev S1x256 : Shape := ⟨2, ![1, 256]⟩
abbrev S_ : Shape := ⟨0, ![]⟩
abbrev S128x512 : Shape := ⟨2, ![128, 512]⟩
abbrev S16x512 : Shape := ⟨2, ![16, 512]⟩
abbrev S1 : Shape := ⟨1, ![1]⟩
abbrev S1x4x128x256 : Shape := ⟨4, ![1, 4, 128, 256]⟩
abbrev S8192x512 : Shape := ⟨2, ![8192, 512]⟩
abbrev S8192x1024 : Shape := ⟨2, ![8192, 1024]⟩
abbrev S8192x16 : Shape := ⟨2, ![8192, 16]⟩
abbrev S8192x5120 : Shape := ⟨2, ![8192, 5120]⟩
abbrev S8192x1008 : Shape := ⟨2, ![8192, 1008]⟩
abbrev S8192x9216 : Shape := ⟨2, ![8192, 9216]⟩
abbrev S512 : Shape := ⟨1, ![512]⟩
abbrev S256 : Shape := ⟨1, ![256]⟩
abbrev S64x512 : Shape := ⟨2, ![64, 512]⟩
abbrev S64x1024 : Shape := ⟨2, ![64, 1024]⟩
abbrev S64x128 : Shape := ⟨2, ![64, 128]⟩
abbrev S4x128x256 : Shape := ⟨3, ![4, 128, 256]⟩
abbrev S64x1 : Shape := ⟨2, ![64, 1]⟩
abbrev S64x256 : Shape := ⟨2, ![64, 256]⟩
abbrev S1x128x256 : Shape := ⟨3, ![1, 128, 256]⟩
abbrev S128x256 : Shape := ⟨2, ![128, 256]⟩
abbrev S1x128 : Shape := ⟨2, ![1, 128]⟩
abbrev S16x1 : Shape := ⟨2, ![16, 1]⟩
abbrev S16x128 : Shape := ⟨2, ![16, 128]⟩
abbrev S16 : Shape := ⟨1, ![16]⟩
abbrev S128x128 : Shape := ⟨2, ![128, 128]⟩
abbrev S128 : Shape := ⟨1, ![128]⟩
abbrev S128x1 : Shape := ⟨2, ![128, 1]⟩
abbrev S64 : Shape := ⟨1, ![64]⟩
abbrev S1x1x4x128x256 : Shape := ⟨5, ![1, 1, 4, 128, 256]⟩

abbrev nBuf : Space → Nat
  | .hbm => 33
  | .vmem => 18
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x1024, .f32⟩
  | .hbm, ⟨3, _⟩ => ⟨S1x8192x16, .f32⟩
  | .hbm, ⟨4, _⟩ => ⟨S1x8192x1024, .f32⟩
  | .hbm, ⟨5, _⟩ => ⟨S1x16x512, .f32⟩
  | .hbm, ⟨6, _⟩ => ⟨S1x512, .f32⟩
  | .hbm, ⟨7, _⟩ => ⟨S1x256, .f32⟩
  | .hbm, ⟨8, _⟩ => ⟨S_, .f32⟩
  | .hbm, ⟨9, _⟩ => ⟨S128x512, .f32⟩
  | .hbm, ⟨10, _⟩ => ⟨S16x512, .f32⟩
  | .hbm, ⟨11, _⟩ => ⟨S_, .i32⟩
  | .hbm, ⟨12, _⟩ => ⟨S1, .i32⟩
  | .hbm, ⟨13, _⟩ => ⟨S128x512, .f32⟩
  | .hbm, ⟨14, _⟩ => ⟨S_, .f32⟩
  | .hbm, ⟨15, _⟩ => ⟨S1x4x128x256, .f32⟩
  | .hbm, ⟨16, _⟩ => ⟨S8192x512, .f32⟩
  | .hbm, ⟨17, _⟩ => ⟨S8192x512, .f32⟩
  | .hbm, ⟨18, _⟩ => ⟨S8192x1024, .f32⟩
  | .hbm, ⟨19, _⟩ => ⟨S8192x16, .f32⟩
  | .hbm, ⟨20, _⟩ => ⟨S8192x1024, .f32⟩
  | .hbm, ⟨21, _⟩ => ⟨S_, .f32⟩
  | .hbm, ⟨22, _⟩ => ⟨S8192x5120, .f32⟩
  | .hbm, ⟨23, _⟩ => ⟨S_, .f32⟩
  | .hbm, ⟨24, _⟩ => ⟨S8192x1008, .f32⟩
  | .hbm, ⟨25, _⟩ => ⟨S8192x9216, .f32⟩
  | .hbm, ⟨26, _⟩ => ⟨S512, .f32⟩
  | .hbm, ⟨27, _⟩ => ⟨S256, .f32⟩
  | .hbm, ⟨28, _⟩ => ⟨S1x512, .f32⟩
  | .hbm, ⟨29, _⟩ => ⟨S1x256, .f32⟩
  | .hbm, ⟨30, _⟩ => ⟨S8192x1024, .f32⟩
  | .hbm, ⟨31, _⟩ => ⟨S1x4x128x256, .f32⟩
  | .hbm, ⟨32, _⟩ => ⟨S1x1x4x128x256, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S64x1024, .f32⟩
  | .local _ .vmem, ⟨9, _⟩ => ⟨S64x1024, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S64x1024, .f32⟩
  | .local _ .vmem, ⟨15, _⟩ => ⟨S64x1024, .f32⟩
  | .local _ .vmem, ⟨16, _⟩ => ⟨S1x4x128x256, .f32⟩
  | .local _ .vmem, ⟨17, _⟩ => ⟨S4x128x256, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v6545 : BitVec 1 := Scalar.cmpi .eq arg1 c127_i32
  let v6546 : BitVec 32 := Scalar.extui v6545
  let c0_i32_1160 : BitVec 32 := 0#32
  let v6547 : BitVec 1 := Scalar.cmpi .ne v6546 c0_i32_1160
  v6547

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c14_i32 : BitVec 32 := 14#32
  let c0_i32 : BitVec 32 := 0#32
  ![v1.toNat, c14_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c15_i32 : BitVec 32 := 15#32
  let c0_i32 : BitVec 32 := 0#32
  ![v1.toNat, c15_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c64_i32 : BitVec 32 := 64#32
  let c0_i32 : BitVec 32 := 0#32
  ![v1.toNat, c64_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x4x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference8Ideal.lean ====
abbrev S1x8192x512 : Shape := ⟨3, ![1, 8192, 512]⟩
abbrev S1x8192x1024 : Shape := ⟨3, ![1, 8192, 1024]⟩
abbrev S1x8192x16 : Shape := ⟨3, ![1, 8192, 16]⟩
abbrev S1x16x512 : Shape := ⟨3, ![1, 16, 512]⟩
abbrev S1x512 : Shape := ⟨2, ![1, 512]⟩
abbrev S1x256 : Shape := ⟨2, ![1, 256]⟩
abbrev S_ : Shape := ⟨0, ![]⟩
abbrev S1x4x128x256 : Shape := ⟨4, ![1, 4, 128, 256]⟩
abbrev S1x8192x4x128 : Shape := ⟨4, ![1, 8192, 4, 128]⟩
abbrev S1x8192x4x256 : Shape := ⟨4, ![1, 8192, 4, 256]⟩
abbrev S16x512 : Shape := ⟨2, ![16, 512]⟩
abbrev S512 : Shape := ⟨1, ![512]⟩
abbrev S1x1x512 : Shape := ⟨3, ![1, 1, 512]⟩
abbrev S64x64 : Shape := ⟨2, ![64, 64]⟩
abbrev S1x64x64x1x1 : Shape := ⟨5, ![1, 64, 64, 1, 1]⟩
abbrev S1x128x64x4x128 : Shape := ⟨5, ![1, 128, 64, 4, 128]⟩
abbrev S128x1x64x4x128 : Shape := ⟨5, ![128, 1, 64, 4, 128]⟩
abbrev S1x128x64x4x256 : Shape := ⟨5, ![1, 128, 64, 4, 256]⟩
abbrev S128x1x64x4x256 : Shape := ⟨5, ![128, 1, 64, 4, 256]⟩
abbrev S1x1x64x4x128 : Shape := ⟨5, ![1, 1, 64, 4, 128]⟩
abbrev S1x64x4x128 : Shape := ⟨4, ![1, 64, 4, 128]⟩
abbrev S1x1x64x4x256 : Shape := ⟨5, ![1, 1, 64, 4, 256]⟩
abbrev S1x64x4x256 : Shape := ⟨4, ![1, 64, 4, 256]⟩
abbrev S1x4x256x64 : Shape := ⟨4, ![1, 4, 256, 64]⟩
abbrev S1x64x1x4x128 : Shape := ⟨5, ![1, 64, 1, 4, 128]⟩
abbrev S1x64x64x4x128 : Shape := ⟨5, ![1, 64, 64, 4, 128]⟩
abbrev S1x64x64x4 : Shape := ⟨4, ![1, 64, 64, 4]⟩
abbrev S1x4x64x64 : Shape := ⟨4, ![1, 4, 64, 64]⟩
abbrev S1x1x4x128 : Shape := ⟨4, ![1, 1, 4, 128]⟩
abbrev S1x4x128 : Shape := ⟨3, ![1, 4, 128]⟩
abbrev S1x4x128x1 : Shape := ⟨4, ![1, 4, 128, 1]⟩
abbrev S1x1x4x128x256 : Shape := ⟨5, ![1, 1, 4, 128, 256]⟩

abbrev nBuf : Space → Nat
  | .hbm => 165
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x1024, .f32⟩
  | 3 => ⟨S1x8192x16, .f32⟩
  | 4 => ⟨S1x8192x1024, .f32⟩
  | 5 => ⟨S1x16x512, .f32⟩
  | 6 => ⟨S1x512, .f32⟩
  | 7 => ⟨S1x256, .f32⟩
  | 8 => ⟨S_, .f32⟩
  | 9 => ⟨S1x4x128x256, .f32⟩
  | 10 => ⟨S1x8192x4x128, .f32⟩
  | 11 => ⟨S_, .f32⟩
  | 12 => ⟨S1x8192x4x128, .f32⟩
  | 13 => ⟨S1x8192x4x128, .f32⟩
  | 14 => ⟨S1x8192x4x128, .f32⟩
  | 15 => ⟨S1x8192x4x256, .f32⟩
  | 16 => ⟨S16x512, .f32⟩
  | 17 => ⟨S1x8192x512, .f32⟩
  | 18 => ⟨S512, .f32⟩
  | 19 => ⟨S1x1x512, .f32⟩
  | 20 => ⟨S1x8192x512, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .i1⟩
  | 29 => ⟨S1x8192x512, .f32⟩
  | 30 => ⟨S1x8192x512, .f32⟩
  | 31 => ⟨S1x8192x512, .f32⟩
  | 32 => ⟨S1x8192x512, .f32⟩
  | 33 => ⟨S1x8192x512, .f32⟩
  | 34 => ⟨S1x8192x512, .f32⟩
  | 35 => ⟨S1x8192x512, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S1x8192x4x128, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S1x64x64x1x1, .i1⟩
  | 54 => ⟨S_, .i32⟩
  | 55 => ⟨S_, .f32⟩
  | 56 => ⟨S1x8192x4x128, .f32⟩
  | 57 => ⟨S1x128x64x4x128, .f32⟩
  | 58 => ⟨S128x1x64x4x128, .f32⟩
  | 59 => ⟨S_, .i32⟩
  | 60 => ⟨S_, .f32⟩
  | 61 => ⟨S1x8192x4x128, .f32⟩
  | 62 => ⟨S1x128x64x4x128, .f32⟩
  | 63 => ⟨S128x1x64x4x128, .f32⟩
  | 64 => ⟨S_, .i32⟩
  | 65 => ⟨S_, .f32⟩
  | 66 => ⟨S1x8192x4x256, .f32⟩
  | 67 => ⟨S1x128x64x4x256, .f32⟩
  | 68 => ⟨S128x1x64x4x256, .f32⟩
  | 69 => ⟨S_, .i32⟩
  | 70 => ⟨S_, .f32⟩
  | 71 => ⟨S1x8192x4x128, .f32⟩
  | 72 => ⟨S1x128x64x4x128, .f32⟩
  | 73 => ⟨S128x1x64x4x128, .f32⟩
  | 74 => ⟨S_, .f32⟩
  | 75 => ⟨S128x1x64x4x256, .f32⟩
  | 76 => ⟨S_, .i32⟩
  | 77 => ⟨S128x1x64x4x128, .f32⟩
  | 78 => ⟨S128x1x64x4x128, .f32⟩
  | 79 => ⟨S128x1x64x4x256, .f32⟩
  | 80 => ⟨S128x1x64x4x128, .f32⟩
  | 81 => ⟨S1x64x64x1x1, .i1⟩
  | 82 => ⟨S_, .i32⟩
  | 83 => ⟨S1x4x128x256, .f32⟩
  | 84 => ⟨S128x1x64x4x256, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x1x64x4x128, .f32⟩
  | 92 => ⟨S1x64x4x128, .f32⟩
  | 93 => ⟨S_, .i32⟩
  | 94 => ⟨S_, .i32⟩
  | 95 => ⟨S_, .i32⟩
  | 96 => ⟨S_, .i32⟩
  | 97 => ⟨S1x1x64x4x128, .f32⟩
  | 98 => ⟨S1x64x4x128, .f32⟩
  | 99 => ⟨S_, .i32⟩
  | 100 => ⟨S_, .i32⟩
  | 101 => ⟨S_, .i32⟩
  | 102 => ⟨S_, .i32⟩
  | 103 => ⟨S1x1x64x4x256, .f32⟩
  | 104 => ⟨S1x64x4x256, .f32⟩
  | 105 => ⟨S_, .i32⟩
  | 106 => ⟨S_, .i32⟩
  | 107 => ⟨S_, .i32⟩
  | 108 => ⟨S_, .i32⟩
  | 109 => ⟨S1x1x64x4x128, .f32⟩
  | 110 => ⟨S1x64x4x128, .f32⟩
  | 111 => ⟨S_, .f32⟩
  | 112 => ⟨S_, .f32⟩
  | 113 => ⟨S1x64x4x128, .f32⟩
  | 114 => ⟨S1x64x4x128, .f32⟩
  | 115 => ⟨S1x64x4x128, .f32⟩
  | 116 => ⟨S1x4x256x64, .f32⟩
  | 117 => ⟨S1x64x4x256, .f32⟩
  | 118 => ⟨S1x64x1x4x128, .f32⟩
  | 119 => ⟨S1x1x64x4x128, .f32⟩
  | 120 => ⟨S1x64x64x4x128, .f32⟩
  | 121 => ⟨S1x64x64x4x128, .f32⟩
  | 122 => ⟨S1x64x64x4x128, .f32⟩
  | 123 => ⟨S_, .f32⟩
  | 124 => ⟨S_, .f32⟩
  | 125 => ⟨S1x64x64x4x128, .i1⟩
  | 126 => ⟨S1x64x64x4x128, .f32⟩
  | 127 => ⟨S1x64x64x4x128, .f32⟩
  | _ => ⟨S1x8192x512, .f32⟩

abbrev hbmTy0_1 (i : Nat) : BufTy := match i % 128 with
  | 0 => ⟨S1x64x64x4x128, .f32⟩
  | 1 => ⟨S1x64x1x4x128, .f32⟩
  | 2 => ⟨S1x1x64x4x128, .f32⟩
  | 3 => ⟨S1x64x64x4x128, .f32⟩
  | 4 => ⟨S1x64x64x4x128, .f32⟩
  | 5 => ⟨S1x64x64x4x128, .f32⟩
  | 6 => ⟨S1x64x64x4x128, .f32⟩
  | 7 => ⟨S_, .f32⟩
  | 8 => ⟨S1x64x64x4, .f32⟩
  | 9 => ⟨S1x4x64x64, .f32⟩
  | 10 => ⟨S1x4x256x64, .f32⟩
  | 11 => ⟨S1x64x4x256, .f32⟩
  | 12 => ⟨S1x1x4x128, .f32⟩
  | 13 => ⟨S1x4x128, .f32⟩
  | 14 => ⟨S1x4x128, .f32⟩
  | 15 => ⟨S1x4x128x1, .f32⟩
  | 16 => ⟨S1x4x128x256, .f32⟩
  | 17 => ⟨S1x4x128x256, .f32⟩
  | 18 => ⟨S1x1x4x128, .f32⟩
  | 19 => ⟨S1x64x4x128, .f32⟩
  | 20 => ⟨S1x64x4x128, .f32⟩
  | 21 => ⟨S1x64x4x128, .f32⟩
  | 22 => ⟨S1x64x4x128, .f32⟩
  | 23 => ⟨S1x4x128x256, .f32⟩
  | 24 => ⟨S1x4x128x256, .f32⟩
  | 25 => ⟨S1x64x4x256, .f32⟩
  | 26 => ⟨S1x1x64x4x256, .f32⟩
  | 27 => ⟨S_, .i32⟩
  | 28 => ⟨S_, .i32⟩
  | 29 => ⟨S_, .i32⟩
  | 30 => ⟨S_, .i32⟩
  | 31 => ⟨S128x1x64x4x256, .f32⟩
  | 32 => ⟨S_, .i32⟩
  | 33 => ⟨S_, .i32⟩
  | 34 => ⟨S1x128x64x4x256, .f32⟩
  | 35 => ⟨S1x8192x4x256, .f32⟩
  | 36 => ⟨S1x1x4x128x256, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v17 : Ref sig .tc := ⟨.hbm, 52, rfl⟩
abbrev main_v18 : Ref sig .tc := ⟨.hbm, 53, rfl⟩
abbrev main_c_2 : Ref sig .tc := ⟨.hbm, 54, rfl⟩
abbrev main_call2_v0 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_3 : Ref sig .tc := ⟨.hbm, 59, rfl⟩
abbrev main_call3_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_4 : Ref sig .tc := ⟨.hbm, 64, rfl⟩
abbrev main_call4_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_5 : Ref sig .tc := ⟨.hbm, 69, rfl⟩
abbrev main_call5_v0 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_6 : Ref sig .tc := ⟨.hbm, 74, rfl⟩
abbrev main_v31 : Ref sig .tc := ⟨.hbm, 75, rfl⟩
abbrev main_c_7 : Ref sig .tc := ⟨.hbm, 76, rfl⟩
abbrev main_v32_0 : Ref sig .tc := ⟨.hbm, 77, rfl⟩
abbrev main_v32_1 : Ref sig .tc := ⟨.hbm, 78, rfl⟩
abbrev main_v32_2 : Ref sig .tc := ⟨.hbm, 79, rfl⟩
abbrev main_v32_3 : Ref sig .tc := ⟨.hbm, 80, rfl⟩
abbrev main_v32_4 : Ref sig .tc := ⟨.hbm, 81, rfl⟩
abbrev main_v32_5 : Ref sig .tc := ⟨.hbm, 82, rfl⟩
abbrev main_v32_6 : Ref sig .tc := ⟨.hbm, 83, rfl⟩
abbrev main_v32_7 : Ref sig .tc := ⟨.hbm, 84, rfl⟩
abbrev main_while0c_c_15 : Ref sig .tc := ⟨.hbm, 85, rfl⟩
abbrev main_while0c_v36 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_v0 : Ref sig .tc := ⟨.hbm, 91, rfl⟩
abbrev main_while0b_v36 : Ref sig .tc := ⟨.hbm, 92, rfl⟩
abbrev main_while0b_call7_c : Ref sig .tc := ⟨.hbm, 93, rfl⟩
abbrev main_while0b_call7_c_0 : Ref sig .tc := ⟨.hbm, 94, rfl⟩
abbrev main_while0b_call7_c_1 : Ref sig .tc := ⟨.hbm, 95, rfl⟩
abbrev main_while0b_call7_c_2 : Ref sig .tc := ⟨.hbm, 96, rfl⟩
abbrev main_while0b_call7_v0 : Ref sig .tc := ⟨.hbm, 97, rfl⟩
abbrev main_while0b_v37 : Ref sig .tc := ⟨.hbm, 98, rfl⟩
abbrev main_while0b_call8_c : Ref sig .tc := ⟨.hbm, 99, rfl⟩
abbrev main_while0b_call8_c_0 : Ref sig .tc := ⟨.hbm, 100, rfl⟩
abbrev main_while0b_call8_c_1 : Ref sig .tc := ⟨.hbm, 101, rfl⟩
abbrev main_while0b_call8_c_2 : Ref sig .tc := ⟨.hbm, 102, rfl⟩
abbrev main_while0b_call8_v0 : Ref sig .tc := ⟨.hbm, 103, rfl⟩
abbrev main_while0b_v38 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_call9_c_1 : Ref sig .tc := ⟨.hbm, 107, rfl⟩
abbrev main_while0b_call9_c_2 : Ref sig .tc := ⟨.hbm, 108, rfl⟩
abbrev main_while0b_call9_v0 : Ref sig .tc := ⟨.hbm, 109, rfl⟩
abbrev main_while0b_v39 : Ref sig .tc := ⟨.hbm, 110, rfl⟩
abbrev main_while0b_call10_call0_cst : Ref sig .tc := ⟨.hbm, 111, rfl⟩
abbrev main_while0b_call10_call0_v0 : Ref sig .tc := ⟨.hbm, 112, rfl⟩
abbrev main_while0b_v40 : Ref sig .tc := ⟨.hbm, 113, rfl⟩
abbrev main_while0b_v41 : Ref sig .tc := ⟨.hbm, 114, rfl⟩
abbrev main_while0b_v42 : Ref sig .tc := ⟨.hbm, 115, rfl⟩
abbrev main_while0b_v43 : Ref sig .tc := ⟨.hbm, 116, rfl⟩
abbrev main_while0b_v44 : Ref sig .tc := ⟨.hbm, 117, rfl⟩
abbrev main_while0b_v45 : Ref sig .tc := ⟨.hbm, 118, rfl⟩
abbrev main_while0b_v46 : Ref sig .tc := ⟨.hbm, 119, rfl⟩
abbrev main_while0b_v47 : Ref sig .tc := ⟨.hbm, 120, rfl⟩
abbrev main_while0b_v48 : Ref sig .tc := ⟨.hbm, 121, rfl⟩
abbrev main_while0b_v49 : Ref sig .tc := ⟨.hbm, 122, rfl⟩
abbrev main_while0b_cst_15 : Ref sig .tc := ⟨.hbm, 123, rfl⟩
abbrev main_while0b_call11_v0 : Ref sig .tc := ⟨.hbm, 124, rfl⟩
abbrev main_while0b_call11_v1 : Ref sig .tc := ⟨.hbm, 125, rfl⟩
abbrev main_while0b_call11_v2 : Ref sig .tc := ⟨.hbm, 126, rfl⟩
abbrev main_while0b_v50 : Ref sig .tc := ⟨.hbm, 127, rfl⟩
abbrev main_while0b_v51 : Ref sig .tc := ⟨.hbm, 128, rfl⟩
abbrev main_while0b_v52 : Ref sig .tc := ⟨.hbm, 129, rfl⟩
abbrev main_while0b_v53 : Ref sig .tc := ⟨.hbm, 130, rfl⟩
abbrev main_while0b_v54 : Ref sig .tc := ⟨.hbm, 131, rfl⟩
abbrev main_while0b_v55 : Ref sig .tc := ⟨.hbm, 132, rfl⟩
abbrev main_while0b_v56 : Ref sig .tc := ⟨.hbm, 133, rfl⟩
abbrev main_while0b_v57 : Ref sig .tc := ⟨.hbm, 134, rfl⟩
abbrev main_while0b_cst_16 : Ref sig .tc := ⟨.hbm, 135, rfl⟩
abbrev main_while0b_v58 : Ref sig .tc := ⟨.hbm, 136, rfl⟩
abbrev main_while0b_v59 : Ref sig .tc := ⟨.hbm, 137, rfl⟩
abbrev main_while0b_v60 : Ref sig .tc := ⟨.hbm, 138, rfl⟩
abbrev main_while0b_v61 : Ref sig .tc := ⟨.hbm, 139, rfl⟩
abbrev main_while0b_v62 : Ref sig .tc := ⟨.hbm, 140, rfl⟩
abbrev main_while0b_v63 : Ref sig .tc := ⟨.hbm, 141, rfl⟩
abbrev main_while0b_v64 : Ref sig .tc := ⟨.hbm, 142, rfl⟩
abbrev main_while0b_v65 : Ref sig .tc := ⟨.hbm, 143, rfl⟩
abbrev main_while0b_v66 : Ref sig .tc := ⟨.hbm, 144, rfl⟩
abbrev main_while0b_v67 : Ref sig .tc := ⟨.hbm, 145, rfl⟩
abbrev main_while0b_v68 : Ref sig .tc := ⟨.hbm, 146, rfl⟩
abbrev main_while0b_v69 : Ref sig .tc := ⟨.hbm, 147, rfl⟩
abbrev main_while0b_v70 : Ref sig .tc := ⟨.hbm, 148, rfl⟩
abbrev main_while0b_v71 : Ref sig .tc := ⟨.hbm, 149, rfl⟩
abbrev main_while0b_v72 : Ref sig .tc := ⟨.hbm, 150, rfl⟩
abbrev main_while0b_v73 : Ref sig .tc := ⟨.hbm, 151, rfl⟩
abbrev main_while0b_v74 : Ref sig .tc := ⟨.hbm, 152, rfl⟩
abbrev main_while0b_v75 : Ref sig .tc := ⟨.hbm, 153, rfl⟩
abbrev main_while0b_call12_v0 : Ref sig .tc := ⟨.hbm, 154, rfl⟩
abbrev main_while0b_call12_c : Ref sig .tc := ⟨.hbm, 155, rfl⟩
abbrev main_while0b_call12_c_0 : Ref sig .tc := ⟨.hbm, 156, rfl⟩
abbrev main_while0b_call12_c_1 : Ref sig .tc := ⟨.hbm, 157, rfl⟩
abbrev main_while0b_call12_c_2 : Ref sig .tc := ⟨.hbm, 158, rfl⟩
abbrev main_while0b_v76 : Ref sig .tc := ⟨.hbm, 159, rfl⟩
abbrev main_while0b_c_17 : Ref sig .tc := ⟨.hbm, 160, rfl⟩
abbrev main_while0b_v77 : Ref sig .tc := ⟨.hbm, 161, rfl⟩
abbrev main_v33 : Ref sig .tc := ⟨.hbm, 162, rfl⟩
abbrev main_v34 : Ref sig .tc := ⟨.hbm, 163, rfl⟩
abbrev main_v35 : Ref sig .tc := ⟨.hbm, 164, rfl⟩

abbrev nD : Nat := 1
abbrev τ : Topo := Topo.v7x

variable {F : FTy → Type} [FloatOps F]

abbrev main_while0_count : Scf.Loop 32 := ⟨0#32, 128#32, 1#32⟩
-- ==== Kernel9.lean ====
abbrev S1x2048 : Shape := ⟨2, ![1, 2048]⟩
abbrev S32x2048 : Shape := ⟨2, ![32, 2048]⟩
abbrev S1x2048x6144 : Shape := ⟨3, ![1, 2048, 6144]⟩
abbrev S1x6144 : Shape := ⟨2, ![1, 6144]⟩
abbrev S_ : Shape := ⟨0, ![]⟩
abbrev S40x2048 : Shape := ⟨2, ![40, 2048]⟩
abbrev S1 : Shape := ⟨1, ![1]⟩
abbrev S2048x6144 : Shape := ⟨2, ![2048, 6144]⟩
abbrev S6144 : Shape := ⟨1, ![6144]⟩
abbrev S40x6144 : Shape := ⟨2, ![40, 6144]⟩
abbrev S2048x512 : Shape := ⟨2, ![2048, 512]⟩
abbrev S1x512 : Shape := ⟨2, ![1, 512]⟩
abbrev S40x512 : Shape := ⟨2, ![40, 512]⟩
abbrev S32x6144 : Shape := ⟨2, ![32, 6144]⟩

abbrev nBuf : Space → Nat
  | .hbm => 18
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S32x2048, .f32⟩
  | .hbm, ⟨2, _⟩ => ⟨S1x2048x6144, .f32⟩
  | .hbm, ⟨3, _⟩ => ⟨S1x6144, .f32⟩
  | .hbm, ⟨4, _⟩ => ⟨S_, .f32⟩
  | .hbm, ⟨5, _⟩ => ⟨S40x2048, .f32⟩
  | .hbm, ⟨6, _⟩ => ⟨S_, .i32⟩
  | .hbm, ⟨7, _⟩ => ⟨S1, .i32⟩
  | .hbm, ⟨8, _⟩ => ⟨S40x2048, .f32⟩
  | .hbm, ⟨9, _⟩ => ⟨S_, .i32⟩
  | .hbm, ⟨10, _⟩ => ⟨S1, .i32⟩
  | .hbm, ⟨11, _⟩ => ⟨S40x2048, .f32⟩
  | .hbm, ⟨12, _⟩ => ⟨S2048x6144, .f32⟩
  | .hbm, ⟨13, _⟩ => ⟨S6144, .f32⟩
  | .hbm, ⟨14, _⟩ => ⟨S1x6144, .f32⟩
  | .hbm, ⟨15, _⟩ => ⟨S40x6144, .f32⟩
  | .hbm, ⟨16, _⟩ => ⟨S1x6144, .f32⟩
  | .hbm, ⟨17, _⟩ => ⟨S32x6144, .f32⟩
  | .local _ .vmem, ⟨0, _⟩ => ⟨S40x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S1x2048 : Shape := ⟨2, ![1, 2048]⟩
abbrev S32x2048 : Shape := ⟨2, ![32, 2048]⟩
abbrev S1x2048x6144 : Shape := ⟨3, ![1, 2048, 6144]⟩
abbrev S1x6144 : Shape := ⟨2, ![1, 6144]⟩
abbrev S2048x6144 : Shape := ⟨2, ![2048, 6144]⟩
abbrev S6144 : Shape := ⟨1, ![6144]⟩
abbrev S32x6144 : Shape := ⟨2, ![32, 6144]⟩

abbrev nBuf : Space → Nat
  | .hbm => 15
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S32x2048, .f32⟩
  | .hbm, ⟨2, _⟩ => ⟨S1x2048x6144, .f32⟩
  | .hbm, ⟨3, _⟩ => ⟨S1x6144, .f32⟩
  | .hbm, ⟨4, _⟩ => ⟨S2048x6144, .f32⟩
  | .hbm, ⟨5, _⟩ => ⟨S1x6144, .f32⟩
  | .hbm, ⟨6, _⟩ => ⟨S6144, .f32⟩
  | .hbm, ⟨7, _⟩ => ⟨S1x6144, .f32⟩
  | .hbm, ⟨8, _⟩ => ⟨S1x6144, .f32⟩
  | .hbm, ⟨9, _⟩ => ⟨S2048x6144, .f32⟩
  | .hbm, ⟨10, _⟩ => ⟨S32x6144, .f32⟩
  | .hbm, ⟨11, _⟩ => ⟨S6144, .f32⟩
  | .hbm, ⟨12, _⟩ => ⟨S1x6144, .f32⟩
  | .hbm, ⟨13, _⟩ => ⟨S32x6144, .f32⟩
  | .hbm, ⟨14, _⟩ => ⟨S32x6144, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S1x8192x2048 : Shape := ⟨3, ![1, 8192, 2048]⟩
abbrev S1x6144 : Shape := ⟨2, ![1, 6144]⟩
abbrev S1x2048 : Shape := ⟨2, ![1, 2048]⟩
abbrev S8192x2048 : Shape := ⟨2, ![8192, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .bf16⟩
  | .hbm, ⟨9, _⟩ => ⟨S8192x2048, .f32⟩
  | .hbm, ⟨10, _⟩ => ⟨S1x8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel10Ideal.lean ====
abbrev S1x8192x2048 : Shape := ⟨3, ![1, 8192, 2048]⟩
abbrev S1x6144 : Shape := ⟨2, ![1, 6144]⟩
abbrev S1x2048 : Shape := ⟨2, ![1, 2048]⟩
abbrev S8192x2048 : Shape := ⟨2, ![8192, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .bf16⟩
  | .hbm, ⟨9, _⟩ => ⟨S8192x2048, .f32⟩
  | .hbm, ⟨10, _⟩ => ⟨S1x8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S1x8192x2048 : Shape := ⟨3, ![1, 8192, 2048]⟩
abbrev S1x6144 : Shape := ⟨2, ![1, 6144]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x6144, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S1x1x2048, .f32⟩
  | .hbm, ⟨24, _⟩ => ⟨S_, .f32⟩
  | .hbm, ⟨25, _⟩ => ⟨S1x1x2048, .f32⟩
  | .hbm, ⟨26, _⟩ => ⟨S1x1x2048, .f32⟩
  | .hbm, ⟨27, _⟩ => ⟨S1x8192x2048, .f32⟩
  | .hbm, ⟨28, _⟩ => ⟨S1x8192x2048, .f32⟩
  | .hbm, ⟨29, _⟩ => ⟨S1x1x2048, .f32⟩
  | .hbm, ⟨30, _⟩ => ⟨S1x8192x2048, .f32⟩
  | .hbm, ⟨31, _⟩ => ⟨S1x8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel11.lean ====
abbrev S32x8x2048 : Shape := ⟨3, ![32, 8, 2048]⟩
abbrev S32x6144 : Shape := ⟨2, ![32, 6144]⟩
abbrev S1x2048 : Shape := ⟨2, ![1, 2048]⟩
abbrev S32x2048 : Shape := ⟨2, ![32, 2048]⟩
abbrev S256x2048 : Shape := ⟨2, ![256, 2048]⟩
abbrev S2048 : Shape := ⟨1, ![2048]⟩
abbrev S256 : Shape := ⟨1, ![256]⟩
abbrev S256x1 : Shape := ⟨2, ![256, 1]⟩

abbrev nBuf : Space → Nat
  | .hbm => 15
  | .vmem => 5
  | .smem => 0
  | _ => 0

abbrev bufTy : (tb : Table) → Fin (tcTables nBuf tb) → BufTy
  | .hbm, ⟨0, _⟩ => ⟨S32x8x2048, .f32⟩
  | .hbm, ⟨1, _⟩ => ⟨S32x6144, .f32⟩
  | .hbm, ⟨2, _⟩ => ⟨S1x2048, .f32⟩
  | .hbm, ⟨3, _⟩ => ⟨S32x2048, .f32⟩
  | .hbm, ⟨4, _⟩ => ⟨S32x2048, .f32⟩
  | .hbm, ⟨5, _⟩ => ⟨S32x8x2048, .f32⟩
  | .hbm, ⟨6, _⟩ => ⟨S256x2048, .f32⟩
  | .hbm, ⟨7, _⟩ => ⟨S32x8x2048, .f32⟩
  | .hbm, ⟨8, _⟩ => ⟨S256x2048, .f32⟩
  | .hbm, ⟨9, _⟩ => ⟨S256x2048, .f32⟩
  | .hbm, ⟨10, _⟩ => ⟨S2048, .f32⟩
  | .hbm, ⟨11, _⟩ => ⟨S1x2048, .f32⟩
  | .hbm, ⟨12, _⟩ => ⟨S256x2048, .bf16⟩
  | .hbm, ⟨13, _⟩ => ⟨S256x2048, .f32⟩
  | .hbm, ⟨14, _⟩ => ⟨S32x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference11Ideal.lean ====
abbrev S32x8x2048 : Shape := ⟨3, ![32, 8, 2048]⟩
abbrev S32x6144 : Shape := ⟨2, ![32, 6144]⟩
abbrev S1x2048 : Shape := ⟨2, ![1, 2048]⟩
abbrev S32x2048 : Shape := ⟨2, ![32, 2048]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x1x2048 : Shape := ⟨3, ![32, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x6144, .f32⟩
  | .hbm, ⟨2, _⟩ => ⟨S1x2048, .f32⟩
  | .hbm, ⟨3, _⟩ => ⟨S32x2048, .f32⟩
  | .hbm, ⟨4, _⟩ => ⟨S32x2048, .f32⟩
  | .hbm, ⟨5, _⟩ => ⟨S32x2048, .f32⟩
  | .hbm, ⟨6, _⟩ => ⟨S2048, .f32⟩
  | .hbm, ⟨7, _⟩ => ⟨S32x8x2048, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x2048, .f32⟩
  | .hbm, ⟨19, _⟩ => ⟨S32x8x2048, .f32⟩
  | .hbm, ⟨20, _⟩ => ⟨S1x1x2048, .f32⟩
  | .hbm, ⟨21, _⟩ => ⟨S32x8x2048, .f32⟩
  | .hbm, ⟨22, _⟩ => ⟨S32x8x2048, .f32⟩
  | .hbm, ⟨23, _⟩ => ⟨S32x1x2048, .f32⟩
  | .hbm, ⟨24, _⟩ => ⟨S_, .f32⟩
  | .hbm, ⟨25, _⟩ => ⟨S32x1x2048, .f32⟩
  | .hbm, ⟨26, _⟩ => ⟨S32x1x2048, .f32⟩
  | .hbm, ⟨27, _⟩ => ⟨S32x8x2048, .f32⟩
  | .hbm, ⟨28, _⟩ => ⟨S32x8x2048, .f32⟩
  | .hbm, ⟨29, _⟩ => ⟨S32x1x2048, .f32⟩
  | .hbm, ⟨30, _⟩ => ⟨S32x8x2048, .f32⟩
  | .hbm, ⟨31, _⟩ => ⟨S32x8x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel12.lean ====
abbrev S1x2x32x64 : Shape := ⟨4, ![1, 2, 32, 64]⟩
abbrev S1x2x32x64x128 : Shape := ⟨5, ![1, 2, 32, 64, 128]⟩
abbrev S1x2x128 : Shape := ⟨3, ![1, 2, 128]⟩
abbrev S2x32x64 : Shape := ⟨3, ![2, 32, 64]⟩
abbrev S2x32x64x128 : Shape := ⟨4, ![2, 32, 64, 128]⟩
abbrev S2x128 : Shape := ⟨2, ![2, 128]⟩
abbrev S_ : Shape := ⟨0, ![]⟩
abbrev S2x8x2048 : Shape := ⟨3, ![2, 8, 2048]⟩
abbrev S2x2048 : Shape := ⟨2, ![2, 2048]⟩
abbrev S1 : Shape := ⟨1, ![1]⟩
abbrev S2x2048x128 : Shape := ⟨3, ![2, 2048, 128]⟩
abbrev S2x1x128 : Shape := ⟨3, ![2, 1, 128]⟩
abbrev S2x8x128 : Shape := ⟨3, ![2, 8, 128]⟩
abbrev S1x8x2048 : Shape := ⟨3, ![1, 8, 2048]⟩
abbrev S8x2048 : Shape := ⟨2, ![8, 2048]⟩
abbrev S1x2048x128 : Shape := ⟨3, ![1, 2048, 128]⟩
abbrev S2048x128 : Shape := ⟨2, ![2048, 128]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩

abbrev nBuf : Space → Nat
  | .hbm => 17
  | .vmem => 4
  | .smem => 0
  | _ => 0

abbrev bufTy : (tb : Table) → Fin (tcTables nBuf tb) → BufTy
  | .hbm, ⟨0, _⟩ => ⟨S1x2x32x64, .f32⟩
  | .hbm, ⟨1, _⟩ => ⟨S1x2x32x64x128, .f32⟩
  | .hbm, ⟨2, _⟩ => ⟨S1x2x128, .f32⟩
  | .hbm, ⟨3, _⟩ => ⟨S2x32x64, .f32⟩
  | .hbm, ⟨4, _⟩ => ⟨S2x32x64x128, .f32⟩
  | .hbm, ⟨5, _⟩ => ⟨S2x128, .f32⟩
  | .hbm, ⟨6, _⟩ => ⟨S_, .f32⟩
  | .hbm, ⟨7, _⟩ => ⟨S2x8x2048, .f32⟩
  | .hbm, ⟨8, _⟩ => ⟨S2x2048, .f32⟩
  | .hbm, ⟨9, _⟩ => ⟨S_, .i32⟩
  | .hbm, ⟨10, _⟩ => ⟨S1, .i32⟩
  | .hbm, ⟨11, _⟩ => ⟨S2x8x2048, .f32⟩
  | .hbm, ⟨12, _⟩ => ⟨S2x2048x128, .f32⟩
  | .hbm, ⟨13, _⟩ => ⟨S2x1x128, .f32⟩
  | .hbm, ⟨14, _⟩ => ⟨S2x8x128, .f32⟩
  | .hbm, ⟨15, _⟩ => ⟨S2x1x128, .f32⟩
  | .hbm, ⟨16, _⟩ => ⟨S2x128, .f32⟩
  | .local _ .vmem, ⟨0, _⟩ => ⟨S2x8x2048, .f32⟩
  | .local _ .vmem, ⟨1, _⟩ => ⟨S2x2048x128, .f32⟩
  | .local _ .vmem, ⟨2, _⟩ => ⟨S2x1x128, .f32⟩
  | .local _ .vmem, ⟨3, _⟩ => ⟨S2x8x128, .f32⟩
  | _, _ => ⟨S1x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference12Ideal.lean ====
abbrev S1x2x32x64 : Shape := ⟨4, ![1, 2, 32, 64]⟩
abbrev S1x2x32x64x128 : Shape := ⟨5, ![1, 2, 32, 64, 128]⟩
abbrev S1x2x128 : Shape := ⟨3, ![1, 2, 128]⟩
abbrev S2x32x64 : Shape := ⟨3, ![2, 32, 64]⟩
abbrev S2x32x64x128 : Shape := ⟨4, ![2, 32, 64, 128]⟩
abbrev S2x128 : Shape := ⟨2, ![2, 128]⟩

abbrev nBuf : Space → Nat
  | .hbm => 8
  | .vmem => 0
  | .smem => 0
  | _ => 0

abbrev bufTy : (tb : Table) → Fin (tcTables nBuf tb) → BufTy
  | .hbm, ⟨0, _⟩ => ⟨S1x2x32x64, .f32⟩
  | .hbm, ⟨1, _⟩ => ⟨S1x2x32x64x128, .f32⟩
  | .hbm, ⟨2, _⟩ => ⟨S1x2x128, .f32⟩
  | .hbm, ⟨3, _⟩ => ⟨S2x32x64, .f32⟩
  | .hbm, ⟨4, _⟩ => ⟨S2x32x64x128, .f32⟩
  | .hbm, ⟨5, _⟩ => ⟨S2x128, .f32⟩
  | .hbm, ⟨6, _⟩ => ⟨S2x128, .f32⟩
  | .hbm, ⟨7, _⟩ => ⟨S2x128, .f32⟩
  | _, _ => ⟨S1x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.RowsTable.lean ====
/- The table of block offsets that the row-major input projection prefetches: what it holds when the region is entered,
   and that every block it names lies inside the weight array. -/
module

public import proofs.«01_k».proof.Proof.Gen.KernelIdeal.Frame
public import Idealize.ShloMosaic.PureOps.BitExact
public import Idealize.ShloMosaic.PureOps.Ideal

@[expose] public section

noncomputable section

namespace Cert.Proof.Rows

open Idealize.ShloMosaic Idealize.ShloMosaic.TcCoe Cert.KernelIdeal Cert.KernelIdeal.Gen

section
variable {F : FTy → Type} [FloatOps F]

/-- The table's contents: the program's literal constant. -/
def words : pre0.Contents (Elt F) := fun
  | ⟨0, _⟩ => fun x => lit0 (S9.rowMajor x)
  | ⟨_ + 1, h⟩ => absurd h (by simp)

/-- When the region is entered the table holds the literal. -/
theorem tbl_eq (m : (ℓ : Loc nD τ sig) → Buf (Elt F) ℓ) : tbl m = words := by
  funext j
  match j with
  | ⟨0, _⟩ =>
    unfold tbl V V0 hostOps0
    after_results_simp
    rfl

end

/-- Every block the table names is inside the weight array and begins at the multiple its index map states. -/
theorem ok (m : (ℓ : Loc nD τ sig) → Buf (Elt Ideal) ℓ) : Ok m := by
  unfold Ok; rw [tbl_eq]; decide +kernel

/-- The same where the floats are words: the table holds integers only. -/
theorem ok_bits (m : (ℓ : Loc nD τ sig) → Buf (Elt Bits) ℓ) : Ok m := by
  unfold Ok; rw [tbl_eq]; decide +kernel

end Cert.Proof.Rows
-- ==== Proof.RowsBlock.lean ====
/- One point of the row-major input projection: the product the matrix unit forms, what the weight scratch holds,
   and the two input blocks read at their places in the arrays. -/
module

public import proofs.«01_k».proof.Proof.RowsTable
public import Idealize.ShloMosaic.Lib.Pointwise
public import Idealize.ShloMosaic.Lib.Pipeline.ValueKit

@[expose] public section

noncomputable section

namespace Cert.Proof.Rows

open Idealize.ShloMosaic Idealize.ShloMosaic.TcCoe Cert.KernelIdeal Cert.KernelIdeal.Gen

/-- The matrix unit's product of one point: an activation row by a weight row. -/
theorem product_apply (x : Vec Ideal S1024x2048 .bf16) (w : Vec Ideal S1024x2048 .bf16) (i : S1024x1024.Idx) :
    k0_pay2 x w i = ∑ k : Fin 2048, x (ix2 (i 0) k) * w (ix2 (i 1) k) := by
  unfold k0_pay2
  pointwise

/-- The weight block as the first point of its column keeps it: every element unchanged. -/
theorem kept_eq (w : Vec Ideal S1024x2048 .f32) : k0_pay1 w = w := by
  unfold k0_pay1
  funext i
  pointwise

variable (m : (ℓ : Loc nD τ sig) → Buf (Elt Ideal) ℓ) (hO : Ok m) (c : Dev nD)

/-- A point's activation block. -/
def rowsBlk (t : Fin (cfgM m hO).N) : Vec Ideal S1024x2048 .bf16 := iblk m hO c 0 t

/-- A point's weight block. -/
def wtsBlk (t : Fin (cfgM m hO).N) : Vec Ideal S1024x2048 .f32 := iblk m hO c 1 t

/-- What the result block and the scratch hold after a point. -/
abbrev left (n : ℕ) (hn : n < (cfgM m hO).N) : Vec Ideal S1024x1024 .f32 × Vec Ideal S1024x2048 .bf16 := outsAt0 m hO c n hn

/-- What the first point of a column leaves: the product with the weight block just fetched, and that block kept. -/
theorem out_first (t : Fin (cfgM m hO).N) (h0 : t.val % 8 = 0) :
    left m hO c t.val t.isLt = (k0_pay2 (rowsBlk m hO c t) (wtsBlk m hO c t), wtsBlk m hO c t) := by
  refine (outsAt0_A m hO c t h0).trans (Prod.ext ?_ ?_)
  · dsimp only
    unfold out0_A_2
    frame_out
    exact congrArg₂ k0_pay2 ((hs0_0 m hO t).read_unread _) ((kept_eq _).trans ((hs0_1 m hO t).read_unread _))
  · dsimp only
    unfold sout0_A_0
    frame_out
    exact (kept_eq _).trans ((hs0_1 m hO t).read_unread _)

/-- What any later point of a column leaves: the product with the block kept, and that block. -/
theorem out_later (t : Fin (cfgM m hO).N) (h0 : ¬t.val % 8 = 0) :
    left m hO c t.val t.isLt = (k0_pay2 (rowsBlk m hO c t) (left m hO c (t.val - 1) (Nat.lt_of_le_of_lt (Nat.sub_le _ _) t.isLt)).2,
      (left m hO c (t.val - 1) (Nat.lt_of_le_of_lt (Nat.sub_le _ _) t.isLt)).2) := by
  refine (outsAt0_B m hO c t h0).trans (Prod.ext ?_ rfl)
  dsimp only
  unfold out0_B_2
  frame_out
  exact congrArg₂ k0_pay2 ((hs0_0 m hO t).read_unread _) ((Memref.isWhole_whole cc0_scratch0).read_unread _)

/-- The first weight row of column block `j`. -/
def start (j : ℕ) : ℕ := 16 * [420, 484, 548, 612, 163, 291, 356, 227, 355].getD j 0

/-- The weight window's block begins at the row the table names, in lane 0. -/
theorem index_weights : ∀ t : Fin grid0.N, cc0_transform_1 k0_off1_inb numel1_S1 (words (F := Ideal)) (grid0.coords t) = ![start (t.val / 8), 0] := by
  decide +kernel

/-- The activation window's block is block row `t % 8`. -/
theorem index_rows : ∀ t : Fin grid0.N, cc0_transform_0 (grid0.coords t) = ![t.val % 8, 0] := by
  decide +kernel

/-- The result window's block is block row `t % 8` of block column `t / 8`. -/
theorem index_out : ∀ t : Fin grid0.N, cc0_transform_2 (grid0.coords t) = ![t.val % 8, t.val / 8] := by
  decide +kernel

theorem start_le (j : ℕ) : start j + 1024 ≤ 10816 := by
  unfold start
  rcases j with _ | _ | _ | _ | _ | _ | _ | _ | _ | j <;> simp

/-- The activations as the region finds them. -/
abbrev acts : Vec Ideal S8192x2048 .bf16 := V m c main_v3

/-- The weight rows as the region finds them. -/
abbrev wts : Vec Ideal S10816x2048 .f32 := V m c main_v1

/-- The activation block of a point, element by element. -/
theorem rows_apply (t : Fin (cfgM m hO).N) (y : S1024x2048.Idx) :
    rowsBlk m hO c t y
      = acts m c (ix2 ⟨t.val % 8 * 1024 + (y 0).val, by have := (y 0).isLt; change (y 0).val < 1024 at this; omega⟩ (y 1)) := by
  unfold rowsBlk iblk
  refine congrArg (acts m c) (funext fun a => Fin.ext ?_)
  match a with
  | ⟨0, _⟩ => exact show cc0_transform_0 (grid0.coords t) 0 * 1024 + 1 * (y 0).val = _ by rw [index_rows, Nat.one_mul]; rfl
  | ⟨1, _⟩ => exact show cc0_transform_0 (grid0.coords t) 1 * 2048 + 1 * (y 1).val = _ by rw [index_rows, Nat.one_mul]; exact Nat.zero_add _

/-- The weight block of a point, element by element. -/
theorem weights_apply (t : Fin (cfgM m hO).N) (y : S1024x2048.Idx) :
    wtsBlk m hO c t y
      = wts m c (ix2 ⟨start (t.val / 8) + (y 0).val, by have := (y 0).isLt; change (y 0).val < 1024 at this; have := start_le (t.val / 8); omega⟩ (y 1)) := by
  unfold wtsBlk iblk
  refine congrArg (wts m c) (funext fun a => Fin.ext ?_)
  match a with
  | ⟨0, _⟩ => exact show cc0_transform_1 k0_off1_inb numel1_S1 (tbl m) (grid0.coords t) 0 + 1 * (y 0).val = _ by rw [tbl_eq, index_weights, Nat.one_mul]; rfl
  | ⟨1, _⟩ => exact show cc0_transform_1 k0_off1_inb numel1_S1 (tbl m) (grid0.coords t) 1 + 1 * (y 1).val = _ by rw [tbl_eq, index_weights, Nat.one_mul]; exact Nat.zero_add _

/-- The weight rows of column block `j` as one array. -/
def kept (j : ℕ) : Vec Ideal S1024x2048 .bf16 := fun y =>
  wts m c (ix2 ⟨start j + (y 0).val, by have := (y 0).isLt; change (y 0).val < 1024 at this; have := start_le j; omega⟩ (y 1))

/-- After every point the scratch holds the weight rows of the point's column block. -/
theorem scratch (n : ℕ) (hn : n < (cfgM m hO).N) : (left m hO c n hn).2 = kept m c (n / 8) := by
  induction n with
  | zero =>
    refine (congrArg Prod.snd (out_first m hO c ⟨0, hn⟩ rfl)).trans ?_
    exact funext fun y => weights_apply m hO c ⟨0, hn⟩ y
  | succ n ih =>
    by_cases h0 : (n + 1) % 8 = 0
    · refine (congrArg Prod.snd (out_first m hO c ⟨n + 1, hn⟩ h0)).trans ?_
      exact funext fun y => weights_apply m hO c ⟨n + 1, hn⟩ y
    · refine (congrArg Prod.snd (out_later m hO c ⟨n + 1, hn⟩ h0)).trans ?_
      refine (ih (Nat.lt_of_succ_lt hn)).trans ?_
      rw [show (n + 1) / 8 = n / 8 by omega]

/-- What every point leaves in the result block: the product of its activation rows by its column's weight rows. -/
theorem block_eq (t : Fin (cfgM m hO).N) : (left m hO c t.val t.isLt).1 = k0_pay2 (rowsBlk m hO c t) (kept m c (t.val / 8)) := by
  have h := scratch m hO c t.val t.isLt
  by_cases h0 : t.val % 8 = 0
  · rw [out_first m hO c t h0] at h ⊢
    exact congrArg (k0_pay2 _) h
  · rw [out_later m hO c t h0] at h ⊢
    exact congrArg (k0_pay2 _) h

/-- The whole projection: result column `e` of block `e / 1024` is the weight row at that block's start. -/
def projection : Vec Ideal S8192x9216 .f32 := fun i =>
  ∑ k : Fin 2048, acts m c (ix2 (i 0) k)
    * wts m c (ix2 ⟨start ((i 1).val / 1024) + (i 1).val % 1024, by have := start_le ((i 1).val / 1024); omega⟩ k)

/-- The place of element `y` of a point's result block in the result array. -/
theorem out_place (t : Fin (cfgM m hO).N) (y : S1024x1024.Idx) :
    ((((cfgM m hO).win 2).blk t).view.emb y : S8192x9216.Idx)
      = ix2 ⟨t.val % 8 * 1024 + (y 0).val, by have := (y 0).isLt; change (y 0).val < 1024 at this; omega⟩
          ⟨t.val / 8 * 1024 + (y 1).val, by have := (y 1).isLt; change (y 1).val < 1024 at this; have := lt_of_lt_of_eq t.isLt (show (cfgM m hO).N = 72 from N_0); omega⟩ :=
  funext fun a => Fin.ext (by
    match a with
    | ⟨0, _⟩ => exact show cc0_transform_2 (grid0.coords t) 0 * 1024 + 1 * (y 0).val = _ by rw [index_out, Nat.one_mul]; rfl
    | ⟨1, _⟩ => exact show cc0_transform_2 (grid0.coords t) 1 * 1024 + 1 * (y 1).val = _ by rw [index_out, Nat.one_mul]; rfl)

/-- A point's result block is the projection read at its place. -/
theorem block_apply (t : Fin (cfgM m hO).N) (y : S1024x1024.Idx) :
    (left m hO c t.val t.isLt).1 y = projection m c ((((cfgM m hO).win 2).blk t).view.emb y : S8192x9216.Idx) := by
  rw [block_eq, product_apply, out_place]
  have hy : (y 1).val < 1024 := (y 1).isLt
  refine Finset.sum_congr rfl fun k _ => congrArg₂ (· * ·) (rows_apply m hO c t _) ?_
  refine congrArg (wts m c) (congrFun (congrArg ix2 (Fin.ext ?_)) k)
  show start (t.val / 8) + (y 1).val = start ((t.val / 8 * 1024 + (y 1).val) / 1024) + (t.val / 8 * 1024 + (y 1).val) % 1024
  rw [show (t.val / 8 * 1024 + (y 1).val) / 1024 = t.val / 8 by omega, show (t.val / 8 * 1024 + (y 1).val) % 1024 = (y 1).val by omega]

/-- The result array after the run is the whole projection. -/
theorem final : (dats m hO 0 c).arrAt 2 (cfgM m hO).N = projection m c := by
  refine (dats m hO 0 c).arrAt_eq_of_emb 2 (projection m c) (fun t _ y => ?_) (fun i => ?_)
  · exact (congrFun (after0_2 m hO c t) y).trans (block_apply m hO c t y)
  · change S8192x9216.Idx at i
    have h0 : (i 0).val < 8192 := (i 0).isLt
    have h1 : (i 1).val < 9216 := (i 1).isLt
    have hN : (cfgM m hO).N = 72 := N_0
    refine ⟨⟨(i 1).val / 1024 * 8 + (i 0).val / 1024, by omega⟩, flush0_2 .., ?_⟩
    refine Finset.mem_map.mpr ⟨(ix2 ⟨(i 0).val % 1024, by omega⟩ ⟨(i 1).val % 1024, by omega⟩ : S1024x1024.Idx), Finset.mem_univ _, ?_⟩
    refine (out_place m hO _ _).trans (funext fun a => Fin.ext ?_)
    match a with
    | ⟨0, _⟩ => exact show ((i 1).val / 1024 * 8 + (i 0).val / 1024) % 8 * 1024 + (i 0).val % 1024 = (i 0).val by omega
    | ⟨1, _⟩ => exact show ((i 1).val / 1024 * 8 + (i 0).val / 1024) / 8 * 1024 + (i 1).val % 1024 = (i 1).val by omega

end Cert.Proof.Rows
-- ==== Proof.RowsArray.lean ====
/- What the row-major projection's run leaves: the arrays it starts from in terms of the arguments, and its eight results
   as columns of the projection. -/
module

public import proofs.«01_k».proof.Proof.RowsBlock

@[expose] public section

noncomputable section

namespace Cert.Proof.Rows

open Idealize.ShloMosaic Idealize.ShloMosaic.TcCoe Cert.KernelIdeal Cert.KernelIdeal.Gen

variable (m : (ℓ : Loc nD τ sig) → Buf (Elt Ideal) ℓ) (hO : Ok m) (c : Dev nD)

/-- The activation argument. -/
abbrev hArg : Vec Ideal S1x8192x2048 .f32 := m ((c.tc : Thread nD τ).loc main_arg0)

/-- The weight argument. -/
abbrev wArg : Vec Ideal S1x2048x10816 .f32 := m ((c.tc : Thread nD τ).loc main_arg1)

/-- The activations the region reads are the argument's rows. -/
theorem acts_apply (i : S8192x2048.Idx) : acts m c i = hArg m c (ix3 0 (i 0) (i 1)) := by
  have h : acts m c = truncf (F := Ideal) (φ := .f32) .bf16 (shapeCast S8192x2048 (hArg m c) shapeCasts_S1x8192x2048_S8192x2048) bitsLt_bf16_f32 := by
    unfold acts V V0 hostOps0
    after_results_simp
    rfl
  rw [h]
  pointwise

/-- The weight rows the region reads are the argument's columns. -/
theorem wts_apply (i : S10816x2048.Idx) : wts m c i = wArg m c (ix3 0 (i 1) (i 0)) := by
  have h : wts m c = transpose S10816x2048 [1, 0] (shapeCast S2048x10816 (wArg m c) shapeCasts_S1x2048x10816_S2048x10816) transposes_S2048x10816_S10816x2048_1_0 := by
    unfold wts V V0 hostOps0
    after_results_simp
    rfl
  rw [h]
  pointwise

/-- What a buffer holds when the run ends. -/
abbrev last (b : Ref sig .tc) := Pipeline.afterTail pcfgs (fun _ => adm m hO) (dats m hO) 0 (V0 m) [hostOps1] c b

/-- The run's last array of the projection, as the lines after the region find it. -/
theorem found : Pipeline.withArrays (Pipeline.pin pcfgs (fun _ => adm m hO) 0).spec c (V0 m c)
    (fun w => (dats m hO 0 c).arrAt w (Pipeline.pin pcfgs (fun _ => adm m hO) 0).N) (Proc.devRef .tc main_v4) = projection m c :=
  (Pipeline.withArrays_arr _ (by exact (by decide : Function.Injective (Pipeline.arrRef spec0))) c (V0 m c) _ 2).trans (final m hO c)

/-- The eight results end at consecutive column ranges of the projection. -/
theorem lasts :
    last m hO c main_v5 = extractStridedSlice S8192x2048 ![0, 0] (projection m c) slices_S8192x9216_S8192x2048_0_0
    ∧ last m hO c main_v6 = extractStridedSlice S8192x2048 ![0, 2048] (projection m c) slices_S8192x9216_S8192x2048_0_2048
    ∧ last m hO c main_v7 = extractStridedSlice S8192x1024 ![0, 4096] (projection m c) slices_S8192x9216_S8192x1024_0_4096
    ∧ last m hO c main_v8 = extractStridedSlice S8192x1024 ![0, 5120] (projection m c) slices_S8192x9216_S8192x1024_0_5120
    ∧ last m hO c main_v9 = extractStridedSlice S8192x1024 ![0, 6144] (projection m c) slices_S8192x9216_S8192x1024_0_6144
    ∧ last m hO c main_v10 = extractStridedSlice S8192x512 ![0, 7168] (projection m c) slices_S8192x9216_S8192x512_0_7168
    ∧ last m hO c main_v11 = extractStridedSlice S8192x512 ![0, 7680] (projection m c) slices_S8192x9216_S8192x512_0_7680
    ∧ last m hO c main_v12 = extractStridedSlice S8192x16 ![0, 8192] (projection m c) slices_S8192x9216_S8192x16_0_8192 := by
  unfold last Pipeline.afterTail
  rw [List.flatten_singleton]
  refine ⟨?_, ?_, ?_, ?_, ?_, ?_, ?_, ?_⟩ <;> after_results_simp <;>
    exact congrArg (extractStridedSlice _ _ · _) (found m hO c)

end Cert.Proof.Rows
-- ==== Proof.RowsClaim.lean ====
/- The row-major projection equals the reference's: each result element is the same sum of products. -/
module

public import proofs.«01_k».proof.Proof.RowsArray
public import proofs.«01_k».proof.Proof.Gen.ReferenceIdeal.Read
public import proofs.«01_k».proof.Defs

@[expose] public section

noncomputable section

namespace Cert.Proof.Rows

open Idealize.ShloMosaic Idealize.ShloMosaic.TcCoe Cert.KernelIdeal Cert.KernelIdeal.Gen Cert.ReferenceIdeal.Read

/-- One element of the projection: activation row `r` by weight column `f`. -/
def element (x : Vec Ideal S1x8192x2048 .f32) (w : Vec Ideal S1x2048x10816 .f32) (r : Fin 8192) (f : Fin 10816) : Elt Ideal .f32 :=
  ∑ k : Fin 2048, x (ix3 0 r k) * w (ix3 0 k f)

variable (m : (ℓ : Loc nD τ sig) → Buf (Elt Ideal) ℓ) (hO : Ok m) (c : Dev nD)

/-- The kernel's projection at a row and a place of its own column order. -/
theorem projection_at (i : S8192x9216.Idx) (f : Fin 10816) (h : start ((i 1).val / 1024) + (i 1).val % 1024 = f.val) :
    projection m c i = element (hArg m c) (wArg m c) (i 0) f := by
  unfold projection element
  refine Finset.sum_congr rfl fun k _ => congrArg₂ (· * ·) (acts_apply m c _) ((wts_apply m c _).trans ?_)
  exact congrArg (wArg m c) (congrArg (ix3 0 k) (Fin.ext h))

/-- The reference's projection at a row and a column. -/
theorem reference_at (x : Vec Ideal S1x8192x2048 .f32) (w : Vec Ideal S1x2048x10816 .f32) (i : Cert.ReferenceIdeal.S1x8192x10816.Idx) :
    val_main_v1 (F := Ideal) x w i = element x w (i 1) (i 2) := by
  rw [val_main_v1_apply]
  unfold element
  refine Finset.sum_congr rfl fun k _ => congrArg₂ (· * ·) (congrArg x ?_) ((val_main_v0_apply _ _).trans (congrArg w ?_))
  · funext a
    match a with
    | ⟨0, _⟩ => exact Subsingleton.elim (α := Fin 1) _ _
    | ⟨1, _⟩ => rfl
    | ⟨2, _⟩ => rfl
  · have hk : k.val < 2048 := k.isLt
    have hi : (i 2).val < 10816 := (i 2).isLt
    funext a
    match a with
    | ⟨0, _⟩ => exact Subsingleton.elim (α := Fin 1) _ _
    | ⟨1, _⟩ => exact Fin.ext (by show (k.val * 10816 + (i 2).val) / 10816 % 2048 = k.val; omega)
    | ⟨2, _⟩ => exact Fin.ext (by show (k.val * 10816 + (i 2).val) % 10816 = (i 2).val; omega)

/-- Columns `ko` to `ko + w` of the kernel's projection are columns `fo` to `fo + w` of the reference's, where the table
    takes every place of that range to its column. -/
theorem columns {w ko fo : ℕ} (hk : S8192x9216.Slices ![0, ko] ⟨2, ![8192, w]⟩)
    (hr : Cert.ReferenceIdeal.S1x8192x10816.Slices ![0, 0, fo] ⟨3, ![1, 8192, w]⟩)
    (hc : Shape.ShapeCasts ⟨3, ![1, 8192, w]⟩ ⟨2, ![8192, w]⟩)
    (hs : ∀ e < w, ko + e < 9216 ∧ fo + e < 10816 ∧ start ((ko + e) / 1024) + (ko + e) % 1024 = fo + e) :
    extractStridedSlice ⟨2, ![8192, w]⟩ ![0, ko] (projection m c) hk
      = shapeCast ⟨2, ![8192, w]⟩ (extractStridedSlice ⟨3, ![1, 8192, w]⟩ ![0, 0, fo]
          (val_main_v1 (F := Ideal) (hArg m c) (wArg m c)) hr) hc := by
  funext i
  have h1 : (i 1).val < w := (i 1).isLt
  obtain ⟨hke, hfe, he⟩ := hs _ h1
  rw [shapeCast_apply _ hc i (ix3 0 (i 0) (i 1)) (by
      rw [Shape.rowMajor_val_three, Shape.rowMajor_val_two]
      show (0 * 8192 + (i 0).val) * w + (i 1).val = (i 0).val * w + (i 1).val
      rw [Nat.zero_mul, Nat.zero_add]),
    extractStridedSlice_apply _ _ hr (ix3 0 (i 0) (i 1)) (ix3 0 (i 0) ⟨fo + (i 1).val, hfe⟩)
      (fun a => match a with
        | ⟨0, _⟩ => rfl
        | ⟨1, _⟩ => (Nat.zero_add _).symm
        | ⟨2, _⟩ => rfl),
    extractStridedSlice_apply _ _ hk i (ix2 (i 0) ⟨ko + (i 1).val, hke⟩)
      (fun a => match a with
        | ⟨0, _⟩ => (Nat.zero_add _).symm
        | ⟨1, _⟩ => rfl), reference_at]
  exact projection_at m c _ ⟨fo + (i 1).val, hfe⟩ he

/-- The table's start of each column block. -/
theorem starts : start 0 = 6720 ∧ start 1 = 7744 ∧ start 2 = 8768 ∧ start 3 = 9792 ∧ start 4 = 2608 ∧ start 5 = 4656
    ∧ start 6 = 5696 ∧ start 7 = 3632 ∧ start 8 = 5680 := ⟨rfl, rfl, rfl, rfl, rfl, rfl, rfl, rfl, rfl⟩

/-- A range of columns that lies in one block is taken to consecutive columns. -/
theorem in_block {ko fo w : ℕ} (q : ℕ) (hq : q < 9) (hf : start q + ko = fo + q * 1024) (hlo : q * 1024 ≤ ko) (hhi : ko + w ≤ (q + 1) * 1024) :
    ∀ e < w, ko + e < 9216 ∧ fo + e < 10816 ∧ start ((ko + e) / 1024) + (ko + e) % 1024 = fo + e := by
  intro e he
  have hs := start_le q
  have hd : (ko + e) / 1024 = q := by omega
  rw [hd]
  omega

/-- So is a range of two blocks with consecutive starts. -/
theorem in_blocks {ko fo : ℕ} (q : ℕ) (hq : q < 8) (hf : start q = fo) (hn : start (q + 1) = fo + 1024) (hlo : ko = q * 1024) :
    ∀ e < 2048, ko + e < 9216 ∧ fo + e < 10816 ∧ start ((ko + e) / 1024) + (ko + e) % 1024 = fo + e := by
  intro e he
  have hs := start_le (q + 1)
  rcases (by omega : (ko + e) / 1024 = q ∨ (ko + e) / 1024 = q + 1) with h | h <;> rw [h] <;> omega

/-- Both runs end with the same eight arrays: the reference's columns of the projection. -/
theorem claim : Cert.algebraic_KernelIdeal_ReferenceIdeal := by
  intro m g m' g' _ hargs
  have hO := ok m
  refine ⟨fun c => val_main_v13 (F := Ideal) (hArg m c) (wArg m c), fun c => val_main_v14 (F := Ideal) (hArg m c) (wArg m c), fun c => val_main_v15 (F := Ideal) (hArg m c) (wArg m c), fun c => val_main_v16 (F := Ideal) (hArg m c) (wArg m c), fun c => val_main_v17 (F := Ideal) (hArg m c) (wArg m c), fun c => val_main_v18 (F := Ideal) (hArg m c) (wArg m c), fun c => val_main_v19 (F := Ideal) (hArg m c) (wArg m c), fun c => val_main_v20 (F := Ideal) (hArg m c) (wArg m c),
    (θ_run _ _ _).mono (fun _ h c => ?_) (run_main m g hO),
    (θ_run _ _ _).mono (fun _ h c => ?_) (Cert.ReferenceIdeal.Value.run m' g')⟩
  · obtain ⟨l5, l6, l7, l8, l9, l10, l11, l12⟩ := lasts m hO c
    have rest : ∀ b ∈ Pipeline.restRefs sig spec0, _ := (h c).2
    exact ⟨
      (rest main_v5 (by decide)).trans (l5.trans (columns m c _ _ _ (in_blocks 0 (by decide) rfl rfl rfl))),
      (rest main_v6 (by decide)).trans (l6.trans (columns m c _ _ _ (in_blocks 2 (by decide) rfl rfl rfl))),
      (rest main_v7 (by decide)).trans (l7.trans (columns m c _ _ _ (in_block 4 (by decide) rfl (by decide) (by decide)))),
      (rest main_v8 (by decide)).trans (l8.trans (columns m c _ _ _ (in_block 5 (by decide) rfl (by decide) (by decide)))),
      (rest main_v9 (by decide)).trans (l9.trans (columns m c _ _ _ (in_block 6 (by decide) rfl (by decide) (by decide)))),
      (rest main_v10 (by decide)).trans (l10.trans (columns m c _ _ _ (in_block 7 (by decide) rfl (by decide) (by decide)))),
      (rest main_v11 (by decide)).trans (l11.trans (columns m c _ _ _ (in_block 7 (by decide) rfl (by decide) (by decide)))),
      (rest main_v12 (by decide)).trans (l12.trans (columns m c _ _ _ (in_block 8 (by decide) rfl (by decide) (by decide)))),
      (rest main_arg0 (by decide)).trans (W_main_arg0 m hO _ c), (rest main_arg1 (by decide)).trans (W_main_arg1 m hO _ c)⟩
  · have hc := h c
    rw [(hargs c).1, (hargs c).2] at hc
    exact ⟨hc.1, hc.2.1, hc.2.2.1, hc.2.2.2.1, hc.2.2.2.2.1, hc.2.2.2.2.2.1, hc.2.2.2.2.2.2.1, hc.2.2.2.2.2.2.2.1,
      (h c).2.2.2.2.2.2.2.2⟩

end Cert.Proof.Rows
-- ==== Proof.ColsTable.lean ====
/- The table of block offsets that the feature-major input projection prefetches: what it holds when the region is entered,
   and that every block it names lies inside the weight array. -/
module

public import proofs.«01_k».proof.Proof.Gen.Kernel2Ideal.Frame
public import Idealize.ShloMosaic.PureOps.BitExact
public import Idealize.ShloMosaic.PureOps.Ideal

@[expose] public section

noncomputable section

namespace Cert.Proof.Cols

open Idealize.ShloMosaic Idealize.ShloMosaic.TcCoe Cert.Kernel2Ideal Cert.Kernel2Ideal.Gen

section
variable {F : FTy → Type} [FloatOps F]

/-- The table's contents: the program's literal constant. -/
def words : pre0.Contents (Elt F) := fun
  | ⟨0, _⟩ => fun x => lit0 (S2.rowMajor x)
  | ⟨_ + 1, h⟩ => absurd h (by simp)

/-- When the region is entered the table holds the literal. -/
theorem tbl_eq (m : (ℓ : Loc nD τ sig) → Buf (Elt F) ℓ) : tbl m = words := by
  funext j
  match j with
  | ⟨0, _⟩ =>
    unfold tbl V V0 hostOps0
    after_results_simp
    rfl

end

/-- Every block the table names is inside the weight array and begins at the multiple its index map states. -/
theorem ok (m : (ℓ : Loc nD τ sig) → Buf (Elt Ideal) ℓ) : Ok m := by
  unfold Ok; rw [tbl_eq]; decide +kernel

/-- The same where the floats are words: the table holds integers only. -/
theorem ok_bits (m : (ℓ : Loc nD τ sig) → Buf (Elt Bits) ℓ) : Ok m := by
  unfold Ok; rw [tbl_eq]; decide +kernel

end Cert.Proof.Cols
-- ==== Proof.ColsBlock.lean ====
/- One point of the feature-major input projection: the product the matrix unit forms, what the weight scratch holds,
   and the two input blocks read at their places in the arrays. -/
module

public import proofs.«01_k».proof.Proof.ColsTable
public import Idealize.ShloMosaic.Lib.Pointwise
public import Idealize.ShloMosaic.Lib.Pipeline.ValueKit

@[expose] public section

noncomputable section

namespace Cert.Proof.Cols

open Idealize.ShloMosaic Idealize.ShloMosaic.TcCoe Cert.Kernel2Ideal Cert.Kernel2Ideal.Gen

/-- The matrix unit's product of one point: a weight row by an activation row. -/
theorem product_apply (w : Vec Ideal S1344x2048 .bf16) (x : Vec Ideal S512x2048 .bf16) (i : S1344x512.Idx) :
    k0_pay2 w x i = ∑ k : Fin 2048, w (ix2 (i 0) k) * x (ix2 (i 1) k) := by
  unfold k0_pay2
  pointwise

/-- The weight block as the first point of its column keeps it: every element unchanged. -/
theorem kept_eq (w : Vec Ideal S1344x2048 .f32) : k0_pay1 w = w := by
  unfold k0_pay1
  funext i
  pointwise

variable (m : (ℓ : Loc nD τ sig) → Buf (Elt Ideal) ℓ) (hO : Ok m) (c : Dev nD)

/-- A point's activation block. -/
def rowsBlk (t : Fin (cfgM m hO).N) : Vec Ideal S512x2048 .bf16 := iblk m hO c 0 t

/-- A point's weight block. -/
def wtsBlk (t : Fin (cfgM m hO).N) : Vec Ideal S1344x2048 .f32 := iblk m hO c 1 t

/-- What the result block and the scratch hold after a point. -/
abbrev left (n : ℕ) (hn : n < (cfgM m hO).N) : Vec Ideal S1344x512 .f32 × Vec Ideal S1344x2048 .bf16 := outsAt0 m hO c n hn

/-- What the first point of a column leaves: the product with the weight block just fetched, and that block kept. -/
theorem out_first (t : Fin (cfgM m hO).N) (h0 : t.val % 16 = 0) :
    left m hO c t.val t.isLt = (k0_pay2 (wtsBlk m hO c t) (rowsBlk m hO c t), wtsBlk m hO c t) := by
  refine (outsAt0_A m hO c t h0).trans (Prod.ext ?_ ?_)
  · dsimp only
    unfold out0_A_2
    frame_out
    exact congrArg₂ k0_pay2 ((kept_eq _).trans ((hs0_1 m hO t).read_unread _)) ((hs0_0 m hO t).read_unread _)
  · dsimp only
    unfold sout0_A_0
    frame_out
    exact (kept_eq _).trans ((hs0_1 m hO t).read_unread _)

/-- What any later point of a column leaves: the product with the block kept, and that block. -/
theorem out_later (t : Fin (cfgM m hO).N) (h0 : ¬t.val % 16 = 0) :
    left m hO c t.val t.isLt = (k0_pay2 (left m hO c (t.val - 1) (Nat.lt_of_le_of_lt (Nat.sub_le _ _) t.isLt)).2 (rowsBlk m hO c t),
      (left m hO c (t.val - 1) (Nat.lt_of_le_of_lt (Nat.sub_le _ _) t.isLt)).2) := by
  refine (outsAt0_B m hO c t h0).trans (Prod.ext ?_ rfl)
  dsimp only
  unfold out0_B_2
  frame_out
  exact congrArg₂ k0_pay2 ((Memref.isWhole_whole cc0_scratch0).read_unread _) ((hs0_0 m hO t).read_unread _)

/-- The first weight row of column block `j`. -/
def start (j : ℕ) : ℕ := 16 * [0, 84].getD j 0

/-- The weight window's block begins at the row the table names, in lane 0. -/
theorem index_weights : ∀ t : Fin grid0.N, cc0_transform_1 k0_off1_inb numel1_S1 (words (F := Ideal)) (grid0.coords t) = ![start (t.val / 16), 0] := by
  decide +kernel

/-- The activation window's block is block row `t % 16`. -/
theorem index_rows : ∀ t : Fin grid0.N, cc0_transform_0 (grid0.coords t) = ![t.val % 16, 0] := by
  decide +kernel

/-- The result window's block is block row `t / 16` of block column `t % 16`. -/
theorem index_out : ∀ t : Fin grid0.N, cc0_transform_2 (grid0.coords t) = ![t.val / 16, t.val % 16] := by
  decide +kernel

theorem start_le (j : ℕ) : start j + 1344 ≤ 10816 := by
  unfold start
  rcases j with _ | _ | j <;> simp

/-- The activations as the region finds them. -/
abbrev acts : Vec Ideal S8192x2048 .bf16 := V m c main_v3

/-- The weight rows as the region finds them. -/
abbrev wts : Vec Ideal S10816x2048 .f32 := V m c main_v1

/-- The activation block of a point, element by element. -/
theorem rows_apply (t : Fin (cfgM m hO).N) (y : S512x2048.Idx) :
    rowsBlk m hO c t y
      = acts m c (ix2 ⟨t.val % 16 * 512 + (y 0).val, by have := (y 0).isLt; change (y 0).val < 512 at this; omega⟩ (y 1)) := by
  unfold rowsBlk iblk
  refine congrArg (acts m c) (funext fun a => Fin.ext ?_)
  match a with
  | ⟨0, _⟩ => exact show cc0_transform_0 (grid0.coords t) 0 * 512 + 1 * (y 0).val = _ by rw [index_rows, Nat.one_mul]; rfl
  | ⟨1, _⟩ => exact show cc0_transform_0 (grid0.coords t) 1 * 2048 + 1 * (y 1).val = _ by rw [index_rows, Nat.one_mul]; exact Nat.zero_add _

/-- The weight block of a point, element by element. -/
theorem weights_apply (t : Fin (cfgM m hO).N) (y : S1344x2048.Idx) :
    wtsBlk m hO c t y
      = wts m c (ix2 ⟨start (t.val / 16) + (y 0).val, by have := (y 0).isLt; change (y 0).val < 1344 at this; have := start_le (t.val / 16); omega⟩ (y 1)) := by
  unfold wtsBlk iblk
  refine congrArg (wts m c) (funext fun a => Fin.ext ?_)
  match a with
  | ⟨0, _⟩ => exact show cc0_transform_1 k0_off1_inb numel1_S1 (tbl m) (grid0.coords t) 0 + 1 * (y 0).val = _ by rw [tbl_eq, index_weights, Nat.one_mul]; rfl
  | ⟨1, _⟩ => exact show cc0_transform_1 k0_off1_inb numel1_S1 (tbl m) (grid0.coords t) 1 + 1 * (y 1).val = _ by rw [tbl_eq, index_weights, Nat.one_mul]; exact Nat.zero_add _

/-- The weight rows of column block `j` as one array. -/
def kept (j : ℕ) : Vec Ideal S1344x2048 .bf16 := fun y =>
  wts m c (ix2 ⟨start j + (y 0).val, by have := (y 0).isLt; change (y 0).val < 1344 at this; have := start_le j; omega⟩ (y 1))

/-- After every point the scratch holds the weight rows of the point's column block. -/
theorem scratch (n : ℕ) (hn : n < (cfgM m hO).N) : (left m hO c n hn).2 = kept m c (n / 16) := by
  induction n with
  | zero =>
    refine (congrArg Prod.snd (out_first m hO c ⟨0, hn⟩ rfl)).trans ?_
    exact funext fun y => weights_apply m hO c ⟨0, hn⟩ y
  | succ n ih =>
    by_cases h0 : (n + 1) % 16 = 0
    · refine (congrArg Prod.snd (out_first m hO c ⟨n + 1, hn⟩ h0)).trans ?_
      exact funext fun y => weights_apply m hO c ⟨n + 1, hn⟩ y
    · refine (congrArg Prod.snd (out_later m hO c ⟨n + 1, hn⟩ h0)).trans ?_
      refine (ih (Nat.lt_of_succ_lt hn)).trans ?_
      rw [show (n + 1) / 16 = n / 16 by omega]

/-- What every point leaves in the result block: the product of its activation rows by its column's weight rows. -/
theorem block_eq (t : Fin (cfgM m hO).N) : (left m hO c t.val t.isLt).1 = k0_pay2 (kept m c (t.val / 16)) (rowsBlk m hO c t) := by
  have h := scratch m hO c t.val t.isLt
  by_cases h0 : t.val % 16 = 0
  · rw [out_first m hO c t h0] at h ⊢
    exact congrArg (k0_pay2 · _) h
  · rw [out_later m hO c t h0] at h ⊢
    exact congrArg (k0_pay2 · _) h

/-- The whole projection: result row `e` of block `e / 1344` is the weight row at that block's start. -/
def projection : Vec Ideal S2688x8192 .f32 := fun i =>
  ∑ k : Fin 2048, wts m c (ix2 ⟨start ((i 0).val / 1344) + (i 0).val % 1344, by have := start_le ((i 0).val / 1344); omega⟩ k)
    * acts m c (ix2 (i 1) k)

/-- The place of element `y` of a point's result block in the result array. -/
theorem out_place (t : Fin (cfgM m hO).N) (y : S1344x512.Idx) :
    ((((cfgM m hO).win 2).blk t).view.emb y : S2688x8192.Idx)
      = ix2 ⟨t.val / 16 * 1344 + (y 0).val, by have := (y 0).isLt; change (y 0).val < 1344 at this; have := lt_of_lt_of_eq t.isLt (show (cfgM m hO).N = 32 from N_0); omega⟩
          ⟨t.val % 16 * 512 + (y 1).val, by have := (y 1).isLt; change (y 1).val < 512 at this; omega⟩ :=
  funext fun a => Fin.ext (by
    match a with
    | ⟨0, _⟩ => exact show cc0_transform_2 (grid0.coords t) 0 * 1344 + 1 * (y 0).val = _ by rw [index_out, Nat.one_mul]; rfl
    | ⟨1, _⟩ => exact show cc0_transform_2 (grid0.coords t) 1 * 512 + 1 * (y 1).val = _ by rw [index_out, Nat.one_mul]; rfl)

/-- A point's result block is the projection read at its place. -/
theorem block_apply (t : Fin (cfgM m hO).N) (y : S1344x512.Idx) :
    (left m hO c t.val t.isLt).1 y = projection m c ((((cfgM m hO).win 2).blk t).view.emb y : S2688x8192.Idx) := by
  rw [block_eq, product_apply, out_place]
  have hy : (y 0).val < 1344 := (y 0).isLt
  refine Finset.sum_congr rfl fun k _ => congrArg₂ (· * ·) ?_ (rows_apply m hO c t _)
  refine congrArg (wts m c) (congrFun (congrArg ix2 (Fin.ext ?_)) k)
  show start (t.val / 16) + (y 0).val = start ((t.val / 16 * 1344 + (y 0).val) / 1344) + (t.val / 16 * 1344 + (y 0).val) % 1344
  rw [show (t.val / 16 * 1344 + (y 0).val) / 1344 = t.val / 16 by omega, show (t.val / 16 * 1344 + (y 0).val) % 1344 = (y 0).val by omega]

/-- The result array after the run is the whole projection. -/
theorem final : (dats m hO 0 c).arrAt 2 (cfgM m hO).N = projection m c := by
  refine (dats m hO 0 c).arrAt_eq_of_emb 2 (projection m c) (fun t _ y => ?_) (fun i => ?_)
  · exact (congrFun (after0_2 m hO c t) y).trans (block_apply m hO c t y)
  · change S2688x8192.Idx at i
    have h0 : (i 0).val < 2688 := (i 0).isLt
    have h1 : (i 1).val < 8192 := (i 1).isLt
    have hN : (cfgM m hO).N = 32 := N_0
    refine ⟨⟨(i 0).val / 1344 * 16 + (i 1).val / 512, by omega⟩, flush0_2 .., ?_⟩
    refine Finset.mem_map.mpr ⟨(ix2 ⟨(i 0).val % 1344, by omega⟩ ⟨(i 1).val % 512, by omega⟩ : S1344x512.Idx), Finset.mem_univ _, ?_⟩
    refine (out_place m hO _ _).trans (funext fun a => Fin.ext ?_)
    match a with
    | ⟨0, _⟩ => exact show ((i 0).val / 1344 * 16 + (i 1).val / 512) / 16 * 1344 + (i 0).val % 1344 = (i 0).val by omega
    | ⟨1, _⟩ => exact show ((i 0).val / 1344 * 16 + (i 1).val / 512) % 16 * 512 + (i 1).val % 512 = (i 1).val by omega

end Cert.Proof.Cols
-- ==== Proof.ColsArray.lean ====
/- What the feature-major projection's run leaves: the arrays it starts from in terms of the arguments, and its three results
   as rows of the projection. -/
module

public import proofs.«01_k».proof.Proof.ColsBlock

@[expose] public section

noncomputable section

namespace Cert.Proof.Cols

open Idealize.ShloMosaic Idealize.ShloMosaic.TcCoe Cert.Kernel2Ideal Cert.Kernel2Ideal.Gen

variable (m : (ℓ : Loc nD τ sig) → Buf (Elt Ideal) ℓ) (hO : Ok m) (c : Dev nD)

/-- The activation argument. -/
abbrev hArg : Vec Ideal S1x8192x2048 .f32 := m ((c.tc : Thread nD τ).loc main_arg0)

/-- The weight argument. -/
abbrev wArg : Vec Ideal S1x2048x10816 .f32 := m ((c.tc : Thread nD τ).loc main_arg1)

/-- The activations the region reads are the argument's rows. -/
theorem acts_apply (i : S8192x2048.Idx) : acts m c i = hArg m c (ix3 0 (i 0) (i 1)) := by
  have h : acts m c = truncf (F := Ideal) (φ := .f32) .bf16 (shapeCast S8192x2048 (hArg m c) shapeCasts_S1x8192x2048_S8192x2048) bitsLt_bf16_f32 := by
    unfold acts V V0 hostOps0
    after_results_simp
    rfl
  rw [h]
  pointwise

/-- The weight rows the region reads are the argument's columns. -/
theorem wts_apply (i : S10816x2048.Idx) : wts m c i = wArg m c (ix3 0 (i 1) (i 0)) := by
  have h : wts m c = transpose S10816x2048 [1, 0] (shapeCast S2048x10816 (wArg m c) shapeCasts_S1x2048x10816_S2048x10816) transposes_S2048x10816_S10816x2048_1_0 := by
    unfold wts V V0 hostOps0
    after_results_simp
    rfl
  rw [h]
  pointwise

/-- What a buffer holds when the run ends. -/
abbrev last (b : Ref sig .tc) := Pipeline.afterTail pcfgs (fun _ => adm m hO) (dats m hO) 0 (V0 m) [hostOps1] c b

/-- The run's last array of the projection, as the lines after the region find it. -/
theorem found : Pipeline.withArrays (Pipeline.pin pcfgs (fun _ => adm m hO) 0).spec c (V0 m c)
    (fun w => (dats m hO 0 c).arrAt w (Pipeline.pin pcfgs (fun _ => adm m hO) 0).N) (Proc.devRef .tc main_v4) = projection m c :=
  (Pipeline.withArrays_arr _ (by exact (by decide : Function.Injective (Pipeline.arrRef spec0))) c (V0 m c) _ 2).trans (final m hO c)

/-- The three results end at consecutive row ranges of the projection. -/
theorem lasts :
    last m hO c main_v5 = extractStridedSlice S1024x8192 ![0, 0] (projection m c) slices_S2688x8192_S1024x8192_0_0
    ∧ last m hO c main_v6 = extractStridedSlice S1536x8192 ![1024, 0] (projection m c) slices_S2688x8192_S1536x8192_1024_0
    ∧ last m hO c main_v7 = extractStridedSlice S48x8192 ![2560, 0] (projection m c) slices_S2688x8192_S48x8192_2560_0 := by
  unfold last Pipeline.afterTail
  rw [List.flatten_singleton]
  refine ⟨?_, ?_, ?_⟩ <;> after_results_simp <;>
    exact congrArg (extractStridedSlice _ _ · _) (found m hO c)

end Cert.Proof.Cols
-- ==== Proof.ColsClaim.lean ====
/- The feature-major projection equals the reference's: each result element is the same sum of products. -/
module

public import proofs.«01_k».proof.Proof.ColsArray
public import proofs.«01_k».proof.Proof.Gen.Reference2Ideal.Read
public import proofs.«01_k».proof.Defs

@[expose] public section

noncomputable section

namespace Cert.Proof.Cols

open Idealize.ShloMosaic Idealize.ShloMosaic.TcCoe Cert.Kernel2Ideal Cert.Kernel2Ideal.Gen Cert.Reference2Ideal.Read

/-- One element of the projection: activation row `r` by weight column `f`. -/
def element (x : Vec Ideal S1x8192x2048 .f32) (w : Vec Ideal S1x2048x10816 .f32) (r : Fin 8192) (f : Fin 10816) : Elt Ideal .f32 :=
  ∑ k : Fin 2048, x (ix3 0 r k) * w (ix3 0 k f)

variable (m : (ℓ : Loc nD τ sig) → Buf (Elt Ideal) ℓ) (hO : Ok m) (c : Dev nD)

/-- The two table entries name consecutive blocks, so the kernel's row order is the reference's column order. -/
theorem start_order (e : ℕ) (h : e < 2688) : start (e / 1344) + e % 1344 = e := by
  rcases (by omega : e / 1344 = 0 ∨ e / 1344 = 1) with q | q
  · rw [q, show start 0 = 0 from rfl]; omega
  · rw [q, show start 1 = 1344 from rfl]; omega

/-- The kernel's projection at a row of its own and a place of the activations. -/
theorem projection_at (i : S2688x8192.Idx) :
    projection m c i = element (hArg m c) (wArg m c) (i 1) ⟨(i 0).val, Nat.lt_of_lt_of_le (i 0).isLt (by decide : 2688 ≤ 10816)⟩ := by
  unfold projection element
  refine Finset.sum_congr rfl fun k _ => (mul_comm _ _).trans (congrArg₂ (· * ·) (acts_apply m c _) ((wts_apply m c _).trans ?_))
  exact congrArg (wArg m c) (congrArg (ix3 0 k) (Fin.ext (start_order _ (i 0).isLt)))

/-- The reference's projection at a row and a column. -/
theorem reference_at (x : Vec Ideal S1x8192x2048 .f32) (w : Vec Ideal S1x2048x10816 .f32) (i : Cert.Reference2Ideal.S1x8192x10816.Idx) :
    val_main_v1 (F := Ideal) x w i = element x w (i 1) (i 2) := by
  rw [val_main_v1_apply]
  unfold element
  refine Finset.sum_congr rfl fun k _ => congrArg₂ (· * ·) (congrArg x ?_) ((val_main_v0_apply _ _).trans (congrArg w ?_))
  · funext a
    match a with
    | ⟨0, _⟩ => exact Subsingleton.elim (α := Fin 1) _ _
    | ⟨1, _⟩ => rfl
    | ⟨2, _⟩ => rfl
  · have hk : k.val < 2048 := k.isLt
    have hi : (i 2).val < 10816 := (i 2).isLt
    funext a
    match a with
    | ⟨0, _⟩ => exact Subsingleton.elim (α := Fin 1) _ _
    | ⟨1, _⟩ => exact Fin.ext (by show (k.val * 10816 + (i 2).val) / 10816 % 2048 = k.val; omega)
    | ⟨2, _⟩ => exact Fin.ext (by show (k.val * 10816 + (i 2).val) % 10816 = (i 2).val; omega)

/-- Rows `o` to `o + w` of the kernel's projection are columns `o` to `o + w` of the reference's, transposed. -/
theorem rows {w o : ℕ} (hk : S2688x8192.Slices ![o, 0] ⟨2, ![w, 8192]⟩)
    (hr : Cert.Reference2Ideal.S1x8192x10816.Slices ![0, 0, o] ⟨3, ![1, 8192, w]⟩)
    (hc : Shape.ShapeCasts ⟨3, ![1, 8192, w]⟩ ⟨2, ![8192, w]⟩)
    (ht : Shape.Transposes ⟨2, ![8192, w]⟩ [1, 0] ⟨2, ![w, 8192]⟩) (hs : o + w ≤ 2688) :
    extractStridedSlice ⟨2, ![w, 8192]⟩ ![o, 0] (projection m c) hk
      = transpose ⟨2, ![w, 8192]⟩ [1, 0] (shapeCast ⟨2, ![8192, w]⟩ (extractStridedSlice ⟨3, ![1, 8192, w]⟩ ![0, 0, o]
          (val_main_v1 (F := Ideal) (hArg m c) (wArg m c)) hr) hc) ht := by
  funext i
  have h1 : (i 0).val < w := (i 0).isLt
  rw [transpose_apply [1, 0] _ ht i (ix2 (i 1) (i 0)) (fun b => match b with
        | ⟨0, _⟩ => rfl
        | ⟨1, _⟩ => rfl),
    shapeCast_apply _ hc (ix2 (i 1) (i 0)) (ix3 0 (i 1) (i 0)) (by
      rw [Shape.rowMajor_val_three, Shape.rowMajor_val_two]
      show (0 * 8192 + (i 1).val) * w + (i 0).val = (i 1).val * w + (i 0).val
      rw [Nat.zero_mul, Nat.zero_add]),
    extractStridedSlice_apply _ _ hr (ix3 0 (i 1) (i 0)) (ix3 0 (i 1) ⟨o + (i 0).val, by omega⟩)
      (fun a => match a with
        | ⟨0, _⟩ => rfl
        | ⟨1, _⟩ => (Nat.zero_add _).symm
        | ⟨2, _⟩ => rfl),
    extractStridedSlice_apply _ _ hk i (ix2 ⟨o + (i 0).val, by omega⟩ (i 1))
      (fun a => match a with
        | ⟨0, _⟩ => rfl
        | ⟨1, _⟩ => (Nat.zero_add _).symm), reference_at]
  exact projection_at m c _

/-- Both runs end with the same three arrays: the reference's columns of the projection, transposed. -/
theorem claim : Cert.algebraic_Kernel2Ideal_Reference2Ideal := by
  intro m g m' g' _ hargs
  have hO := ok m
  refine ⟨fun c => val_main_v14 (F := Ideal) (hArg m c) (wArg m c), fun c => val_main_v16 (F := Ideal) (hArg m c) (wArg m c), fun c => val_main_v18 (F := Ideal) (hArg m c) (wArg m c),
    (θ_run _ _ _).mono (fun _ h c => ?_) (run_main m g hO),
    (θ_run _ _ _).mono (fun _ h c => ?_) (Cert.Reference2Ideal.Value.run m' g')⟩
  · obtain ⟨l5, l6, l7⟩ := lasts m hO c
    have rest : ∀ b ∈ Pipeline.restRefs sig spec0, _ := (h c).2
    exact ⟨(rest main_v5 (by decide)).trans (l5.trans (rows m c _ _ _ _ (by decide))),
      (rest main_v6 (by decide)).trans (l6.trans (rows m c _ _ _ _ (by decide))),
      (rest main_v7 (by decide)).trans (l7.trans (rows m c _ _ _ _ (by decide))),
      (rest main_arg0 (by decide)).trans (W_main_arg0 m hO _ c), (rest main_arg1 (by decide)).trans (W_main_arg1 m hO _ c)⟩
  · have hc := h c
    rw [(hargs c).1, (hargs c).2] at hc
    exact ⟨hc.1, hc.2.1, hc.2.2.1, (h c).2.2.2⟩

end Cert.Proof.Cols
-- ==== Proof.Merge.lean ====
/- One row of the output projection: the two branches gated and merged, the residual, and the final norm. -/
module

public import Idealize.ShloMosaic.Lib.Pointwise
public import Idealize.ShloMosaic.Lib.Pipeline.ValueKit

@[expose] public section

noncomputable section

namespace Cert.Proof.Merge

open Idealize.ShloMosaic

/-- What one row of the result is computed from: the two branches and the gate of the first, the two merge gates, the
    residual, its modulation, and the weights. -/
structure Inputs where
  nsa : Fin 1024 → EReal
  zn : Fin 1024 → EReal
  gla : Fin 1024 → EReal
  mn : Fin 2048 → EReal
  mg : Fin 2048 → EReal
  x : Fin 2048 → EReal
  gate : Fin 2048 → EReal
  wn : Fin 1024 → Fin 2048 → EReal
  wg : Fin 1024 → Fin 2048 → EReal
  wo : Fin 2048 → Fin 2048 → EReal
  fw : Fin 2048 → EReal

/-- The two branches projected, gated and added. -/
def Inputs.merged (I : Inputs) (d : Fin 2048) : EReal :=
  Ideal.logistic (I.mn d) * ∑ e, I.nsa e * (I.zn e * Ideal.logistic (I.zn e)) * I.wn e d
    + Ideal.logistic (I.mg d) * ∑ e, I.gla e * I.wg e d

/-- The residual stream after the layer. -/
def Inputs.stream (I : Inputs) (e : Fin 2048) : EReal :=
  I.x e + I.gate e * ∑ d, I.merged d * I.wo d e

/-- The stream normed by its mean square. -/
def Inputs.row (I : Inputs) (e : Fin 2048) : EReal :=
  I.stream e * Ideal.rsqrt (Ideal.div (∑ d, I.stream d * I.stream d) (Ideal.ofBits FTy.f32 0x45000000#32) + Ideal.ofBits FTy.f32 0x358637BD#32)
    * I.fw e

/-- Two places of a matrix with the same coordinates hold the same element. -/
theorem read_at {α : Type} {a b : ℕ} (x : (⟨2, ![a, b]⟩ : Shape).Idx → α) (i j : (⟨2, ![a, b]⟩ : Shape).Idx)
    (h0 : (i 0).val = (j 0).val) (h1 : (i 1).val = (j 1).val) : x i = x j :=
  congrArg x (funext fun d => Fin.ext (match d with
    | ⟨0, _⟩ => h0
    | ⟨1, _⟩ => h1))

/-- An index of a one-batch array. -/
theorem one_batch {b d : ℕ} (i : (⟨3, ![1, b, d]⟩ : Shape).Idx) : i = ix3 0 (i 1) (i 2) :=
  funext fun a => match a with
    | ⟨0, _⟩ => Subsingleton.elim (α := Fin 1) _ _
    | ⟨1, _⟩ => rfl
    | ⟨2, _⟩ => rfl

/-- The place of element `(y, z)` of a block of `a` rows and `b` columns whose block index is `(p, q)`. -/
theorem place {T : Fin 2 → ℕ} {p q : ℕ} (h : T = ![p, q]) (a b y z : ℕ) : T 0 * a + 1 * y = p * a + y ∧ T 1 * b + 1 * z = q * b + z := by
  subst h
  exact ⟨congrArg (p * a + ·) (Nat.one_mul y), congrArg (q * b + ·) (Nat.one_mul z)⟩

end Cert.Proof.Merge
-- ==== Proof.MergeBlock.lean ====
/- One point of the prompt's output projection: the block it leaves, row by row, and the blocks it reads. -/
module

public import proofs.«01_k».proof.Proof.Merge
public import proofs.«01_k».proof.Proof.Gen.Kernel3Ideal.Frame

@[expose] public section

noncomputable section

namespace Cert.Proof.Merge.Prompt

open Idealize.ShloMosaic Idealize.ShloMosaic.TcCoe Cert.Kernel3Ideal Cert.Kernel3Ideal.Gen

/-- What the body computes from its blocks, at a row. -/
theorem body_apply (v0 v2 v18 : Vec Ideal S256x1024 .f32) (v8 v15 v26 : Vec Ideal S256x2048 .f32) (v11 v21 : Vec Ideal S1024x2048 .bf16)
    (v28 v46 : Vec Ideal S1x2048 .f32) (v30 : Vec Ideal S2048x2048 .bf16) (i : S256x2048.Idx) :
    k0_pay1 (k0_pay2 v0 v2 v8 v11 v15 v18 v21 v26 v28 v30) v46 i
      = Inputs.row ⟨fun e => v0 (ix2 (i 0) e), fun e => v2 (ix2 (i 0) e), fun e => v18 (ix2 (i 0) e), fun e => v8 (ix2 (i 0) e),
          fun e => v15 (ix2 (i 0) e), fun e => v26 (ix2 (i 0) e), fun e => v28 (ix2 0 e), fun e d => v11 (ix2 e d),
          fun e d => v21 (ix2 e d), fun e d => v30 (ix2 e d), fun e => v46 (ix2 0 e)⟩ (i 1) := by
  unfold k0_pay1 k0_pay2 Inputs.row Inputs.stream Inputs.merged
  pointwise

variable (m : (ℓ : Loc nD τ sig) → Buf (Elt Ideal) ℓ) (c : Dev nD)

def blk0 (t : Fin cfg0.N) : Vec Ideal S256x1024 .f32 := iblk m c 0 t
def blk1 (t : Fin cfg0.N) : Vec Ideal S256x1024 .f32 := iblk m c 1 t
def blk2 (t : Fin cfg0.N) : Vec Ideal S256x1024 .f32 := iblk m c 2 t
def blk3 (t : Fin cfg0.N) : Vec Ideal S256x2048 .f32 := X0_3 m c t
def blk4 (t : Fin cfg0.N) : Vec Ideal S256x2048 .f32 := X0_4 m c t
def blk5 (t : Fin cfg0.N) : Vec Ideal S256x2048 .f32 := iblk m c 5 t
def blk6 (t : Fin cfg0.N) : Vec Ideal S1x2048 .f32 := iblk m c 6 t
def blk7 (t : Fin cfg0.N) : Vec Ideal S1024x2048 .bf16 := iblk m c 7 t
def blk8 (t : Fin cfg0.N) : Vec Ideal S1024x2048 .bf16 := iblk m c 8 t
def blk9 (t : Fin cfg0.N) : Vec Ideal S2048x2048 .bf16 := iblk m c 9 t
def blk10 (t : Fin cfg0.N) : Vec Ideal S1x2048 .f32 := iblk m c 10 t

/-- What a point leaves in the result block. -/
def left (t : Fin cfg0.N) : Vec Ideal S256x2048 .f32 := outsAt0 m c t

theorem left_eq (t : Fin cfg0.N) :
    left m c t = k0_pay1 (k0_pay2 (blk0 m c t) (blk1 m c t) (blk3 m c t) (blk7 m c t) (blk4 m c t) (blk2 m c t) (blk8 m c t) (blk5 m c t)
      (blk6 m c t) (blk9 m c t)) (blk10 m c t) := by
  unfold left outsAt0 out0_A_11
  frame_out
  rfl

/-- Where each window's block begins: the moving ones at block row `t`, and the three that share an array at their columns. -/
theorem index : ∀ t : Fin grid0.N, cc0_transform_0 (grid0.coords t) = ![t.val, 0] ∧ cc0_transform_1 (grid0.coords t) = ![t.val, 4]
    ∧ cc0_transform_2 (grid0.coords t) = ![t.val, 0] ∧ cc0_transform_3 (grid0.coords t) = ![t.val, 0]
    ∧ cc0_transform_4 (grid0.coords t) = ![t.val, 1] ∧ cc0_transform_5 (grid0.coords t) = ![t.val, 0]
    ∧ cc0_transform_11 (grid0.coords t) = ![t.val, 0] := by
  decide +kernel

abbrev on : Vec Ideal S1x8192x1024 .f32 := m ((c.tc : Thread nD τ).loc main_arg0)
abbrev zn : Vec Ideal S1x8192x1024 .f32 := m ((c.tc : Thread nD τ).loc main_arg1)
abbrev og : Vec Ideal S1x8192x1024 .f32 := m ((c.tc : Thread nD τ).loc main_arg2)
abbrev mn : Vec Ideal S1x8192x2048 .f32 := m ((c.tc : Thread nD τ).loc main_arg3)
abbrev mg : Vec Ideal S1x8192x2048 .f32 := m ((c.tc : Thread nD τ).loc main_arg4)
abbrev xs : Vec Ideal S1x8192x2048 .f32 := m ((c.tc : Thread nD τ).loc main_arg5)
abbrev gate : Vec Ideal S1x2048 .f32 := m ((c.tc : Thread nD τ).loc main_arg6)
abbrev wn : Vec Ideal S1x1024x2048 .f32 := m ((c.tc : Thread nD τ).loc main_arg7)
abbrev wg : Vec Ideal S1x1024x2048 .f32 := m ((c.tc : Thread nD τ).loc main_arg8)
abbrev wo : Vec Ideal S1x2048x2048 .f32 := m ((c.tc : Thread nD τ).loc main_arg9)
abbrev fw : Vec Ideal S2048 .f32 := m ((c.tc : Thread nD τ).loc main_arg10)

/-- The branch rows, the residual rows and the weights the region reads are the arguments'. -/
theorem arrays : V m c main_v11 = shapeCast S8192x1024 (on m c) shapeCasts_S1x8192x1024_S8192x1024
    ∧ V m c main_v12 = shapeCast S8192x1024 (og m c) shapeCasts_S1x8192x1024_S8192x1024
    ∧ V m c main_v13 = shapeCast S8192x2048 (xs m c) shapeCasts_S1x8192x2048_S8192x2048
    ∧ V m c main_v6 = truncf (F := Ideal) (φ := .f32) .bf16 (shapeCast S1024x2048 (wn m c) shapeCasts_S1x1024x2048_S1024x2048) bitsLt_bf16_f32
    ∧ V m c main_v8 = truncf (F := Ideal) (φ := .f32) .bf16 (shapeCast S1024x2048 (wg m c) shapeCasts_S1x1024x2048_S1024x2048) bitsLt_bf16_f32
    ∧ V m c main_v10 = truncf (F := Ideal) (φ := .f32) .bf16 (shapeCast S2048x2048 (wo m c) shapeCasts_S1x2048x2048_S2048x2048) bitsLt_bf16_f32
    ∧ V m c main_v14 = shapeCast S1x2048 (fw m c) shapeCasts_S2048_S1x2048
    ∧ V m c main_arg6 = gate m c := by
  unfold V V0 hostOps0
  refine ⟨?_, ?_, ?_, ?_, ?_, ?_, ?_, ?_⟩ <;> after_results_simp <;> rfl

/-- The three gates side by side, as the region reads them. -/
theorem gates : V m c main_v4 = concatenate S8192x9216 1 [⟨S8192x2048, shapeCast S8192x2048 (mn m c) shapeCasts_S1x8192x2048_S8192x2048⟩,
      ⟨S8192x2048, shapeCast S8192x2048 (mg m c) shapeCasts_S1x8192x2048_S8192x2048⟩,
      ⟨S8192x1024, shapeCast S8192x1024 (zn m c) shapeCasts_S1x8192x1024_S8192x1024⟩,
      ⟨S8192x4096, broadcastInDim S8192x4096 ![] bcast_S_S8192x4096 (constant (F := Ideal) S_ .f32 0x00000000#32)⟩]
      concatenates_S8192x2048_S8192x2048_S8192x1024_S8192x4096_S8192x9216_d1 := by
  unfold V V0 hostOps0
  after_results_simp
  rfl

theorem mn_at (r : Fin 8192) (d : Fin 2048) : V m c main_v4 (ix2 r ⟨d.val, by omega⟩) = mn m c (ix3 0 r d) := by
  have := d.isLt
  rw [gates]
  pointwise

theorem mg_at (r : Fin 8192) (d : Fin 2048) : V m c main_v4 (ix2 r ⟨2048 + d.val, by omega⟩) = mg m c (ix3 0 r d) := by
  have := d.isLt
  rw [gates]
  pointwise

theorem zn_at (r : Fin 8192) (d : Fin 1024) : V m c main_v4 (ix2 r ⟨4096 + d.val, by omega⟩) = zn m c (ix3 0 r d) := by
  have := d.isLt
  rw [gates]
  pointwise
  rw [dif_neg (by omega), dif_neg (by omega), dif_pos (by omega)]
  exact congrArg (zn m c) (congrArg (ix3 0 r) (Fin.ext (by show 4096 + d.val - 2048 - 2048 = d.val; omega)))

/-- What row `r` of the result is computed from. -/
def inputs (r : Fin 8192) : Inputs :=
  ⟨fun e => on m c (ix3 0 r e), fun e => zn m c (ix3 0 r e), fun e => og m c (ix3 0 r e), fun e => mn m c (ix3 0 r e),
    fun e => mg m c (ix3 0 r e), fun e => xs m c (ix3 0 r e), fun e => gate m c (ix2 0 e), fun e d => wn m c (ix3 0 e d),
    fun e d => wg m c (ix3 0 e d), fun e d => wo m c (ix3 0 e d), fun e => fw m c (ix1 e)⟩

/-- The row of the arrays that row `y` of a point's blocks is. -/
def rowOf (t : Fin cfg0.N) (y : Fin 256) : Fin 8192 :=
  ⟨t.val * 256 + y.val, by have := lt_of_lt_of_eq t.isLt (show cfg0.N = 32 from N_0); omega⟩

theorem blk0_at (t : Fin cfg0.N) (y : Fin 256) (e : Fin 1024) : blk0 m c t (ix2 y e) = on m c (ix3 0 (rowOf t y) e) :=
  have h := place (index t).1 256 1024 y.val e.val
  (read_at (V m c main_v11) _ (ix2 (rowOf t y) e) h.1 (h.2.trans (Nat.zero_add _))).trans (by rw [(arrays m c).1]; pointwise)

theorem blk2_at (t : Fin cfg0.N) (y : Fin 256) (e : Fin 1024) : blk2 m c t (ix2 y e) = og m c (ix3 0 (rowOf t y) e) :=
  have h := place (index t).2.2.1 256 1024 y.val e.val
  (read_at (V m c main_v12) _ (ix2 (rowOf t y) e) h.1 (h.2.trans (Nat.zero_add _))).trans (by rw [(arrays m c).2.1]; pointwise)

theorem blk5_at (t : Fin cfg0.N) (y : Fin 256) (e : Fin 2048) : blk5 m c t (ix2 y e) = xs m c (ix3 0 (rowOf t y) e) :=
  have h := place (index t).2.2.2.2.2.1 256 2048 y.val e.val
  (read_at (V m c main_v13) _ (ix2 (rowOf t y) e) h.1 (h.2.trans (Nat.zero_add _))).trans (by rw [(arrays m c).2.2.1]; pointwise)

theorem blk1_at (t : Fin cfg0.N) (y : Fin 256) (e : Fin 1024) : blk1 m c t (ix2 y e) = zn m c (ix3 0 (rowOf t y) e) :=
  have h := place (index t).2.1 256 1024 y.val e.val
  (read_at (V m c main_v4) _ (ix2 (rowOf t y) ⟨4096 + e.val, by omega⟩) h.1 h.2).trans (zn_at m c _ e)

theorem blk3_at (t : Fin cfg0.N) (y : Fin 256) (e : Fin 2048) : blk3 m c t (ix2 y e) = mn m c (ix3 0 (rowOf t y) e) := by
  have h := place (index t).2.2.2.1 256 2048 y.val e.val
  refine (dif_pos (moved0_3 t (ix2 y e))).trans ?_
  exact (read_at (V m c main_v4) _ (ix2 (rowOf t y) ⟨e.val, by omega⟩) h.1 (h.2.trans (Nat.zero_add _))).trans (mn_at m c _ e)

theorem blk4_at (t : Fin cfg0.N) (y : Fin 256) (e : Fin 2048) : blk4 m c t (ix2 y e) = mg m c (ix3 0 (rowOf t y) e) := by
  have h := place (index t).2.2.2.2.1 256 2048 y.val e.val
  refine (dif_pos (moved0_4 t (ix2 y e))).trans ?_
  exact (read_at (V m c main_v4) _ (ix2 (rowOf t y) ⟨2048 + e.val, by omega⟩) h.1 h.2).trans (mg_at m c _ e)

theorem blk6_at (t : Fin cfg0.N) (d : Fin 2048) : blk6 m c t (ix2 0 d) = gate m c (ix2 0 d) :=
  have h := place (T := cc0_transform_6 (grid0.coords t)) (p := 0) (q := 0) rfl 1 2048 (0 : Fin 1).val d.val
  (read_at (V m c main_arg6) _ (ix2 0 d) (h.1.trans (Nat.zero_add _)) (h.2.trans (Nat.zero_add _))).trans (by rw [(arrays m c).2.2.2.2.2.2.2])

theorem blk7_at (t : Fin cfg0.N) (e : Fin 1024) (d : Fin 2048) : blk7 m c t (ix2 e d) = wn m c (ix3 0 e d) :=
  have h := place (T := cc0_transform_7 (grid0.coords t)) (p := 0) (q := 0) rfl 1024 2048 e.val d.val
  (read_at (V m c main_v6) _ (ix2 e d) (h.1.trans (Nat.zero_add _)) (h.2.trans (Nat.zero_add _))).trans (by rw [(arrays m c).2.2.2.1]; pointwise)

theorem blk8_at (t : Fin cfg0.N) (e : Fin 1024) (d : Fin 2048) : blk8 m c t (ix2 e d) = wg m c (ix3 0 e d) :=
  have h := place (T := cc0_transform_8 (grid0.coords t)) (p := 0) (q := 0) rfl 1024 2048 e.val d.val
  (read_at (V m c main_v8) _ (ix2 e d) (h.1.trans (Nat.zero_add _)) (h.2.trans (Nat.zero_add _))).trans (by rw [(arrays m c).2.2.2.2.1]; pointwise)

theorem blk9_at (t : Fin cfg0.N) (e : Fin 2048) (d : Fin 2048) : blk9 m c t (ix2 e d) = wo m c (ix3 0 e d) :=
  have h := place (T := cc0_transform_9 (grid0.coords t)) (p := 0) (q := 0) rfl 2048 2048 e.val d.val
  (read_at (V m c main_v10) _ (ix2 e d) (h.1.trans (Nat.zero_add _)) (h.2.trans (Nat.zero_add _))).trans (by rw [(arrays m c).2.2.2.2.2.1]; pointwise)

theorem blk10_at (t : Fin cfg0.N) (d : Fin 2048) : blk10 m c t (ix2 0 d) = fw m c (ix1 d) :=
  have h := place (T := cc0_transform_10 (grid0.coords t)) (p := 0) (q := 0) rfl 1 2048 (0 : Fin 1).val d.val
  (read_at (V m c main_v14) _ (ix2 0 d) (h.1.trans (Nat.zero_add _)) (h.2.trans (Nat.zero_add _))).trans (by rw [(arrays m c).2.2.2.2.2.2.1]; pointwise)

/-- What a point leaves, at a row. -/
theorem left_apply (t : Fin cfg0.N) (y : S256x2048.Idx) : left m c t y = (inputs m c (rowOf t (y 0))).row (y 1) := by
  rw [left_eq, body_apply]
  simp only [blk0_at m c t (y 0), blk1_at m c t (y 0), blk2_at m c t (y 0), blk3_at m c t (y 0), blk4_at m c t (y 0), blk5_at m c t (y 0), blk6_at, blk7_at, blk8_at, blk9_at, blk10_at]
  rfl

/-- The result array before it is given its batch axis. -/
def result : Vec Ideal S8192x2048 .f32 := fun i => (inputs m c (i 0)).row (i 1)

/-- The result array after the run. -/
theorem final : (dats m 0 c).arrAt 11 cfg0.N = result m c := by
  refine (dats m 0 c).arrAt_eq_of_emb 11 (result m c) (fun t _ y => ?_) (fun i => ?_)
  · have h := place (index t).2.2.2.2.2.2 256 2048 (y 0).val (y 1).val
    refine (congrFun (after0_11 m c t) y).trans ((left_apply m c t y).trans ?_)
    exact (read_at (result m c) (((cfg0.win 11).blk t).view.emb y : S8192x2048.Idx) (ix2 (rowOf t (y 0)) (y 1)) h.1 (h.2.trans (Nat.zero_add _))).symm
  · change S8192x2048.Idx at i
    have h0 : (i 0).val < 8192 := (i 0).isLt
    have hN : cfg0.N = 32 := N_0
    let t : Fin cfg0.N := ⟨(i 0).val / 256, by omega⟩
    have h := place (index t).2.2.2.2.2.2 256 2048 ((i 0).val % 256) (i 1).val
    refine ⟨t, flush0_11 .., Finset.mem_map.mpr ⟨(ix2 ⟨(i 0).val % 256, by omega⟩ (i 1) : S256x2048.Idx), Finset.mem_univ _, ?_⟩⟩
    refine funext fun a => Fin.ext ?_
    match a with
    | ⟨0, _⟩ => exact h.1.trans (by show (i 0).val / 256 * 256 + (i 0).val % 256 = (i 0).val; omega)
    | ⟨1, _⟩ => exact h.2.trans (Nat.zero_add _)

/-- The result as it is returned. -/
def returned : Vec Ideal S1x8192x2048 .f32 := fun i => (inputs m c (i 1)).row (i 2)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- The result's buffer after the lines that follow the region. -/
theorem last : Pipeline.afterTail₀ cfgs (dats m) 0 (V0 m) [hostOps1] c main_v16 = returned m c := by
  have found : Pipeline.withArrays spec0 c (V0 m c) (fun w => (dats m 0 c).arrAt w cfg0.N) (Proc.devRef .tc main_v15) = result m c :=
    (Pipeline.withArrays_arr_shared spec0 c (V0 m c) _
      (fun w w' hne e => ((dats m 0 c).arrAt_in w (shared w w' hne e) _).trans (A_eq m c w)) 11).trans (final m c)
  unfold Pipeline.afterTail₀
  rw [List.flatten_singleton]
  after_results_simp
  refine (congrArg (shapeCast S1x8192x2048 · shapeCasts_S8192x2048_S1x8192x2048) found).trans (funext fun i => ?_)
  pointwise
  rfl

end Cert.Proof.Merge.Prompt
-- ==== Proof.MergeClaim.lean ====
/- The prompt's output projection equals the reference's. -/
module

public import proofs.«01_k».proof.Proof.MergeBlock
public import proofs.«01_k».proof.Proof.Gen.Reference3Ideal.Read
public import proofs.«01_k».proof.Defs

@[expose] public section

noncomputable section

namespace Cert.Proof.Merge.Prompt

open Idealize.ShloMosaic Idealize.ShloMosaic.TcCoe Cert.Kernel3Ideal Cert.Kernel3Ideal.Gen Cert.Reference3Ideal.Read

variable (m : (ℓ : Loc nD τ sig) → Buf (Elt Ideal) ℓ) (c : Dev nD)

/-- The reference's result, of the kernel's arguments. -/
abbrev expected : Vec Ideal S1x8192x2048 .f32 :=
  val_main_v39 (F := Ideal) (on m c) (zn m c) (og m c) (mn m c) (mg m c) (xs m c) (gate m c) (wn m c) (wg m c) (wo m c) (fw m c)

/-- The reference's result is the same function of the same rows. -/
theorem expected_eq : returned m c = expected m c := by
  funext i
  rw [one_batch i]
  unfold returned inputs Inputs.row Inputs.stream Inputs.merged expected
  unfold val_main_v39 val_main_v38 val_main_v37 val_main_v36 val_main_v35 val_main_v34 val_main_v33 val_main_v32 val_main_cst_5
    val_main_v31 val_main_v30 val_main_cst_4 val_main_v29 val_main_v28 val_main_cst_3 val_main_v27 val_main_v26 val_main_v25 val_main_v24
    val_main_v23 val_main_v22 val_main_v21 val_main_v20 val_main_v19 val_main_v18 val_main_v17 val_main_v16 val_main_v15 val_main_cst_2
    val_main_v14 val_main_v13 val_main_cst_1 val_main_v12 val_main_v11 val_main_v10 val_main_v9 val_main_v8 val_main_v7 val_main_v6
    val_main_cst_0 val_main_v5 val_main_v4 val_main_cst val_main_v3 val_main_v2 val_main_v1 val_main_v0 val_main_call0_v5 val_main_call0_v4
    val_main_call0_cst_0 val_main_call0_v3 val_main_call0_v2 val_main_call0_cst val_main_call0_v1 val_main_call0_v0
  pointwise
  rfl

/-- Both runs end with the same array. -/
theorem claim : Cert.algebraic_Kernel3Ideal_Reference3Ideal := by
  intro m g m' g' _ hargs
  refine ⟨fun c => expected m c,
    (θ_run _ _ _).mono (fun _ h c => ?_) (θ_run_and (run_main m g) (unchanged m g)),
    (θ_run _ _ _).mono (fun _ h c => ?_) (Cert.Reference3Ideal.Value.run m' g')⟩
  · exact ⟨((h.1 c).2 main_v16 (by decide)).trans ((last m c).trans (expected_eq m c)), h.2 c⟩
  · obtain ⟨a0, a1, a2, a3, a4, a5, a6, a7, a8, a9, a10⟩ := hargs c
    exact ⟨(h c).1.trans ((val_main_v39_eq m' c).trans (by rw [a0, a1, a2, a3, a4, a5, a6, a7, a8, a9, a10])), (h c).2⟩

end Cert.Proof.Merge.Prompt
-- ==== Proof.MergeSample.lean ====
/- The sample batch's output projection, in one point: the blocks it reads are whole arrays, and its rows are the
   prompt's rows of other inputs. -/
module

public import proofs.«01_k».proof.Proof.Merge
public import proofs.«01_k».proof.Proof.Gen.Kernel4Ideal.Frame
public import proofs.«01_k».proof.Proof.Gen.Reference4Ideal.Read
public import proofs.«01_k».proof.Defs

@[expose] public section

noncomputable section

namespace Cert.Proof.Merge.Sample

open Idealize.ShloMosaic Idealize.ShloMosaic.TcCoe Cert.Kernel4Ideal Cert.Kernel4Ideal.Gen Cert.Reference4Ideal.Read

/-- What the body computes from its blocks, at a row. -/
theorem body_apply (v0 v2 v18 : Vec Ideal S256x1024 .f32) (v8 v15 v26 v28 : Vec Ideal S256x2048 .f32) (v11 v21 : Vec Ideal S1024x2048 .bf16)
    (v46 : Vec Ideal S1x2048 .f32) (v30 : Vec Ideal S2048x2048 .bf16) (i : S256x2048.Idx) :
    k0_pay1 (k0_pay2 v0 v2 v8 v11 v15 v18 v21 v26 v28 v30) v46 i
      = Inputs.row ⟨fun e => v0 (ix2 (i 0) e), fun e => v2 (ix2 (i 0) e), fun e => v18 (ix2 (i 0) e), fun e => v8 (ix2 (i 0) e),
          fun e => v15 (ix2 (i 0) e), fun e => v26 (ix2 (i 0) e), fun e => v28 (ix2 (i 0) e), fun e d => v11 (ix2 e d),
          fun e d => v21 (ix2 e d), fun e d => v30 (ix2 e d), fun e => v46 (ix2 0 e)⟩ (i 1) := by
  unfold k0_pay1 k0_pay2 Inputs.row Inputs.stream Inputs.merged
  pointwise

variable (m : (ℓ : Loc nD τ sig) → Buf (Elt Ideal) ℓ) (c : Dev nD)

abbrev on : Vec Ideal S32x8x1024 .f32 := m ((c.tc : Thread nD τ).loc main_arg0)
abbrev zn : Vec Ideal S32x8x1024 .f32 := m ((c.tc : Thread nD τ).loc main_arg1)
abbrev og : Vec Ideal S32x8x1024 .f32 := m ((c.tc : Thread nD τ).loc main_arg2)
abbrev mn : Vec Ideal S32x8x2048 .f32 := m ((c.tc : Thread nD τ).loc main_arg3)
abbrev mg : Vec Ideal S32x8x2048 .f32 := m ((c.tc : Thread nD τ).loc main_arg4)
abbrev xs : Vec Ideal S32x8x2048 .f32 := m ((c.tc : Thread nD τ).loc main_arg5)
abbrev gate : Vec Ideal S32x2048 .f32 := m ((c.tc : Thread nD τ).loc main_arg6)
abbrev wn : Vec Ideal S1x1024x2048 .f32 := m ((c.tc : Thread nD τ).loc main_arg7)
abbrev wg : Vec Ideal S1x1024x2048 .f32 := m ((c.tc : Thread nD τ).loc main_arg8)
abbrev wo : Vec Ideal S1x2048x2048 .f32 := m ((c.tc : Thread nD τ).loc main_arg9)
abbrev fw : Vec Ideal S2048 .f32 := m ((c.tc : Thread nD τ).loc main_arg10)

/-- Every window's block begins at row 0; the three that share an array begin at their columns. -/
theorem index : ∀ t : Fin grid0.N, cc0_transform_0 (grid0.coords t) = ![0, 0] ∧ cc0_transform_1 (grid0.coords t) = ![0, 4]
    ∧ cc0_transform_2 (grid0.coords t) = ![0, 0] ∧ cc0_transform_3 (grid0.coords t) = ![0, 0]
    ∧ cc0_transform_4 (grid0.coords t) = ![0, 1] ∧ cc0_transform_5 (grid0.coords t) = ![0, 0]
    ∧ cc0_transform_6 (grid0.coords t) = ![0, 0] ∧ cc0_transform_11 (grid0.coords t) = ![0, 0] := by
  decide +kernel

/-- A block that begins at the array's corner reads the array at its own places. -/
theorem corner {T : Fin 2 → ℕ} (h : T = ![0, 0]) (a b y z : ℕ) : T 0 * a + 1 * y = y ∧ T 1 * b + 1 * z = z :=
  ⟨(place h a b y z).1.trans (by omega), (place h a b y z).2.trans (by omega)⟩

/-- The arrays the region reads, of the arguments. -/
theorem arrays : V m c main_v13 = shapeCast S256x1024 (on m c) shapeCasts_S32x8x1024_S256x1024
    ∧ V m c main_v14 = shapeCast S256x1024 (og m c) shapeCasts_S32x8x1024_S256x1024
    ∧ V m c main_v15 = shapeCast S256x2048 (xs m c) shapeCasts_S32x8x2048_S256x2048
    ∧ V m c main_v6 = shapeCast S256x2048 (broadcastInDim S32x8x2048 ![0, 2] bcast_S32x2048_S32x8x2048_0_2 (gate m c)) shapeCasts_S32x8x2048_S256x2048
    ∧ V m c main_v8 = truncf (F := Ideal) (φ := .f32) .bf16 (shapeCast S1024x2048 (wn m c) shapeCasts_S1x1024x2048_S1024x2048) bitsLt_bf16_f32
    ∧ V m c main_v10 = truncf (F := Ideal) (φ := .f32) .bf16 (shapeCast S1024x2048 (wg m c) shapeCasts_S1x1024x2048_S1024x2048) bitsLt_bf16_f32
    ∧ V m c main_v12 = truncf (F := Ideal) (φ := .f32) .bf16 (shapeCast S2048x2048 (wo m c) shapeCasts_S1x2048x2048_S2048x2048) bitsLt_bf16_f32
    ∧ V m c main_v16 = shapeCast S1x2048 (fw m c) shapeCasts_S2048_S1x2048
    ∧ V m c main_v4 = concatenate S256x9216 1 [⟨S256x2048, shapeCast S256x2048 (mn m c) shapeCasts_S32x8x2048_S256x2048⟩,
      ⟨S256x2048, shapeCast S256x2048 (mg m c) shapeCasts_S32x8x2048_S256x2048⟩,
      ⟨S256x1024, shapeCast S256x1024 (zn m c) shapeCasts_S32x8x1024_S256x1024⟩,
      ⟨S256x4096, broadcastInDim S256x4096 ![] bcast_S_S256x4096 (constant (F := Ideal) S_ .f32 0x00000000#32)⟩]
      concatenates_S256x2048_S256x2048_S256x1024_S256x4096_S256x9216_d1 := by
  unfold V V0 hostOps0
  refine ⟨?_, ?_, ?_, ?_, ?_, ?_, ?_, ?_, ?_⟩ <;> after_results_simp <;> rfl

/-- The request and the token of a row. -/
abbrev request (r : Fin 256) : Fin 32 := ⟨r.val / 8, by omega⟩
abbrev token (r : Fin 256) : Fin 8 := ⟨r.val % 8, by omega⟩

def blk0 (t : Fin cfg0.N) : Vec Ideal S256x1024 .f32 := iblk m c 0 t
def blk1 (t : Fin cfg0.N) : Vec Ideal S256x1024 .f32 := iblk m c 1 t
def blk2 (t : Fin cfg0.N) : Vec Ideal S256x1024 .f32 := iblk m c 2 t
def blk3 (t : Fin cfg0.N) : Vec Ideal S256x2048 .f32 := X0_3 m c t
def blk4 (t : Fin cfg0.N) : Vec Ideal S256x2048 .f32 := X0_4 m c t
def blk5 (t : Fin cfg0.N) : Vec Ideal S256x2048 .f32 := iblk m c 5 t
def blk6 (t : Fin cfg0.N) : Vec Ideal S256x2048 .f32 := iblk m c 6 t
def blk7 (t : Fin cfg0.N) : Vec Ideal S1024x2048 .bf16 := iblk m c 7 t
def blk8 (t : Fin cfg0.N) : Vec Ideal S1024x2048 .bf16 := iblk m c 8 t
def blk9 (t : Fin cfg0.N) : Vec Ideal S2048x2048 .bf16 := iblk m c 9 t
def blk10 (t : Fin cfg0.N) : Vec Ideal S1x2048 .f32 := iblk m c 10 t

/-- What the point leaves in the result block. -/
def left (t : Fin cfg0.N) : Vec Ideal S256x2048 .f32 := outsAt0 m c t

theorem left_eq (t : Fin cfg0.N) :
    left m c t = k0_pay1 (k0_pay2 (blk0 m c t) (blk1 m c t) (blk3 m c t) (blk7 m c t) (blk4 m c t) (blk2 m c t) (blk8 m c t) (blk5 m c t)
      (blk6 m c t) (blk9 m c t)) (blk10 m c t) := by
  unfold left outsAt0 out0_A_11
  frame_out
  rfl

theorem blk0_at (t : Fin cfg0.N) (y : Fin 256) (e : Fin 1024) : blk0 m c t (ix2 y e) = on m c (ix3 (request y) (token y) e) :=
  have h := corner (index t).1 256 1024 y.val e.val
  (read_at (V m c main_v13) _ (ix2 y e) h.1 h.2).trans (by rw [(arrays m c).1]; pointwise)

theorem blk2_at (t : Fin cfg0.N) (y : Fin 256) (e : Fin 1024) : blk2 m c t (ix2 y e) = og m c (ix3 (request y) (token y) e) :=
  have h := corner (index t).2.2.1 256 1024 y.val e.val
  (read_at (V m c main_v14) _ (ix2 y e) h.1 h.2).trans (by rw [(arrays m c).2.1]; pointwise)

theorem blk5_at (t : Fin cfg0.N) (y : Fin 256) (e : Fin 2048) : blk5 m c t (ix2 y e) = xs m c (ix3 (request y) (token y) e) :=
  have h := corner (index t).2.2.2.2.2.1 256 2048 y.val e.val
  (read_at (V m c main_v15) _ (ix2 y e) h.1 h.2).trans (by rw [(arrays m c).2.2.1]; pointwise)

theorem blk6_at (t : Fin cfg0.N) (y : Fin 256) (e : Fin 2048) : blk6 m c t (ix2 y e) = gate m c (ix2 (request y) e) :=
  have h := corner (index t).2.2.2.2.2.2.1 256 2048 y.val e.val
  (read_at (V m c main_v6) _ (ix2 y e) h.1 h.2).trans (by rw [(arrays m c).2.2.2.1]; pointwise)

theorem blk3_at (t : Fin cfg0.N) (y : Fin 256) (e : Fin 2048) : blk3 m c t (ix2 y e) = mn m c (ix3 (request y) (token y) e) := by
  have h := corner (index t).2.2.2.1 256 2048 y.val e.val
  refine (dif_pos (moved0_3 t (ix2 y e))).trans ((read_at (V m c main_v4) _ (ix2 y ⟨e.val, by omega⟩) h.1 h.2).trans ?_)
  rw [(arrays m c).2.2.2.2.2.2.2.2]
  pointwise

theorem blk4_at (t : Fin cfg0.N) (y : Fin 256) (e : Fin 2048) : blk4 m c t (ix2 y e) = mg m c (ix3 (request y) (token y) e) := by
  have h := place (index t).2.2.2.2.1 256 2048 y.val e.val
  refine (dif_pos (moved0_4 t (ix2 y e))).trans ((read_at (V m c main_v4) _ (ix2 y ⟨2048 + e.val, by omega⟩) (h.1.trans (Nat.zero_add y.val)) h.2).trans ?_)
  rw [(arrays m c).2.2.2.2.2.2.2.2]
  pointwise

theorem blk1_at (t : Fin cfg0.N) (y : Fin 256) (e : Fin 1024) : blk1 m c t (ix2 y e) = zn m c (ix3 (request y) (token y) e) := by
  have h := place (index t).2.1 256 1024 y.val e.val
  have he := e.isLt
  refine (read_at (V m c main_v4) _ (ix2 y ⟨4096 + e.val, by omega⟩) (h.1.trans (Nat.zero_add y.val)) h.2).trans ?_
  rw [(arrays m c).2.2.2.2.2.2.2.2]
  pointwise
  rw [dif_neg (by omega), dif_neg (by omega), dif_pos (by omega)]
  exact congrArg (zn m c) (congrArg (ix3 _ _) (Fin.ext (by show 4096 + e.val - 2048 - 2048 = e.val; omega)))

theorem blk7_at (t : Fin cfg0.N) (e : Fin 1024) (d : Fin 2048) : blk7 m c t (ix2 e d) = wn m c (ix3 0 e d) :=
  have h := corner (T := cc0_transform_7 (grid0.coords t)) rfl 1024 2048 e.val d.val
  (read_at (V m c main_v8) _ (ix2 e d) h.1 h.2).trans (by rw [(arrays m c).2.2.2.2.1]; pointwise)

theorem blk8_at (t : Fin cfg0.N) (e : Fin 1024) (d : Fin 2048) : blk8 m c t (ix2 e d) = wg m c (ix3 0 e d) :=
  have h := corner (T := cc0_transform_8 (grid0.coords t)) rfl 1024 2048 e.val d.val
  (read_at (V m c main_v10) _ (ix2 e d) h.1 h.2).trans (by rw [(arrays m c).2.2.2.2.2.1]; pointwise)

theorem blk9_at (t : Fin cfg0.N) (e : Fin 2048) (d : Fin 2048) : blk9 m c t (ix2 e d) = wo m c (ix3 0 e d) :=
  have h := corner (T := cc0_transform_9 (grid0.coords t)) rfl 2048 2048 e.val d.val
  (read_at (V m c main_v12) _ (ix2 e d) h.1 h.2).trans (by rw [(arrays m c).2.2.2.2.2.2.1]; pointwise)

theorem blk10_at (t : Fin cfg0.N) (d : Fin 2048) : blk10 m c t (ix2 0 d) = fw m c (ix1 d) :=
  have h := corner (T := cc0_transform_10 (grid0.coords t)) rfl 1 2048 (0 : Fin 1).val d.val
  (read_at (V m c main_v16) _ (ix2 0 d) h.1 h.2).trans (by rw [(arrays m c).2.2.2.2.2.2.2.1]; pointwise)

/-- What row `(b, r)` of the result is computed from. -/
def inputs (b : Fin 32) (r : Fin 8) : Inputs :=
  ⟨fun e => on m c (ix3 b r e), fun e => zn m c (ix3 b r e), fun e => og m c (ix3 b r e), fun e => mn m c (ix3 b r e),
    fun e => mg m c (ix3 b r e), fun e => xs m c (ix3 b r e), fun e => gate m c (ix2 b e), fun e d => wn m c (ix3 0 e d),
    fun e d => wg m c (ix3 0 e d), fun e d => wo m c (ix3 0 e d), fun e => fw m c (ix1 e)⟩

/-- The result array before its rows are split by request. -/
def result : Vec Ideal S256x2048 .f32 := fun i => (inputs m c (request (i 0)) (token (i 0))).row (i 1)

/-- What the point leaves is the result array. -/
theorem left_apply (t : Fin cfg0.N) (y : S256x2048.Idx) : left m c t y = result m c y := by
  rw [left_eq, body_apply]
  simp only [blk0_at m c t (y 0), blk1_at m c t (y 0), blk2_at m c t (y 0), blk3_at m c t (y 0), blk4_at m c t (y 0), blk5_at m c t (y 0), blk6_at m c t (y 0),
    blk7_at, blk8_at, blk9_at, blk10_at]
  rfl

/-- The result array after the run. -/
theorem final : (dats m 0 c).arrAt 11 cfg0.N = result m c := by
  have place11 (t : Fin cfg0.N) (y : S256x2048.Idx) : (((cfg0.win 11).blk t).view.emb y : S256x2048.Idx) = y := by
    have h := corner (index t).2.2.2.2.2.2.2 256 2048 (y 0).val (y 1).val
    refine funext fun a => Fin.ext ?_
    match a with
    | ⟨0, _⟩ => exact h.1
    | ⟨1, _⟩ => exact h.2
  refine (dats m 0 c).arrAt_eq_of_emb 11 (result m c) (fun t _ y => ?_) (fun i => ?_)
  · exact (congrFun (after0_11 m c t) y).trans ((left_apply m c t y).trans (congrArg (result m c) (place11 t y).symm))
  · exact ⟨t0_0, flush0_11 .., Finset.mem_map.mpr ⟨i, Finset.mem_univ _, place11 t0_0 i⟩⟩

/-- The result as it is returned. -/
def returned : Vec Ideal S32x8x2048 .f32 := fun i => (inputs m c (i 0) (i 1)).row (i 2)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- The result's buffer after the lines that follow the region. -/
theorem last : Pipeline.afterTail₀ cfgs (dats m) 0 (V0 m) [hostOps1] c main_v18 = returned m c := by
  have found : Pipeline.withArrays spec0 c (V0 m c) (fun w => (dats m 0 c).arrAt w cfg0.N) (Proc.devRef .tc main_v17) = result m c :=
    (Pipeline.withArrays_arr_shared spec0 c (V0 m c) _
      (fun w w' hne e => ((dats m 0 c).arrAt_in w (shared w w' hne e) _).trans (A_eq m c w)) 11).trans (final m c)
  unfold Pipeline.afterTail₀
  rw [List.flatten_singleton]
  after_results_simp
  refine (congrArg (shapeCast S32x8x2048 · shapeCasts_S256x2048_S32x8x2048) found).trans (funext fun i => ?_)
  have h0 : (i 0).val < 32 := (i 0).isLt
  have h1 : (i 1).val < 8 := (i 1).isLt
  pointwise
  have hb : request ⟨(i 0).val * 8 + (i 1).val, by omega⟩ = i 0 :=
    Fin.ext (by show ((i 0).val * 8 + (i 1).val) / 8 = (i 0).val; omega)
  have hr : token ⟨(i 0).val * 8 + (i 1).val, by omega⟩ = i 1 :=
    Fin.ext (by show ((i 0).val * 8 + (i 1).val) % 8 = (i 1).val; omega)
  exact congrArg₂ (fun b r => (inputs m c b r).row (i 2)) hb hr

/-- The reference's result, of the kernel's arguments. -/
abbrev expected : Vec Ideal S32x8x2048 .f32 :=
  val_main_v39 (F := Ideal) (on m c) (zn m c) (og m c) (mn m c) (mg m c) (xs m c) (gate m c) (wn m c) (wg m c) (wo m c) (fw m c)

/-- The reference's result is the same function of the same rows. -/
theorem expected_eq : returned m c = expected m c := by
  funext i
  rw [ValueIdx.eq_ix3 i]
  unfold returned inputs Inputs.row Inputs.stream Inputs.merged expected
  unfold val_main_v39 val_main_v38 val_main_v37 val_main_v36 val_main_v35 val_main_v34 val_main_v33 val_main_v32 val_main_cst_5
    val_main_v31 val_main_v30 val_main_cst_4 val_main_v29 val_main_v28 val_main_cst_3 val_main_v27 val_main_v26 val_main_v25 val_main_v24
    val_main_v23 val_main_v22 val_main_v21 val_main_v20 val_main_v19 val_main_v18 val_main_v17 val_main_v16 val_main_v15 val_main_cst_2
    val_main_v14 val_main_v13 val_main_cst_1 val_main_v12 val_main_v11 val_main_v10 val_main_v9 val_main_v8 val_main_v7 val_main_v6
    val_main_cst_0 val_main_v5 val_main_v4 val_main_cst val_main_v3 val_main_v2 val_main_v1 val_main_v0 val_main_call0_v5 val_main_call0_v4
    val_main_call0_cst_0 val_main_call0_v3 val_main_call0_v2 val_main_call0_cst val_main_call0_v1 val_main_call0_v0
  pointwise
  rfl

/-- Both runs end with the same array. -/
theorem claim : Cert.algebraic_Kernel4Ideal_Reference4Ideal := by
  intro m g m' g' _ hargs
  refine ⟨fun c => expected m c,
    (θ_run _ _ _).mono (fun _ h c => ?_) (θ_run_and (run_main m g) (unchanged m g)),
    (θ_run _ _ _).mono (fun _ h c => ?_) (Cert.Reference4Ideal.Value.run m' g')⟩
  · exact ⟨((h.1 c).2 main_v18 (by decide)).trans ((last m c).trans (expected_eq m c)), h.2 c⟩
  · obtain ⟨a0, a1, a2, a3, a4, a5, a6, a7, a8, a9, a10⟩ := hargs c
    exact ⟨(h c).1.trans ((val_main_v39_eq m' c).trans (by rw [a0, a1, a2, a3, a4, a5, a6, a7, a8, a9, a10])), (h c).2⟩

end Cert.Proof.Merge.Sample
-- ==== Proof.Rotate.lean ====
/- The rotary embedding of one feature-major column: four heads of 64 rows are rotated, the 256 rows below them are copied. -/
module

public import Idealize.ShloMosaic.Lib.Pipeline.ValueKit
public import Idealize.ShloMosaic.Lib.Pointwise

@[expose] public section

noncomputable section

namespace Cert.Proof.Rotate

open Idealize.ShloMosaic

/-- The row's place in its half head. -/
def half (a : Fin 512) : Fin 32 := ⟨a.val % 32, by omega⟩

/-- The row `k` later. -/
def later (k : ℕ) (a : Fin 512) : Fin 512 := ⟨(a.val + k) % 512, by omega⟩

/-- The row `k` earlier. -/
def earlier (k : ℕ) (a : Fin 512) : Fin 512 := ⟨a.val - k, by omega⟩

/-- Row `a` of a rotated column. -/
def turned (x : Fin 512 → Ideal .f32) (c s : Fin 32 → Ideal .f32) (a : Fin 512) : Ideal .f32 :=
  if a.val < 256 then
    if a.val % 64 < 32 then x a * c (half a) - x (later 32 a) * s (half a)
    else x a * c (half a) + x (earlier 32 a) * s (half a)
  else x a

/-- A row of a head's first half, as it is computed from the blocks. -/
theorem first_half {n : ℕ} (X : Vec Ideal ⟨2, ![512, n]⟩ .f32) (C S : Vec Ideal ⟨2, ![32, n]⟩ .f32) (y : Shape.Idx ⟨2, ![512, n]⟩)
    (x : Shape.Idx ⟨2, ![32, n]⟩) (a b : Fin 512) (h1 : (y 1).val = (x 1).val) (ha : a.val = (y 0).val) (hb : b.val = (y 0).val + 32)
    (hx : (x 0).val = (y 0).val % 32) (low : (y 0).val < 256) (part : (y 0).val % 64 < 32) :
    X (ix2 a (x 1)) * C x - X (ix2 b (x 1)) * S x
      = turned (fun a => X (ix2 a (y 1))) (fun d => C (ix2 d (y 1))) (fun d => S (ix2 d (y 1))) (y 0) := by
  have e1 : x 1 = y 1 := Fin.ext h1.symm
  have ea : a = y 0 := Fin.ext ha
  have eb : b = later 32 (y 0) := Fin.ext (by show b.val = ((y 0).val + 32) % 512; omega)
  have ex : x = ix2 (half (y 0)) (y 1) := funext fun k => Fin.ext (match k with
    | ⟨0, _⟩ => hx
    | ⟨1, _⟩ => h1.symm)
  unfold turned
  rw [if_pos low, if_pos part, e1, ea, eb, ex]
  rfl

/-- A row of a head's second half. -/
theorem second_half {n : ℕ} (X : Vec Ideal ⟨2, ![512, n]⟩ .f32) (C S : Vec Ideal ⟨2, ![32, n]⟩ .f32) (y : Shape.Idx ⟨2, ![512, n]⟩)
    (x : Shape.Idx ⟨2, ![32, n]⟩) (a b : Fin 512) (h1 : (y 1).val = (x 1).val) (ha : a.val = (y 0).val) (hb : b.val = (y 0).val - 32)
    (hx : (x 0).val = (y 0).val % 32) (low : (y 0).val < 256) (part : ¬(y 0).val % 64 < 32) :
    X (ix2 a (x 1)) * C x + X (ix2 b (x 1)) * S x
      = turned (fun a => X (ix2 a (y 1))) (fun d => C (ix2 d (y 1))) (fun d => S (ix2 d (y 1))) (y 0) := by
  have e1 : x 1 = y 1 := Fin.ext h1.symm
  have ea : a = y 0 := Fin.ext ha
  have eb : b = earlier 32 (y 0) := Fin.ext hb
  have ex : x = ix2 (half (y 0)) (y 1) := funext fun k => Fin.ext (match k with
    | ⟨0, _⟩ => hx
    | ⟨1, _⟩ => h1.symm)
  unfold turned
  rw [if_pos low, if_neg part, e1, ea, eb, ex]
  rfl

/-- A row that is copied. -/
theorem copied {n : ℕ} (X : Vec Ideal ⟨2, ![512, n]⟩ .f32) (C S : Vec Ideal ⟨2, ![32, n]⟩ .f32) (y : Shape.Idx ⟨2, ![512, n]⟩)
    (a : Fin 512) (b : Fin n) (h1 : (y 1).val = b.val) (ha : a.val = (y 0).val) (low : ¬(y 0).val < 256) :
    X (ix2 a b) = turned (fun a => X (ix2 a (y 1))) (fun d => C (ix2 d (y 1))) (fun d => S (ix2 d (y 1))) (y 0) := by
  have e1 : b = y 1 := Fin.ext h1.symm
  have ea : a = y 0 := Fin.ext ha
  unfold turned
  rw [if_neg low, e1, ea]

/-- The row of key or value `d` of head `h`; keys come first. -/
def spot (s : Fin 2) (h : Fin 4) (d : Fin 64) : Fin 512 := ⟨s.val * 256 + h.val * 64 + d.val, by omega⟩

/-- The turned rows by key or value, head and feature: a key's halves are turned, a value is left. -/
theorem turned_spot (kv : Fin 1536 → EReal) (C S : Fin 32 → EReal) (k : Fin 3) (s : Fin 2) (h : Fin 4) (d : Fin 64) :
    (if _ : s.val < 1 then
      if _ : d.val < 32 then
        kv ⟨k.val * 512 + h.val * 64 + d.val, by omega⟩ * C ⟨d.val, by omega⟩
          - kv ⟨k.val * 512 + h.val * 64 + (32 + d.val), by omega⟩ * S ⟨d.val, by omega⟩
      else
        kv ⟨k.val * 512 + h.val * 64 + (32 + (d.val - 32)), by omega⟩ * C ⟨d.val - 32, by omega⟩
          + kv ⟨k.val * 512 + h.val * 64 + (d.val - 32), by omega⟩ * S ⟨d.val - 32, by omega⟩
    else kv ⟨k.val * 512 + 256 + h.val * 64 + d.val, by omega⟩)
      = turned (fun a => kv ⟨k.val * 512 + a.val, by omega⟩) C S (spot s h d) := by
  have hs : s.val = 0 ∨ s.val = 1 := by omega
  have hv : (spot s h d).val = s.val * 256 + h.val * 64 + d.val := rfl
  unfold turned
  by_cases h0 : s.val < 1
  · rw [dif_pos h0, if_pos (by omega)]
    by_cases h1 : d.val < 32
    · rw [dif_pos h1, if_pos (by omega)]
      refine congrArg₂ (· - ·) (congrArg₂ (· * ·) (congrArg kv (Fin.ext ?_)) (congrArg C (Fin.ext ?_)))
        (congrArg₂ (· * ·) (congrArg kv (Fin.ext ?_)) (congrArg S (Fin.ext ?_)))
      · show k.val * 512 + h.val * 64 + d.val = k.val * 512 + (s.val * 256 + h.val * 64 + d.val); omega
      · show d.val = (s.val * 256 + h.val * 64 + d.val) % 32; omega
      · show k.val * 512 + h.val * 64 + (32 + d.val) = k.val * 512 + (s.val * 256 + h.val * 64 + d.val + 32) % 512; omega
      · show d.val = (s.val * 256 + h.val * 64 + d.val) % 32; omega
    · rw [dif_neg h1, if_neg (by omega)]
      refine congrArg₂ (· + ·) (congrArg₂ (· * ·) (congrArg kv (Fin.ext ?_)) (congrArg C (Fin.ext ?_)))
        (congrArg₂ (· * ·) (congrArg kv (Fin.ext ?_)) (congrArg S (Fin.ext ?_)))
      · show k.val * 512 + h.val * 64 + (32 + (d.val - 32)) = k.val * 512 + (s.val * 256 + h.val * 64 + d.val); omega
      · show d.val - 32 = (s.val * 256 + h.val * 64 + d.val) % 32; omega
      · show k.val * 512 + h.val * 64 + (d.val - 32) = k.val * 512 + (s.val * 256 + h.val * 64 + d.val - 32); omega
      · show d.val - 32 = (s.val * 256 + h.val * 64 + d.val) % 32; omega
  · rw [dif_neg h0, if_neg (by omega)]
    exact congrArg kv (Fin.ext (by show k.val * 512 + 256 + h.val * 64 + d.val = k.val * 512 + (s.val * 256 + h.val * 64 + d.val); omega))

end Cert.Proof.Rotate
-- ==== Proof.RotatePrompt.lean ====
/- The prompt's keys, rotated in sixteen points, and its values: what a point leaves, the blocks it reads, and the arrays
   the call returns beside the reference's. -/
module

public import proofs.«01_k».proof.Proof.Merge
public import proofs.«01_k».proof.Proof.Rotate
public import proofs.«01_k».proof.Proof.Gen.Kernel5Ideal.Frame
public import proofs.«01_k».proof.Proof.Gen.Reference5Ideal.Read
public import proofs.«01_k».proof.Defs

@[expose] public section

noncomputable section

namespace Cert.Proof.Rotate.Prompt

open Idealize.ShloMosaic Idealize.ShloMosaic.TcCoe Cert.Kernel5Ideal Cert.Kernel5Ideal.Gen Cert.Reference5Ideal.Read
open Cert.Proof.Merge (read_at place)

/-- The nine pieces a point stores for one of its three blocks: the halves of the four heads' keys turned, and the values. -/
theorem pieces (X : Vec Ideal S512x512 .f32) (C S : Vec Ideal S32x512 .f32) (y : S512x512.Idx) :
    View.canon (Val := Elt Ideal) (s := S512x512) (e := .f32) [⟨Rect.unit ![256, 0] ![256, 512] inb_S512x512_S256x512_256_0, k0_pay92 (View.ld X (Rect.unit ![256, 0] ![256, 512] inb_S512x512_S256x512_256_0))⟩,
        ⟨Rect.unit ![224, 0] ![32, 512] inb_S512x512_S32x512_224_0, k0_pay79 (k0_pay2 C) (k0_pay3 S)
          (View.ld X (Rect.unit ![192, 0] ![32, 512] inb_S512x512_S32x512_192_0)) (View.ld X (Rect.unit ![224, 0] ![32, 512] inb_S512x512_S32x512_224_0))⟩,
        ⟨Rect.unit ![192, 0] ![32, 512] inb_S512x512_S32x512_192_0, k0_pay78 (k0_pay2 C) (k0_pay3 S)
          (View.ld X (Rect.unit ![192, 0] ![32, 512] inb_S512x512_S32x512_192_0)) (View.ld X (Rect.unit ![224, 0] ![32, 512] inb_S512x512_S32x512_224_0))⟩,
        ⟨Rect.unit ![160, 0] ![32, 512] inb_S512x512_S32x512_160_0, k0_pay79 (k0_pay2 C) (k0_pay3 S)
          (View.ld X (Rect.unit ![128, 0] ![32, 512] inb_S512x512_S32x512_128_0)) (View.ld X (Rect.unit ![160, 0] ![32, 512] inb_S512x512_S32x512_160_0))⟩,
        ⟨Rect.unit ![128, 0] ![32, 512] inb_S512x512_S32x512_128_0, k0_pay78 (k0_pay2 C) (k0_pay3 S)
          (View.ld X (Rect.unit ![128, 0] ![32, 512] inb_S512x512_S32x512_128_0)) (View.ld X (Rect.unit ![160, 0] ![32, 512] inb_S512x512_S32x512_160_0))⟩,
        ⟨Rect.unit ![96, 0] ![32, 512] inb_S512x512_S32x512_96_0, k0_pay79 (k0_pay2 C) (k0_pay3 S)
          (View.ld X (Rect.unit ![64, 0] ![32, 512] inb_S512x512_S32x512_64_0)) (View.ld X (Rect.unit ![96, 0] ![32, 512] inb_S512x512_S32x512_96_0))⟩,
        ⟨Rect.unit ![64, 0] ![32, 512] inb_S512x512_S32x512_64_0, k0_pay78 (k0_pay2 C) (k0_pay3 S)
          (View.ld X (Rect.unit ![64, 0] ![32, 512] inb_S512x512_S32x512_64_0)) (View.ld X (Rect.unit ![96, 0] ![32, 512] inb_S512x512_S32x512_96_0))⟩,
        ⟨Rect.unit ![32, 0] ![32, 512] inb_S512x512_S32x512_32_0, k0_pay79 (k0_pay2 C) (k0_pay3 S)
          (View.ld X (Rect.unit ![0, 0] ![32, 512] inb_S512x512_S32x512_0_0)) (View.ld X (Rect.unit ![32, 0] ![32, 512] inb_S512x512_S32x512_32_0))⟩,
        ⟨Rect.unit ![0, 0] ![32, 512] inb_S512x512_S32x512_0_0, k0_pay78 (k0_pay2 C) (k0_pay3 S)
          (View.ld X (Rect.unit ![0, 0] ![32, 512] inb_S512x512_S32x512_0_0)) (View.ld X (Rect.unit ![32, 0] ![32, 512] inb_S512x512_S32x512_32_0))⟩] y
      = turned (fun a => X (ix2 a (y 1))) (fun d => C (ix2 d (y 1))) (fun d => S (ix2 d (y 1))) (y 0) := by
  canon_tiles x h using View.cover_of_tiledBy _ ![32, 512] (by sl_kernel_rfl) y
  all_goals
    open_payloads
    pointwise
    first
    | exact first_half X C S y x _ _ (by omega) (by dsimp only; omega) (by dsimp only; omega) (by omega) (by omega) (by omega)
    | exact second_half X C S y x _ _ (by omega) (by dsimp only; omega) (by dsimp only; omega) (by omega) (by omega) (by omega)
    | exact copied X C S y _ _ (by omega) (by dsimp only; omega) (by omega)

variable (m : (ℓ : Loc nD τ sig) → Buf (Elt Ideal) ℓ) (c : Dev nD)

def blk1 (t : Fin cfg0.N) : Vec Ideal S512x512 .f32 := X0_1 m c t
def blk2 (t : Fin cfg0.N) : Vec Ideal S512x512 .f32 := X0_2 m c t
def blk3 (t : Fin cfg0.N) : Vec Ideal S512x512 .f32 := X0_3 m c t
def blk4 (t : Fin cfg0.N) : Vec Ideal S32x512 .f32 := iblk m c 4 t
def blk5 (t : Fin cfg0.N) : Vec Ideal S32x512 .f32 := iblk m c 5 t

/-- What a point leaves in the three result blocks. -/
def left7 (t : Fin cfg0.N) : Vec Ideal S512x512 .f32 := (outsAt0 m c t).2.1
def left8 (t : Fin cfg0.N) : Vec Ideal S512x512 .f32 := (outsAt0 m c t).2.2.1
def left9 (t : Fin cfg0.N) : Vec Ideal S512x512 .f32 := (outsAt0 m c t).2.2.2.1

/-- A block turned by the point's tables. -/
def turn (t : Fin cfg0.N) (X : Vec Ideal S512x512 .f32) : Vec Ideal S512x512 .f32 := fun y =>
  turned (fun a => X (ix2 a (y 1))) (fun d => blk4 m c t (ix2 d (y 1))) (fun d => blk5 m c t (ix2 d (y 1))) (y 0)

theorem left7_eq (t : Fin cfg0.N) : left7 m c t = turn m c t (blk1 m c t) := by
  funext y
  unfold left7 outsAt0 out0_A_7
  frame_out
  exact pieces (blk1 m c t) (blk4 m c t) (blk5 m c t) y

theorem left8_eq (t : Fin cfg0.N) : left8 m c t = turn m c t (blk2 m c t) := by
  funext y
  unfold left8 outsAt0 out0_A_8
  frame_out
  exact pieces (blk2 m c t) (blk4 m c t) (blk5 m c t) y

theorem left9_eq (t : Fin cfg0.N) : left9 m c t = turn m c t (blk3 m c t) := by
  funext y
  unfold left9 outsAt0 out0_A_9
  frame_out
  exact pieces (blk3 m c t) (blk4 m c t) (blk5 m c t) y

abbrev qs : Vec Ideal S1x8192x1024 .f32 := m ((c.tc : Thread nD τ).loc main_arg0)
abbrev kv : Vec Ideal S1x8192x1536 .f32 := m ((c.tc : Thread nD τ).loc main_arg1)

/-- The angles of the tables: a feature's frequency times a column's position. -/
def angles : Vec Ideal S32x8192 .f32 :=
  mulf (F := Ideal) (φ := .f32)
    (broadcastInDim S32x8192 ![0, 1] bcast_S32x1_S32x8192_0_1 (broadcastInDim S32x1 ![0] bcast_S32_S32x1_0
      (Host.powf (F := Ideal) (φ := .f32) (broadcastInDim S32 ![] bcast_S_S32 (constant (F := Ideal) S_ .f32 0x461C4000#32))
        (Host.divf (F := Ideal) (φ := .f32) (Host.negf (F := Ideal) (φ := .f32) (sitofp (F := Ideal) .f32 (iotaInDim S32 32 0)))
          (broadcastInDim S32 ![] bcast_S_S32 (constant (F := Ideal) S_ .f32 0x42000000#32))))))
    (broadcastInDim S32x8192 ![0, 1] bcast_S1x8192_S32x8192_0_1 (broadcastInDim S1x8192 ![1] bcast_S8192_S1x8192_1
      (sitofp (F := Ideal) .f32 (iotaInDim S8192 32 0))))

/-- The arrays the region reads, of the arguments. -/
theorem arrays : V m c main_v13 = Host.cos (F := Ideal) (φ := .f32) angles ∧ V m c main_v14 = Host.sin (F := Ideal) (φ := .f32) angles
    ∧ V m c main_v20 = concatenate S2688x8192 0 [⟨S1024x8192, transpose S1024x8192 [1, 0] (shapeCast S8192x1024 (qs m c) shapeCasts_S1x8192x1024_S8192x1024)
        transposes_S8192x1024_S1024x8192_1_0⟩,
      ⟨S1536x8192, transpose S1536x8192 [1, 0] (shapeCast S8192x1536 (kv m c) shapeCasts_S1x8192x1536_S8192x1536) transposes_S8192x1536_S1536x8192_1_0⟩,
      ⟨S128x8192, broadcastInDim S128x8192 ![] bcast_S_S128x8192 (constant (F := Ideal) S_ .f32 0x00000000#32)⟩]
      concatenates_S1024x8192_S1536x8192_S128x8192_S2688x8192_d0 := by
  unfold V V0 hostOps0 angles
  refine ⟨?_, ?_, ?_⟩ <;> after_results_simp <;> rfl

/-- The reference's tables. -/
abbrev cosines (r : Fin 8192) (e : Fin 32) : EReal := val_main_v17 (F := Ideal) (ix2 r e)
abbrev sines (r : Fin 8192) (e : Fin 32) : EReal := val_main_v19 (F := Ideal) (ix2 r e)

theorem cos_at (e : Fin 32) (r : Fin 8192) : V m c main_v13 (ix2 e r) = cosines r e := by
  rw [(arrays m c).1]
  unfold angles cosines val_main_v17 val_main_v16 val_main_v15 val_main_v14 val_main_v13 val_main_v12 val_main_v11 val_main_v10 val_main_v9
    val_main_v8 val_main_v7 val_main_v6 val_main_v5 val_main_v0 val_main_cst val_main_cst_0
  pointwise
  exact congrArg Ideal.cos (mul_comm _ _)

theorem sin_at (e : Fin 32) (r : Fin 8192) : V m c main_v14 (ix2 e r) = sines r e := by
  rw [(arrays m c).2.1]
  unfold angles sines val_main_v19 val_main_v16 val_main_v15 val_main_v14 val_main_v13 val_main_v12 val_main_v11 val_main_v10 val_main_v9
    val_main_v8 val_main_v7 val_main_v6 val_main_v5 val_main_v0 val_main_cst val_main_cst_0
  pointwise
  exact congrArg Ideal.sin (mul_comm _ _)

/-- Third `k` of the keys and values, feature-major. -/
theorem kv_at (k : Fin 3) (a : Fin 512) (r : Fin 8192) :
    V m c main_v20 (ix2 ⟨(2 + k.val) * 512 + a.val, by omega⟩ r) = kv m c (ix3 0 r ⟨k.val * 512 + a.val, by omega⟩) := by
  rw [(arrays m c).2.2]
  pointwise
  rw [dif_neg (by omega), dif_pos (by omega)]
  exact congrArg (kv m c) (congrArg (ix3 _ _) (Fin.ext (by show (2 + k.val) * 512 + a.val - 1024 = k.val * 512 + a.val; omega)))

/-- Where each window's block begins: at its third's rows and block column `t`. -/
theorem index : ∀ t : Fin grid0.N, cc0_transform_1 (grid0.coords t) = ![2, t.val] ∧ cc0_transform_2 (grid0.coords t) = ![3, t.val]
    ∧ cc0_transform_3 (grid0.coords t) = ![4, t.val] ∧ cc0_transform_4 (grid0.coords t) = ![0, t.val] ∧ cc0_transform_5 (grid0.coords t) = ![0, t.val]
    ∧ cc0_transform_7 (grid0.coords t) = ![0, t.val] ∧ cc0_transform_8 (grid0.coords t) = ![0, t.val]
    ∧ cc0_transform_9 (grid0.coords t) = ![0, t.val] := by
  decide +kernel

/-- The token of the arrays that column `y` of a point's blocks is. -/
def token (t : Fin cfg0.N) (y : Fin 512) : Fin 8192 :=
  ⟨t.val * 512 + y.val, by have := lt_of_lt_of_eq t.isLt (show cfg0.N = 16 from N_0); omega⟩

theorem blk1_at (t : Fin cfg0.N) (a : Fin 512) (y : Fin 512) : blk1 m c t (ix2 a y) = kv m c (ix3 0 (token t y) ⟨(0 : Fin 3).val * 512 + a.val, by omega⟩) :=
  have h := place (index t).1 512 512 a.val y.val
  (dif_pos (moved0_1 t (ix2 a y))).trans ((read_at (V m c main_v20) _ (ix2 ⟨(2 + (0 : Fin 3).val) * 512 + a.val, by omega⟩ (token t y)) h.1 h.2).trans
    (kv_at m c 0 a _))

theorem blk2_at (t : Fin cfg0.N) (a : Fin 512) (y : Fin 512) : blk2 m c t (ix2 a y) = kv m c (ix3 0 (token t y) ⟨(1 : Fin 3).val * 512 + a.val, by omega⟩) :=
  have h := place (index t).2.1 512 512 a.val y.val
  (dif_pos (moved0_2 t (ix2 a y))).trans ((read_at (V m c main_v20) _ (ix2 ⟨(2 + (1 : Fin 3).val) * 512 + a.val, by omega⟩ (token t y)) h.1 h.2).trans
    (kv_at m c 1 a _))

theorem blk3_at (t : Fin cfg0.N) (a : Fin 512) (y : Fin 512) : blk3 m c t (ix2 a y) = kv m c (ix3 0 (token t y) ⟨(2 : Fin 3).val * 512 + a.val, by omega⟩) :=
  have h := place (index t).2.2.1 512 512 a.val y.val
  (dif_pos (moved0_3 t (ix2 a y))).trans ((read_at (V m c main_v20) _ (ix2 ⟨(2 + (2 : Fin 3).val) * 512 + a.val, by omega⟩ (token t y)) h.1 h.2).trans
    (kv_at m c 2 a _))

theorem blk4_at (t : Fin cfg0.N) (e : Fin 32) (y : Fin 512) : blk4 m c t (ix2 e y) = cosines (token t y) e :=
  have h := place (index t).2.2.2.1 32 512 e.val y.val
  (read_at (V m c main_v13) _ (ix2 e (token t y)) (h.1.trans (Nat.zero_add _)) h.2).trans (cos_at m c e _)

theorem blk5_at (t : Fin cfg0.N) (e : Fin 32) (y : Fin 512) : blk5 m c t (ix2 e y) = sines (token t y) e :=
  have h := place (index t).2.2.2.2.1 32 512 e.val y.val
  (read_at (V m c main_v14) _ (ix2 e (token t y)) (h.1.trans (Nat.zero_add _)) h.2).trans (sin_at m c e _)

/-- Token `r`, its third `k` turned. -/
def row (k : Fin 3) (r : Fin 8192) : Fin 512 → EReal :=
  turned (fun a => kv m c (ix3 0 r ⟨k.val * 512 + a.val, by omega⟩)) (cosines r) (sines r)

/-- A third of the keys and values, turned, feature-major. -/
def result (k : Fin 3) : Vec Ideal S512x8192 .f32 := fun i => row m c k (i 1) (i 0)

/-- A block of third `k` turned by a point's tables is that third's columns. -/
theorem turn_apply (k : Fin 3) (t : Fin cfg0.N) (X : Vec Ideal S512x512 .f32)
    (hX : ∀ (a : Fin 512) (y : Fin 512), X (ix2 a y) = kv m c (ix3 0 (token t y) ⟨k.val * 512 + a.val, by omega⟩)) (y : S512x512.Idx) :
    turn m c t X y = result m c k (ix2 (y 0) (token t (y 1))) := by
  unfold turn result row
  exact congrFun (congr (congr (congrArg turned (funext fun a => hX a (y 1))) (funext fun e => blk4_at m c t e (y 1)))
    (funext fun e => blk5_at m c t e (y 1))) (y 0)

/-- The place of an element of a result block in its array. -/
theorem place_out {T : Fin 2 → ℕ} {t : Fin cfg0.N} (h : T = ![0, t.val]) (y : S512x512.Idx) (j : S512x8192.Idx)
    (h0 : (j 0).val = T 0 * 512 + 1 * (y 0).val) (h1 : (j 1).val = T 1 * 512 + 1 * (y 1).val) : j = ix2 (y 0) (token t (y 1)) := by
  have e := place h 512 512 (y 0).val (y 1).val
  exact funext fun a => Fin.ext (match a with
    | ⟨0, _⟩ => h0.trans (e.1.trans (Nat.zero_add _))
    | ⟨1, _⟩ => h1.trans e.2)

/-- The point that leaves a column, and the column's place in its block. -/
theorem point_of (i : S512x8192.Idx) : ∃ (t : Fin cfg0.N) (y : S512x512.Idx), (ix2 (y 0) (token t (y 1)) : S512x8192.Idx) = i := by
  have h1 : (i 1).val < 8192 := (i 1).isLt
  have hN : cfg0.N = 16 := N_0
  refine ⟨⟨(i 1).val / 512, by omega⟩, ix2 (i 0) ⟨(i 1).val % 512, by omega⟩, funext fun a => Fin.ext ?_⟩
  match a with
  | ⟨0, _⟩ => rfl
  | ⟨1, _⟩ => show (i 1).val / 512 * 512 + (i 1).val % 512 = (i 1).val; omega

theorem final7 : (dats m 0 c).arrAt 7 cfg0.N = result m c 0 := by
  have p (t : Fin cfg0.N) (y : S512x512.Idx) : (((cfg0.win 7).blk t).view.emb y : S512x8192.Idx) = ix2 (y 0) (token t (y 1)) :=
    place_out (index t).2.2.2.2.2.1 y _ rfl rfl
  refine (dats m 0 c).arrAt_eq_of_emb 7 (result m c 0) (fun t _ y => ?_) (fun i => ?_)
  · exact (congrFun ((after0_7 m c t).trans (left7_eq m c t)) y).trans ((turn_apply m c 0 t _ (blk1_at m c t) y).trans (congrArg (result m c 0) (p t y).symm))
  · obtain ⟨t, y, e⟩ := point_of i
    exact ⟨t, flush0_7 .., Finset.mem_map.mpr ⟨y, Finset.mem_univ _, (p t y).trans e⟩⟩

theorem final8 : (dats m 0 c).arrAt 8 cfg0.N = result m c 1 := by
  have p (t : Fin cfg0.N) (y : S512x512.Idx) : (((cfg0.win 8).blk t).view.emb y : S512x8192.Idx) = ix2 (y 0) (token t (y 1)) :=
    place_out (index t).2.2.2.2.2.2.1 y _ rfl rfl
  refine (dats m 0 c).arrAt_eq_of_emb 8 (result m c 1) (fun t _ y => ?_) (fun i => ?_)
  · exact (congrFun ((after0_8 m c t).trans (left8_eq m c t)) y).trans ((turn_apply m c 1 t _ (blk2_at m c t) y).trans (congrArg (result m c 1) (p t y).symm))
  · obtain ⟨t, y, e⟩ := point_of i
    exact ⟨t, flush0_8 .., Finset.mem_map.mpr ⟨y, Finset.mem_univ _, (p t y).trans e⟩⟩

theorem final9 : (dats m 0 c).arrAt 9 cfg0.N = result m c 2 := by
  have p (t : Fin cfg0.N) (y : S512x512.Idx) : (((cfg0.win 9).blk t).view.emb y : S512x8192.Idx) = ix2 (y 0) (token t (y 1)) :=
    place_out (index t).2.2.2.2.2.2.2 y _ rfl rfl
  refine (dats m 0 c).arrAt_eq_of_emb 9 (result m c 2) (fun t _ y => ?_) (fun i => ?_)
  · exact (congrFun ((after0_9 m c t).trans (left9_eq m c t)) y).trans ((turn_apply m c 2 t _ (blk3_at m c t) y).trans (congrArg (result m c 2) (p t y).symm))
  · obtain ⟨t, y, e⟩ := point_of i
    exact ⟨t, flush0_9 .., Finset.mem_map.mpr ⟨y, Finset.mem_univ _, (p t y).trans e⟩⟩

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- A window's array after the region. -/
theorem found (w : Fin 14) : Pipeline.withArrays spec0 c (V0 m c) (fun w => (dats m 0 c).arrAt w cfg0.N) (Pipeline.arrRef spec0 w) = (dats m 0 c).arrAt w cfg0.N :=
  Pipeline.withArrays_arr_shared spec0 c (V0 m c) _
    (fun w w' hne e => ((dats m 0 c).arrAt_in w (shared w w' hne e) _).trans (A_eq m c w)) w

/-- A feature-major array with its tokens first. -/
def tokens (x : Vec Ideal S512x8192 .f32) : Vec Ideal S1x1x8192x2x4x64 .f32 :=
  shapeCast S1x1x8192x2x4x64 (transpose S8192x2x4x64 [3, 0, 1, 2] (shapeCast S2x4x64x8192 x shapeCasts_S512x8192_S2x4x64x8192)
    transposes_S2x4x64x8192_S8192x2x4x64_3_0_1_2) shapeCasts_S8192x2x4x64_S1x1x8192x2x4x64

/-- Its last 512 tokens. -/
def windowed (x : Vec Ideal S512x8192 .f32) : Vec Ideal S1x1x512x2x4x64 .f32 :=
  shapeCast S1x1x512x2x4x64 (transpose S512x2x4x64 [3, 0, 1, 2]
    (shapeCast S2x4x64x512 (extractStridedSlice S512x512 ![0, 7680] x slices_S512x8192_S512x512_0_7680) shapeCasts_S512x512_S2x4x64x512)
    transposes_S2x4x64x512_S512x2x4x64_3_0_1_2) shapeCasts_S512x2x4x64_S1x1x512x2x4x64

theorem last24 : Pipeline.afterTail₀ cfgs (dats m) 0 (V0 m) [hostOps1] c main_v24 = tokens (result m c 0) := by
  unfold Pipeline.afterTail₀
  rw [List.flatten_singleton]
  after_results_simp
  exact congrArg tokens ((found m c 7).trans (final7 m c))

theorem last27 : Pipeline.afterTail₀ cfgs (dats m) 0 (V0 m) [hostOps1] c main_v27 = tokens (result m c 1) := by
  unfold Pipeline.afterTail₀
  rw [List.flatten_singleton]
  after_results_simp
  exact congrArg tokens ((found m c 8).trans (final8 m c))

theorem last31 : Pipeline.afterTail₀ cfgs (dats m) 0 (V0 m) [hostOps1] c main_v31 = windowed (result m c 2) := by
  unfold Pipeline.afterTail₀
  rw [List.flatten_singleton]
  after_results_simp
  exact congrArg windowed ((found m c 9).trans (final9 m c))

/-- The reference's stacked keys and values: each third turned. -/
theorem stacked (r : Fin 8192) (k : Fin 3) (s : Fin 2) (h : Fin 4) (d : Fin 64) :
    val_main_v43 (F := Ideal) (kv m c) (ix6 0 r k s h d) = row m c k r (spot s h d) := by
  unfold val_main_v43 val_main_v42 val_main_v41 val_main_v40 val_main_v39 val_main_v38 val_main_v37 val_main_v36 val_main_v35 val_main_v34
    val_main_v33 val_main_v32 val_main_v31 val_main_v30 val_main_v29 val_main_v28 val_main_v27 val_main_v26 val_main_v25 val_main_v24
    val_main_v23 val_main_v22 val_main_v21 val_main_v20 val_main_v18 val_main_v4 val_main_v3 val_main_v2 val_main_v1
  pointwise
  exact turned_spot (fun e => kv m c (ix3 0 r e)) (cosines r) (sines r) k s h d

/-- The reference's results, of the kernel's arguments. -/
abbrev expected0 : Vec Ideal S1x1x8192x2x4x64 .f32 := val_main_v50 (F := Ideal) (kv m c)
abbrev expected1 : Vec Ideal S1x1x8192x2x4x64 .f32 := val_main_v51 (F := Ideal) (kv m c)
abbrev expected2 : Vec Ideal S1x1x512x2x4x64 .f32 := val_main_v53 (F := Ideal) (kv m c)

theorem expected0_eq : tokens (result m c 0) = expected0 m c := by
  funext i
  unfold tokens expected0 val_main_v50 val_main_v45 val_main_v44
  pointwise
  exact (stacked m c (i 2) 0 (i 3) (i 4) (i 5)).symm

theorem expected1_eq : tokens (result m c 1) = expected1 m c := by
  funext i
  unfold tokens expected1 val_main_v51 val_main_v47 val_main_v46
  pointwise
  exact (stacked m c (i 2) 1 (i 3) (i 4) (i 5)).symm

theorem expected2_eq : windowed (result m c 2) = expected2 m c := by
  funext i
  have hi : (i 2).val < 512 := (i 2).isLt
  unfold windowed expected2 val_main_v53 val_main_v52 val_main_v49 val_main_v48
  pointwise
  exact (stacked m c ⟨7680 + (i 2).val, by omega⟩ 2 (i 3) (i 4) (i 5)).symm

/-- Both runs end with the same arrays. -/
theorem claim : Cert.algebraic_Kernel5Ideal_Reference5Ideal := by
  intro m g m' g' _ hargs
  refine ⟨fun c => expected0 m c, fun c => expected1 m c, fun c => expected2 m c,
    (θ_run _ _ _).mono (fun _ h c => ?_) (θ_run_and (run_main m g) (unchanged m g)),
    (θ_run _ _ _).mono (fun _ h c => ?_) (Cert.Reference5Ideal.Value.run m' g')⟩
  · exact ⟨((h.1 c).2 main_v24 (by decide)).trans ((last24 m c).trans (expected0_eq m c)),
      ((h.1 c).2 main_v27 (by decide)).trans ((last27 m c).trans (expected1_eq m c)),
      ((h.1 c).2 main_v31 (by decide)).trans ((last31 m c).trans (expected2_eq m c)), h.2 c⟩
  · obtain ⟨a0, a1⟩ := hargs c
    exact ⟨(h c).1.trans ((val_main_v50_eq m' c).trans (by rw [a1])), (h c).2.1.trans ((val_main_v51_eq m' c).trans (by rw [a1])),
      (h c).2.2.1.trans ((val_main_v53_eq m' c).trans (by rw [a1])), (h c).2.2.2⟩

end Cert.Proof.Rotate.Prompt
-- ==== Proof.RotateSample.lean ====
/- The sample batch's keys, rotated in one point, and its values: what the point leaves, the blocks it reads, and the
   arrays it returns beside the reference's. -/
module

public import proofs.«01_k».proof.Proof.Merge
public import proofs.«01_k».proof.Proof.Rotate
public import proofs.«01_k».proof.Proof.Gen.Kernel6Ideal.Frame
public import proofs.«01_k».proof.Proof.Gen.Reference6Ideal.Read
public import proofs.«01_k».proof.Defs

@[expose] public section

noncomputable section

namespace Cert.Proof.Rotate.Sample

open Idealize.ShloMosaic Idealize.ShloMosaic.TcCoe Cert.Kernel6Ideal Cert.Kernel6Ideal.Gen Cert.Reference6Ideal.Read
open Cert.Proof.Merge (read_at place)

/-- The nine pieces a point stores for one of its three blocks: the halves of the four heads' keys turned, and the values. -/
theorem pieces (X : Vec Ideal S512x256 .f32) (C S : Vec Ideal S32x256 .f32) (y : S512x256.Idx) :
    View.canon (Val := Elt Ideal) (s := S512x256) (e := .f32) [⟨Rect.unit ![256, 0] ![256, 256] inb_S512x256_S256x256_256_0, k0_pay92 (View.ld X (Rect.unit ![256, 0] ![256, 256] inb_S512x256_S256x256_256_0))⟩,
        ⟨Rect.unit ![224, 0] ![32, 256] inb_S512x256_S32x256_224_0, k0_pay79 (k0_pay2 C) (k0_pay3 S)
          (View.ld X (Rect.unit ![192, 0] ![32, 256] inb_S512x256_S32x256_192_0)) (View.ld X (Rect.unit ![224, 0] ![32, 256] inb_S512x256_S32x256_224_0))⟩,
        ⟨Rect.unit ![192, 0] ![32, 256] inb_S512x256_S32x256_192_0, k0_pay78 (k0_pay2 C) (k0_pay3 S)
          (View.ld X (Rect.unit ![192, 0] ![32, 256] inb_S512x256_S32x256_192_0)) (View.ld X (Rect.unit ![224, 0] ![32, 256] inb_S512x256_S32x256_224_0))⟩,
        ⟨Rect.unit ![160, 0] ![32, 256] inb_S512x256_S32x256_160_0, k0_pay79 (k0_pay2 C) (k0_pay3 S)
          (View.ld X (Rect.unit ![128, 0] ![32, 256] inb_S512x256_S32x256_128_0)) (View.ld X (Rect.unit ![160, 0] ![32, 256] inb_S512x256_S32x256_160_0))⟩,
        ⟨Rect.unit ![128, 0] ![32, 256] inb_S512x256_S32x256_128_0, k0_pay78 (k0_pay2 C) (k0_pay3 S)
          (View.ld X (Rect.unit ![128, 0] ![32, 256] inb_S512x256_S32x256_128_0)) (View.ld X (Rect.unit ![160, 0] ![32, 256] inb_S512x256_S32x256_160_0))⟩,
        ⟨Rect.unit ![96, 0] ![32, 256] inb_S512x256_S32x256_96_0, k0_pay79 (k0_pay2 C) (k0_pay3 S)
          (View.ld X (Rect.unit ![64, 0] ![32, 256] inb_S512x256_S32x256_64_0)) (View.ld X (Rect.unit ![96, 0] ![32, 256] inb_S512x256_S32x256_96_0))⟩,
        ⟨Rect.unit ![64, 0] ![32, 256] inb_S512x256_S32x256_64_0, k0_pay78 (k0_pay2 C) (k0_pay3 S)
          (View.ld X (Rect.unit ![64, 0] ![32, 256] inb_S512x256_S32x256_64_0)) (View.ld X (Rect.unit ![96, 0] ![32, 256] inb_S512x256_S32x256_96_0))⟩,
        ⟨Rect.unit ![32, 0] ![32, 256] inb_S512x256_S32x256_32_0, k0_pay79 (k0_pay2 C) (k0_pay3 S)
          (View.ld X (Rect.unit ![0, 0] ![32, 256] inb_S512x256_S32x256_0_0)) (View.ld X (Rect.unit ![32, 0] ![32, 256] inb_S512x256_S32x256_32_0))⟩,
        ⟨Rect.unit ![0, 0] ![32, 256] inb_S512x256_S32x256_0_0, k0_pay78 (k0_pay2 C) (k0_pay3 S)
          (View.ld X (Rect.unit ![0, 0] ![32, 256] inb_S512x256_S32x256_0_0)) (View.ld X (Rect.unit ![32, 0] ![32, 256] inb_S512x256_S32x256_32_0))⟩] y
      = turned (fun a => X (ix2 a (y 1))) (fun d => C (ix2 d (y 1))) (fun d => S (ix2 d (y 1))) (y 0) := by
  canon_tiles x h using View.cover_of_tiledBy _ ![32, 256] (by sl_kernel_rfl) y
  all_goals
    open_payloads
    pointwise
    first
    | exact first_half X C S y x _ _ (by omega) (by dsimp only; omega) (by dsimp only; omega) (by omega) (by omega) (by omega)
    | exact second_half X C S y x _ _ (by omega) (by dsimp only; omega) (by dsimp only; omega) (by omega) (by omega) (by omega)
    | exact copied X C S y _ _ (by omega) (by dsimp only; omega) (by omega)

variable (m : (ℓ : Loc nD τ sig) → Buf (Elt Ideal) ℓ) (c : Dev nD)

def blk1 (t : Fin cfg0.N) : Vec Ideal S512x256 .f32 := X0_1 m c t
def blk2 (t : Fin cfg0.N) : Vec Ideal S512x256 .f32 := X0_2 m c t
def blk3 (t : Fin cfg0.N) : Vec Ideal S512x256 .f32 := X0_3 m c t
def blk4 (t : Fin cfg0.N) : Vec Ideal S32x256 .f32 := iblk m c 4 t
def blk5 (t : Fin cfg0.N) : Vec Ideal S32x256 .f32 := iblk m c 5 t

/-- What the point leaves in the three result blocks. -/
def left7 (t : Fin cfg0.N) : Vec Ideal S512x256 .f32 := (outsAt0 m c t).2.1
def left8 (t : Fin cfg0.N) : Vec Ideal S512x256 .f32 := (outsAt0 m c t).2.2.1
def left9 (t : Fin cfg0.N) : Vec Ideal S512x256 .f32 := (outsAt0 m c t).2.2.2

/-- A block turned by the point's tables. -/
def turn (t : Fin cfg0.N) (X : Vec Ideal S512x256 .f32) : Vec Ideal S512x256 .f32 := fun y =>
  turned (fun a => X (ix2 a (y 1))) (fun d => blk4 m c t (ix2 d (y 1))) (fun d => blk5 m c t (ix2 d (y 1))) (y 0)

theorem left7_eq (t : Fin cfg0.N) : left7 m c t = turn m c t (blk1 m c t) := by
  funext y
  unfold left7 outsAt0 out0_A_7
  frame_out
  exact pieces (blk1 m c t) (blk4 m c t) (blk5 m c t) y

theorem left8_eq (t : Fin cfg0.N) : left8 m c t = turn m c t (blk2 m c t) := by
  funext y
  unfold left8 outsAt0 out0_A_8
  frame_out
  exact pieces (blk2 m c t) (blk4 m c t) (blk5 m c t) y

theorem left9_eq (t : Fin cfg0.N) : left9 m c t = turn m c t (blk3 m c t) := by
  funext y
  unfold left9 outsAt0 out0_A_9
  frame_out
  exact pieces (blk3 m c t) (blk4 m c t) (blk5 m c t) y

abbrev qs : Vec Ideal S32x8x1024 .f32 := m ((c.tc : Thread nD τ).loc main_arg0)
abbrev kv : Vec Ideal S32x8x1536 .f32 := m ((c.tc : Thread nD τ).loc main_arg1)
abbrev cache : Vec Ideal S1x32x512x2x4x64 .f32 := m ((c.tc : Thread nD τ).loc main_arg2)

/-- The angles of the tables: a feature's frequency times a column's position. -/
def angles : Vec Ideal S32x256 .f32 :=
  mulf (F := Ideal) (φ := .f32)
    (broadcastInDim S32x256 ![0, 1] bcast_S32x1_S32x256_0_1 (broadcastInDim S32x1 ![0] bcast_S32_S32x1_0
      (Host.powf (F := Ideal) (φ := .f32) (broadcastInDim S32 ![] bcast_S_S32 (constant (F := Ideal) S_ .f32 0x461C4000#32))
        (Host.divf (F := Ideal) (φ := .f32) (Host.negf (F := Ideal) (φ := .f32) (sitofp (F := Ideal) .f32 (iotaInDim S32 32 0)))
          (broadcastInDim S32 ![] bcast_S_S32 (constant (F := Ideal) S_ .f32 0x42000000#32))))))
    (broadcastInDim S32x256 ![0, 1] bcast_S1x256_S32x256_0_1 (broadcastInDim S1x256 ![1] bcast_S256_S1x256_1
      (sitofp (F := Ideal) .f32 (shapeCast S256 (broadcastInDim S32x8 ![0, 1] bcast_S1x8_S32x8_0_1
        (shapeCast S1x8 (addi (broadcastInDim S8 ![] bcast_S_S8 (constantI S_ 32 8192#32)) (iotaInDim S8 32 0)) shapeCasts_S8_S1x8))
        shapeCasts_S32x8_S256))))

/-- The arrays the region reads, of the arguments. -/
theorem arrays : V m c main_v18 = Host.cos (F := Ideal) (φ := .f32) angles ∧ V m c main_v19 = Host.sin (F := Ideal) (φ := .f32) angles
    ∧ V m c main_v25 = concatenate S2688x256 0 [⟨S1024x256, transpose S1024x256 [1, 0] (shapeCast S256x1024 (qs m c) shapeCasts_S32x8x1024_S256x1024)
        transposes_S256x1024_S1024x256_1_0⟩,
      ⟨S1536x256, transpose S1536x256 [1, 0] (shapeCast S256x1536 (kv m c) shapeCasts_S32x8x1536_S256x1536) transposes_S256x1536_S1536x256_1_0⟩,
      ⟨S128x256, broadcastInDim S128x256 ![] bcast_S_S128x256 (constant (F := Ideal) S_ .f32 0x00000000#32)⟩]
      concatenates_S1024x256_S1536x256_S128x256_S2688x256_d0 := by
  unfold V V0 hostOps0 angles
  refine ⟨?_, ?_, ?_⟩ <;> after_results_simp <;> rfl

/-- The request and the token of a column. -/
abbrev request (r : Fin 256) : Fin 32 := ⟨r.val / 8, by omega⟩
abbrev token (r : Fin 256) : Fin 8 := ⟨r.val % 8, by omega⟩

/-- The reference's tables. -/
abbrev cosines (t : Fin 8) (e : Fin 32) : EReal := val_main_v19 (F := Ideal) (ix2 t e)
abbrev sines (t : Fin 8) (e : Fin 32) : EReal := val_main_v21 (F := Ideal) (ix2 t e)

theorem cos_at (e : Fin 32) (r : Fin 256) : V m c main_v18 (ix2 e r) = cosines (token r) e := by
  rw [(arrays m c).1]
  unfold angles cosines val_main_v19 val_main_v18 val_main_v17 val_main_v16 val_main_v15 val_main_v14 val_main_v13 val_main_v12 val_main_v11
    val_main_v10 val_main_v9 val_main_v8 val_main_v7 val_main_v2 val_main_v1 val_main_v0 val_main_c val_main_cst val_main_cst_0
  pointwise
  exact congrArg Ideal.cos (mul_comm _ _)

theorem sin_at (e : Fin 32) (r : Fin 256) : V m c main_v19 (ix2 e r) = sines (token r) e := by
  rw [(arrays m c).2.1]
  unfold angles sines val_main_v21 val_main_v18 val_main_v17 val_main_v16 val_main_v15 val_main_v14 val_main_v13 val_main_v12 val_main_v11
    val_main_v10 val_main_v9 val_main_v8 val_main_v7 val_main_v2 val_main_v1 val_main_v0 val_main_c val_main_cst val_main_cst_0
  pointwise
  exact congrArg Ideal.sin (mul_comm _ _)

/-- Third `k` of the keys and values, feature-major. -/
theorem kv_at (k : Fin 3) (a : Fin 512) (r : Fin 256) :
    V m c main_v25 (ix2 ⟨(2 + k.val) * 512 + a.val, by omega⟩ r) = kv m c (ix3 (request r) (token r) ⟨k.val * 512 + a.val, by omega⟩) := by
  rw [(arrays m c).2.2]
  pointwise
  rw [dif_neg (by omega), dif_pos (by omega)]
  exact congrArg (kv m c) (congrArg (ix3 _ _) (Fin.ext (by show (2 + k.val) * 512 + a.val - 1024 = k.val * 512 + a.val; omega)))

/-- Where each window's block begins. -/
theorem index : ∀ t : Fin grid0.N, cc0_transform_1 (grid0.coords t) = ![2, 0] ∧ cc0_transform_2 (grid0.coords t) = ![3, 0]
    ∧ cc0_transform_3 (grid0.coords t) = ![4, 0] ∧ cc0_transform_4 (grid0.coords t) = ![0, 0] ∧ cc0_transform_5 (grid0.coords t) = ![0, 0]
    ∧ cc0_transform_7 (grid0.coords t) = ![0, 0] ∧ cc0_transform_8 (grid0.coords t) = ![0, 0] ∧ cc0_transform_9 (grid0.coords t) = ![0, 0] := by
  decide +kernel

theorem blk1_at (t : Fin cfg0.N) (a : Fin 512) (r : Fin 256) : blk1 m c t (ix2 a r) = kv m c (ix3 (request r) (token r) ⟨(0 : Fin 3).val * 512 + a.val, by omega⟩) :=
  have h := place (index t).1 512 256 a.val r.val
  (dif_pos (moved0_1 t (ix2 a r))).trans ((read_at (V m c main_v25) _ (ix2 ⟨(2 + (0 : Fin 3).val) * 512 + a.val, by omega⟩ r) h.1
    (h.2.trans (Nat.zero_add _))).trans (kv_at m c 0 a r))

theorem blk2_at (t : Fin cfg0.N) (a : Fin 512) (r : Fin 256) : blk2 m c t (ix2 a r) = kv m c (ix3 (request r) (token r) ⟨(1 : Fin 3).val * 512 + a.val, by omega⟩) :=
  have h := place (index t).2.1 512 256 a.val r.val
  (dif_pos (moved0_2 t (ix2 a r))).trans ((read_at (V m c main_v25) _ (ix2 ⟨(2 + (1 : Fin 3).val) * 512 + a.val, by omega⟩ r) h.1
    (h.2.trans (Nat.zero_add _))).trans (kv_at m c 1 a r))

theorem blk3_at (t : Fin cfg0.N) (a : Fin 512) (r : Fin 256) : blk3 m c t (ix2 a r) = kv m c (ix3 (request r) (token r) ⟨(2 : Fin 3).val * 512 + a.val, by omega⟩) :=
  have h := place (index t).2.2.1 512 256 a.val r.val
  (dif_pos (moved0_3 t (ix2 a r))).trans ((read_at (V m c main_v25) _ (ix2 ⟨(2 + (2 : Fin 3).val) * 512 + a.val, by omega⟩ r) h.1
    (h.2.trans (Nat.zero_add _))).trans (kv_at m c 2 a r))

theorem blk4_at (t : Fin cfg0.N) (e : Fin 32) (r : Fin 256) : blk4 m c t (ix2 e r) = cosines (token r) e :=
  have h := place (index t).2.2.2.1 32 256 e.val r.val
  (read_at (V m c main_v18) _ (ix2 e r) (h.1.trans (Nat.zero_add _)) (h.2.trans (Nat.zero_add _))).trans (cos_at m c e r)

theorem blk5_at (t : Fin cfg0.N) (e : Fin 32) (r : Fin 256) : blk5 m c t (ix2 e r) = sines (token r) e :=
  have h := place (index t).2.2.2.2.1 32 256 e.val r.val
  (read_at (V m c main_v19) _ (ix2 e r) (h.1.trans (Nat.zero_add _)) (h.2.trans (Nat.zero_add _))).trans (sin_at m c e r)

/-- Token `t` of request `b`, its third `k` turned. -/
def row (k : Fin 3) (b : Fin 32) (t : Fin 8) : Fin 512 → EReal :=
  turned (fun a => kv m c (ix3 b t ⟨k.val * 512 + a.val, by omega⟩)) (cosines t) (sines t)

/-- A third of the keys and values, turned, feature-major. -/
def result (k : Fin 3) : Vec Ideal S512x256 .f32 := fun i => row m c k (request (i 1)) (token (i 1)) (i 0)

/-- A block of third `k` turned by the point's tables is that third's array. -/
theorem turn_apply (k : Fin 3) (t : Fin cfg0.N) (X : Vec Ideal S512x256 .f32)
    (hX : ∀ (a : Fin 512) (r : Fin 256), X (ix2 a r) = kv m c (ix3 (request r) (token r) ⟨k.val * 512 + a.val, by omega⟩)) :
    turn m c t X = result m c k := by
  funext y
  unfold turn result row
  exact congrFun (congr (congr (congrArg turned (funext fun a => hX a (y 1))) (funext fun e => blk4_at m c t e (y 1)))
    (funext fun e => blk5_at m c t e (y 1))) (y 0)

/-- The place of an element of a result block in its array. -/
theorem place_out {T : Fin 2 → ℕ} (h : T = ![0, 0]) (y : S512x256.Idx) (j : S512x256.Idx) (h0 : (j 0).val = T 0 * 512 + 1 * (y 0).val)
    (h1 : (j 1).val = T 1 * 256 + 1 * (y 1).val) : j = y := by
  have e := place h 512 256 (y 0).val (y 1).val
  exact funext fun a => Fin.ext (match a with
    | ⟨0, _⟩ => h0.trans (e.1.trans (Nat.zero_add _))
    | ⟨1, _⟩ => h1.trans (e.2.trans (Nat.zero_add _)))

theorem final7 : (dats m 0 c).arrAt 7 cfg0.N = result m c 0 := by
  have p (t : Fin cfg0.N) (y : S512x256.Idx) : (((cfg0.win 7).blk t).view.emb y : S512x256.Idx) = y := place_out (index t).2.2.2.2.2.1 y _ rfl rfl
  exact (dats m 0 c).arrAt_eq_of_emb 7 (result m c 0)
    (fun t _ y => (congrFun ((after0_7 m c t).trans ((left7_eq m c t).trans (turn_apply m c 0 t _ (blk1_at m c t)))) y).trans
      (congrArg (result m c 0) (p t y).symm))
    (fun i => ⟨t0_0, flush0_7 .., Finset.mem_map.mpr ⟨i, Finset.mem_univ _, p t0_0 i⟩⟩)

theorem final8 : (dats m 0 c).arrAt 8 cfg0.N = result m c 1 := by
  have p (t : Fin cfg0.N) (y : S512x256.Idx) : (((cfg0.win 8).blk t).view.emb y : S512x256.Idx) = y := place_out (index t).2.2.2.2.2.2.1 y _ rfl rfl
  exact (dats m 0 c).arrAt_eq_of_emb 8 (result m c 1)
    (fun t _ y => (congrFun ((after0_8 m c t).trans ((left8_eq m c t).trans (turn_apply m c 1 t _ (blk2_at m c t)))) y).trans
      (congrArg (result m c 1) (p t y).symm))
    (fun i => ⟨t0_0, flush0_8 .., Finset.mem_map.mpr ⟨i, Finset.mem_univ _, p t0_0 i⟩⟩)

theorem final9 : (dats m 0 c).arrAt 9 cfg0.N = result m c 2 := by
  have p (t : Fin cfg0.N) (y : S512x256.Idx) : (((cfg0.win 9).blk t).view.emb y : S512x256.Idx) = y := place_out (index t).2.2.2.2.2.2.2 y _ rfl rfl
  exact (dats m 0 c).arrAt_eq_of_emb 9 (result m c 2)
    (fun t _ y => (congrFun ((after0_9 m c t).trans ((left9_eq m c t).trans (turn_apply m c 2 t _ (blk3_at m c t)))) y).trans
      (congrArg (result m c 2) (p t y).symm))
    (fun i => ⟨t0_0, flush0_9 .., Finset.mem_map.mpr ⟨i, Finset.mem_univ _, p t0_0 i⟩⟩)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- A window's array after the region. -/
theorem found (w : Fin 10) : Pipeline.withArrays spec0 c (V0 m c) (fun w => (dats m 0 c).arrAt w cfg0.N) (Pipeline.arrRef spec0 w) = (dats m 0 c).arrAt w cfg0.N :=
  Pipeline.withArrays_arr_shared spec0 c (V0 m c) _
    (fun w w' hne e => ((dats m 0 c).arrAt_in w (shared w w' hne e) _).trans (A_eq m c w)) w

/-- A third of the keys and values as it is returned. -/
def returned (k : Fin 3) : Vec Ideal S1x32x8x2x4x64 .f32 := fun i => row m c k (i 1) (i 2) (spot (i 3) (i 4) (i 5))

/-- A feature-major array with its tokens first. -/
def tokens (x : Vec Ideal S512x256 .f32) : Vec Ideal S1x32x8x2x4x64 .f32 :=
  shapeCast S1x32x8x2x4x64 (transpose S32x8x2x4x64 [0, 4, 1, 2, 3]
    (shapeCast S32x2x4x64x8 (transpose S32x512x8 [1, 0, 2] (shapeCast S512x32x8 x shapeCasts_S512x256_S512x32x8) transposes_S512x32x8_S32x512x8_1_0_2)
      shapeCasts_S32x512x8_S32x2x4x64x8) transposes_S32x2x4x64x8_S32x8x2x4x64_0_4_1_2_3) shapeCasts_S32x8x2x4x64_S1x32x8x2x4x64

/-- The window's cache with a feature-major array's tokens behind it, less as many of its oldest. -/
def windowed (old : Vec Ideal S1x32x512x2x4x64 .f32) (x : Vec Ideal S512x256 .f32) : Vec Ideal S1x32x512x2x4x64 .f32 :=
  shapeCast S1x32x512x2x4x64 (transpose S32x512x2x4x64 [0, 4, 1, 2, 3]
    (shapeCast S32x2x4x64x512 (extractStridedSlice S32x512x512 ![0, 0, 8]
      (concatenate S32x512x520 2
        [⟨S32x512x512, shapeCast S32x512x512 (transpose S32x2x4x64x512 [0, 2, 3, 4, 1]
            (shapeCast S32x512x2x4x64 old shapeCasts_S1x32x512x2x4x64_S32x512x2x4x64) transposes_S32x512x2x4x64_S32x2x4x64x512_0_2_3_4_1)
            shapeCasts_S32x2x4x64x512_S32x512x512⟩,
          ⟨S32x512x8, transpose S32x512x8 [1, 0, 2] (shapeCast S512x32x8 x shapeCasts_S512x256_S512x32x8) transposes_S512x32x8_S32x512x8_1_0_2⟩]
        concatenates_S32x512x512_S32x512x8_S32x512x520_d2) slices_S32x512x520_S32x512x512_0_0_8)
      shapeCasts_S32x512x512_S32x2x4x64x512) transposes_S32x2x4x64x512_S32x512x2x4x64_0_4_1_2_3) shapeCasts_S32x512x2x4x64_S1x32x512x2x4x64

/-- A token's column of a third's array. -/
theorem result_at (k : Fin 3) (a : Fin 512) (b : Fin 32) (t : Fin 8) :
    result m c k (ix2 a ⟨b.val * 8 + t.val, by omega⟩) = row m c k b t a := by
  have hb : request ⟨b.val * 8 + t.val, by omega⟩ = b := Fin.ext (by show (b.val * 8 + t.val) / 8 = b.val; omega)
  have ht : token ⟨b.val * 8 + t.val, by omega⟩ = t := Fin.ext (by show (b.val * 8 + t.val) % 8 = t.val; omega)
  exact congrArg₂ (fun b t => row m c k b t a) hb ht

theorem tokens_result (k : Fin 3) : tokens (result m c k) = returned m c k := by
  funext i
  unfold tokens
  pointwise
  exact result_at m c k (spot (i 3) (i 4) (i 5)) (i 1) (i 2)

theorem last38 : Pipeline.afterTail₀ cfgs (dats m) 0 (V0 m) [hostOps1] c main_v38 = returned m c 0 := by
  unfold Pipeline.afterTail₀
  rw [List.flatten_singleton]
  after_results_simp
  exact (congrArg tokens ((found m c 7).trans (final7 m c))).trans (tokens_result m c 0)

theorem last43 : Pipeline.afterTail₀ cfgs (dats m) 0 (V0 m) [hostOps1] c main_v43 = returned m c 1 := by
  unfold Pipeline.afterTail₀
  rw [List.flatten_singleton]
  after_results_simp
  exact (congrArg tokens ((found m c 8).trans (final8 m c))).trans (tokens_result m c 1)

theorem last46 : Pipeline.afterTail₀ cfgs (dats m) 0 (V0 m) [hostOps1] c main_v46 = windowed (cache m c) (result m c 2) := by
  have old : Pipeline.withArrays spec0 c (V0 m c) (fun w => (dats m 0 c).arrAt w cfg0.N) (Proc.devRef .tc main_arg2) = cache m c :=
    (Pipeline.withArrays_of_ne spec0 c (V0 m c) _ main_arg2 (by decide)).trans (by unfold V0 hostOps0; after_results_simp; rfl)
  unfold Pipeline.afterTail₀
  rw [List.flatten_singleton]
  after_results_simp
  exact congrArg₂ windowed old ((found m c 9).trans (final9 m c))

/-- The reference's stacked keys and values: each third turned. -/
theorem stacked (b : Fin 32) (t : Fin 8) (k : Fin 3) (s : Fin 2) (h : Fin 4) (d : Fin 64) :
    val_main_v45 (F := Ideal) (kv m c) (ix6 b t k s h d) = row m c k b t (spot s h d) := by
  unfold val_main_v45 val_main_v44 val_main_v43 val_main_v42 val_main_v41 val_main_v40 val_main_v39 val_main_v38 val_main_v37 val_main_v36
    val_main_v35 val_main_v34 val_main_v33 val_main_v32 val_main_v31 val_main_v30 val_main_v29 val_main_v28 val_main_v27 val_main_v26
    val_main_v25 val_main_v24 val_main_v23 val_main_v22 val_main_v20 val_main_v6 val_main_v5 val_main_v4 val_main_v3
  pointwise
  exact turned_spot (fun e => kv m c (ix3 b t e)) (cosines t) (sines t) k s h d

/-- The reference's results, of the kernel's arguments. -/
abbrev expected0 : Vec Ideal S1x32x8x2x4x64 .f32 := val_main_v52 (F := Ideal) (kv m c)
abbrev expected1 : Vec Ideal S1x32x8x2x4x64 .f32 := val_main_v53 (F := Ideal) (kv m c)
abbrev expected2 : Vec Ideal S1x32x512x2x4x64 .f32 := val_main_v57 (F := Ideal) (kv m c) (cache m c)

theorem expected0_eq : returned m c 0 = expected0 m c := by
  funext i
  unfold expected0 val_main_v52 val_main_v47 val_main_v46
  pointwise
  exact (stacked m c (i 1) (i 2) 0 (i 3) (i 4) (i 5)).symm

theorem expected1_eq : returned m c 1 = expected1 m c := by
  funext i
  unfold expected1 val_main_v53 val_main_v49 val_main_v48
  pointwise
  exact (stacked m c (i 1) (i 2) 1 (i 3) (i 4) (i 5)).symm

theorem expected2_eq : windowed (cache m c) (result m c 2) = expected2 m c := by
  funext i
  have hi : (i 2).val < 512 := (i 2).isLt
  unfold windowed expected2 val_main_v57 val_main_v56 val_main_v55 val_main_v54 val_main_v51 val_main_v50
  pointwise
  by_cases h : 8 + (i 2).val < 512
  · simp only [h, ↓reduceDIte]
  · simp only [h, ↓reduceDIte]
    exact (result_at m c 2 (spot (i 3) (i 4) (i 5)) (i 1) ⟨8 + (i 2).val - 512, by omega⟩).trans
      (stacked m c (i 1) ⟨8 + (i 2).val - 512, by omega⟩ 2 (i 3) (i 4) (i 5)).symm

/-- Both runs end with the same arrays. -/
theorem claim : Cert.algebraic_Kernel6Ideal_Reference6Ideal := by
  intro m g m' g' _ hargs
  refine ⟨fun c => expected0 m c, fun c => expected1 m c, fun c => expected2 m c,
    (θ_run _ _ _).mono (fun _ h c => ?_) (θ_run_and (run_main m g) (unchanged m g)),
    (θ_run _ _ _).mono (fun _ h c => ?_) (Cert.Reference6Ideal.Value.run m' g')⟩
  · exact ⟨((h.1 c).2 main_v38 (by decide)).trans ((last38 m c).trans (expected0_eq m c)),
      ((h.1 c).2 main_v43 (by decide)).trans ((last43 m c).trans (expected1_eq m c)),
      ((h.1 c).2 main_v46 (by decide)).trans ((last46 m c).trans (expected2_eq m c)), h.2 c⟩
  · obtain ⟨a0, a1, a2⟩ := hargs c
    exact ⟨(h c).1.trans ((val_main_v52_eq m' c).trans (by rw [a1])), (h c).2.1.trans ((val_main_v53_eq m' c).trans (by rw [a1])),
      (h c).2.2.1.trans ((val_main_v57_eq m' c).trans (by rw [a1, a2])), (h c).2.2.2⟩

end Cert.Proof.Rotate.Sample
-- ==== Proof.Gla.lean ====
/- The arithmetic of the gated recurrence over one chunk: running sums, the logarithm of the gate, and sums over rows padded with zeros. -/
module

public import Idealize.ShloMosaic.Lib.Pipeline.ValueKit
public import Idealize.ShloMosaic.Lib.Pointwise

@[expose] public section

noncomputable section

namespace Cert.Proof.Gla

open Idealize.ShloMosaic

/-- The sum of the entries up to and including `t`. -/
def running {n : ℕ} (x : Fin n → EReal) (t : Fin n) : EReal := ∑ s, if s ≤ t then x s else 0

/-- The sum of the last `w` entries up to and including `t`. -/
def window {n : ℕ} (w : ℕ) (x : Fin n → EReal) (t : Fin n) : EReal := ∑ s : Fin n, if s ≤ t ∧ t.val < s.val + w then x s else 0

theorem window_one {n : ℕ} (x : Fin n → EReal) (t : Fin n) : window 1 x t = x t := by
  unfold window
  refine (Finset.sum_eq_single t (fun s _ h => if_neg fun q => h (Fin.ext ?_)) (fun h => absurd (Finset.mem_univ t) h)).trans (if_pos ⟨le_refl _, by omega⟩)
  have := Fin.le_def.mp q.1
  omega

theorem window_all {n : ℕ} (x : Fin n → EReal) (t : Fin n) : window n x t = running x t := by
  unfold window running
  refine Finset.sum_congr rfl fun s _ => if_congr ⟨fun h => h.1, fun h => ⟨h, by omega⟩⟩ rfl rfl

/-- Adding the window that ends `w` rows earlier doubles its length. -/
theorem window_double {n : ℕ} (w : ℕ) (x : Fin n → EReal) (t : Fin n) (u : Fin n) (hu : w ≤ t.val → u.val = t.val - w) :
    window w x t + (if w ≤ t.val then window w x u else 0) = window (2 * w) x t := by
  unfold window
  by_cases h : w ≤ t.val
  · rw [if_pos h, ← Finset.sum_add_distrib]
    refine Finset.sum_congr rfl fun s _ => ?_
    have e := hu h
    simp only [Fin.le_def]
    by_cases h1 : s.val ≤ t.val ∧ t.val < s.val + w
    · rw [if_pos h1, if_neg (by omega), if_pos (by omega), add_zero]
    · rw [if_neg h1, zero_add]
      exact if_congr (by omega) rfl rfl
  · rw [if_neg h, add_zero]
    refine Finset.sum_congr rfl fun s _ => if_congr ?_ rfl rfl
    simp only [Fin.le_def]
    omega

theorem foldl_add {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

/-- The window's positions, one for each row. -/
def rows (n : ℕ) : Fin n ≃ (⟨4, ![1, n, 1, 1]⟩ : Shape).Idx where
  toFun i := ix4 (0 : Fin 1) i (0 : Fin 1) (0 : Fin 1)
  invFun y := y 1
  left_inv _ := rfl
  right_inv y := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- A window of the whole height, padded low by one less, sums the rows up to its own. -/
theorem window_sum {B n N H D : ℕ} (hn : N + 1 = n) (x : (⟨4, ![B, n, H, D]⟩ : Shape).Idx → EReal)
    (h : (⟨4, ![B, n, H, D]⟩ : Shape).ReduceWindows (![1, n, 1, 1] : Fin 4 → ℕ) ![1, 1, 1, 1] ![0, N, 0, 0] ![0, 0, 0, 0] ⟨4, ![B, n, H, D]⟩)
    (b : Fin B) (t : Fin n) (e : Fin H) (d : Fin D) :
    Ideal.hostReduceWindowAdd ![1, n, 1, 1] ![1, 1, 1, 1] ![0, N, 0, 0] ![0, 0, 0, 0] h x 0 (ix4 b t e d) = running (fun s => x (ix4 b s e d)) t := by
  unfold Ideal.hostReduceWindowAdd Host.reduceWindow
  refine (foldl_add _ _ _).trans ((zero_add _).trans ?_)
  rw [← Fin.sum_univ_def]
  refine ((rows n).trans (⟨4, ![1, n, 1, 1]⟩ : Shape).rowMajor).sum_comp _ |>.symm.trans ?_
  have hp (i : Fin n) (a : Fin 4) : (ix4 b t e d a).val * (![1, 1, 1, 1] : Fin 4 → ℕ) a
      + ((⟨4, ![1, n, 1, 1]⟩ : Shape).rowMajor.symm (((rows n).trans (⟨4, ![1, n, 1, 1]⟩ : Shape).rowMajor) i) a).val
      = (![b.val, t.val + i.val, e.val, d.val] : Fin 4 → ℕ) a := by
    rw [Equiv.trans_apply, Equiv.symm_apply_apply]
    match a with
    | ⟨0, _⟩ => exact (Nat.add_zero _).trans (Nat.mul_one _)
    | ⟨1, _⟩ => exact congrArg (· + i.val) (Nat.mul_one _)
    | ⟨2, _⟩ => exact (Nat.add_zero _).trans (Nat.mul_one _)
    | ⟨3, _⟩ => exact (Nat.add_zero _).trans (Nat.mul_one _)
  have hv (i : Fin n) (y : Fin n) (hy : N ≤ t.val + i.val → y.val = t.val + i.val - N) (p : Fin 4 → ℕ) (q : p = ![b.val, t.val + i.val, e.val, d.val])
      (decided : Decidable (∀ a : Fin 4, (![0, N, 0, 0] : Fin 4 → ℕ) a ≤ p a ∧ p a - (![0, N, 0, 0] : Fin 4 → ℕ) a < (⟨4, ![B, n, H, D]⟩ : Shape).size a)) :
      (if hin : ∀ a : Fin 4, (![0, N, 0, 0] : Fin 4 → ℕ) a ≤ p a ∧ p a - (![0, N, 0, 0] : Fin 4 → ℕ) a < (⟨4, ![B, n, H, D]⟩ : Shape).size a
        then x (fun a => ⟨p a - (![0, N, 0, 0] : Fin 4 → ℕ) a, (hin a).2⟩) else 0) = if N ≤ t.val + i.val then x (ix4 b y e d) else 0 := by
    subst q
    split
    · next hin =>
      have h1 : N ≤ t.val + i.val := (hin 1).1
      rw [if_pos h1]
      refine congrArg x (funext fun a => Fin.ext ?_)
      match a with
      | ⟨0, _⟩ => rfl
      | ⟨1, _⟩ => exact (hy h1).symm
      | ⟨2, _⟩ => rfl
      | ⟨3, _⟩ => rfl
    · next hin =>
      rw [if_neg fun h1 => hin fun a => ?_]
      match a with
      | ⟨0, _⟩ => exact ⟨Nat.zero_le _, b.isLt⟩
      | ⟨1, _⟩ => exact ⟨h1, show t.val + i.val - N < n by omega⟩
      | ⟨2, _⟩ => exact ⟨Nat.zero_le _, e.isLt⟩
      | ⟨3, _⟩ => exact ⟨Nat.zero_le _, d.isLt⟩
  unfold running
  rw [← Finset.sum_filter]
  refine (Finset.sum_congr rfl fun i _ => hv i ⟨t.val + i.val - N, by omega⟩ (fun _ => rfl) _ (funext (hp i)) _).trans ?_
  rw [← Finset.sum_filter]
  refine Finset.sum_nbij' (fun i => ⟨t.val + i.val - N, by omega⟩) (fun s => if h : s ≤ t then ⟨s.val + N - t.val, by have := Fin.le_def.mp h; omega⟩ else s)
    (fun i hi => ?_) (fun s hs => ?_) (fun i hi => ?_) (fun s hs => ?_) (fun i hi => rfl)
  · have := (Finset.mem_filter.mp hi).2
    exact Finset.mem_filter.mpr ⟨Finset.mem_univ _, Fin.le_def.mpr (by show t.val + i.val - N ≤ t.val; omega)⟩
  · have := (Finset.mem_filter.mp hs).2
    rw [dif_pos this]
    have := Fin.le_def.mp this
    exact Finset.mem_filter.mpr ⟨Finset.mem_univ _, by show N ≤ t.val + (s.val + N - t.val); omega⟩
  · have := (Finset.mem_filter.mp hi).2
    dsimp only
    rw [dif_pos (Fin.le_def.mpr (by show t.val + i.val - N ≤ t.val; omega))]
    exact Fin.ext (by show t.val + i.val - N + N - t.val = i.val; omega)
  · have := (Finset.mem_filter.mp hs).2
    rw [dif_pos this]
    have := Fin.le_def.mp this
    exact Fin.ext (by show t.val + (s.val + N - t.val) - N = s.val; omega)

/-- Terms whose factor vanishes beyond the first `n` add nothing. -/
theorem sum_padded {n N : ℕ} (h : n ≤ N) (f : Fin N → EReal) (g : Fin n → EReal) (hg : ∀ i : Fin n, f ⟨i.val, by omega⟩ = g i)
    (h0 : ∀ j : Fin N, n ≤ j.val → f j = 0) : ∑ j, f j = ∑ i, g i := by
  obtain ⟨k, rfl⟩ := Nat.exists_eq_add_of_le h
  rw [Fin.sum_univ_add]
  refine (congrArg₂ (· + ·) (Finset.sum_congr rfl fun i _ => hg i) (Finset.sum_eq_zero fun j _ => h0 _ ?_)).trans (add_zero _)
  show n ≤ n + j.val
  omega

/-- Feature `j` of head `h`, of the keys and of the values. -/
abbrev key (h : Fin 4) (j : Fin 128) : Fin 512 := ⟨128 * h.val + j.val, by omega⟩
abbrev value (h : Fin 4) (d : Fin 256) : Fin 1024 := ⟨256 * h.val + d.val, by omega⟩

/-- An entry of the state after a chunk: the old one decayed, and every row's key times its value, decayed from its row on. -/
def carried {n : ℕ} (last : Fin n) (C K V : Fin n → EReal) (S : EReal) : EReal :=
  Ideal.exp (C last) * S + ∑ s, K s * Ideal.exp (C last - C s) * V s

/-- Of a row that is zero off the diagonal, the sum is the diagonal's entry. -/
theorem diagonal (j : Fin 128) (f : Fin 128 → EReal) :
    ∑ q : Fin 128, Scalar.select (IntOp.cmpi CmpIPredicate.eq (BitVec.ofNat 32 j.val) (BitVec.ofNat 32 q.val)) (f q) 0 = f j := by
  refine (Finset.sum_eq_single j (fun q _ h => ?_) (fun h => absurd (Finset.mem_univ j) h)).trans ?_
  · have hq : ¬ BitVec.ofNat 32 j.val = BitVec.ofNat 32 q.val := fun e => h (Fin.ext (by
      have := congrArg BitVec.toNat e
      simp only [BitVec.toNat_ofNat] at this
      omega))
    have hb : (BitVec.ofNat 32 j.val == BitVec.ofNat 32 q.val) = false := beq_eq_false_iff_ne.mpr hq
    simp [IntOp.cmpi, Scalar.select, hb]
  · simp [IntOp.cmpi, Scalar.select]

/-- The size of a number. -/
def size (p : EReal) : EReal := max p (-p)

/-- A chunk of an array of `n` chunks, sliced at a counter's value. -/
theorem slice_chunk {n B T H D : ℕ} {α : Type} (x : (⟨5, ![n, B, T, H, D]⟩ : Shape).Idx → α) (start : Fin 5 → Int)
    (f : Shape.Slices (⟨5, ![n, B, T, H, D]⟩ : Shape) (fun _ => 0) ⟨5, ![1, B, T, H, D]⟩) (k : Fin n) (hk : start 0 = k.val)
    (b : Fin B) (t : Fin T) (h : Fin H) (d : Fin D) :
    Host.dynamicSlice ⟨5, ![1, B, T, H, D]⟩ x start f (@ix5 1 B T H D 0 b t h d) = x (ix5 k b t h d) := by
  refine congrArg x (funext fun a => Fin.ext ?_)
  have hk' := k.isLt
  fin_cases a
  · show (min (max (start 0) 0) ((n - 1 : ℕ) : Int)).toNat + 0 = k.val
    omega
  · show (min (max (start 1) 0) ((B - B : ℕ) : Int)).toNat + b.val = b.val
    omega
  · show (min (max (start 2) 0) ((T - T : ℕ) : Int)).toNat + t.val = t.val
    omega
  · show (min (max (start 3) 0) ((H - H : ℕ) : Int)).toNat + h.val = h.val
    omega
  · show (min (max (start 4) 0) ((D - D : ℕ) : Int)).toNat + d.val = d.val
    omega

/-- An update of the whole array. -/
theorem update_whole {s : Shape} {α : Type} (x u : s.Idx → α) (start : Fin s.rank → Int) (h : s.Slices (fun _ => 0) s) :
    Host.dynamicUpdateSlice x u start h = u := by
  funext i
  have z (a : Fin s.rank) : (min (max (start a) 0) ((s.size a - s.size a : ℕ) : Int)).toNat = 0 := by omega
  refine (dif_pos fun a => ?_).trans ?_
  · show (min (max (start a) 0) ((s.size a - s.size a : ℕ) : Int)).toNat ≤ _ ∧ _ < (min (max (start a) 0) ((s.size a - s.size a : ℕ) : Int)).toNat + s.size a
    rw [z a]
    exact ⟨Nat.zero_le _, by have := (i a).isLt; omega⟩
  · refine congrArg u (funext fun a => Fin.ext ?_)
    show (i a).val - (min (max (start a) 0) ((s.size a - s.size a : ℕ) : Int)).toNat = (i a).val
    rw [z a, Nat.sub_zero]

/-- Row `t` of the output of one chunk of eight rows: its query on the state the chunk began with, decayed, and on every row up to `t`. -/
def mixed (t : Fin 8) (Q : Fin 128 → EReal) (K C : Fin 8 → Fin 128 → EReal) (S : Fin 128 → EReal) (V : Fin 8 → EReal) : EReal :=
  ∑ k, S k * (Q k * Ideal.exp (C t k)) + ∑ s : Fin 8, V s * ∑ k, Q k * K s k * Ideal.exp
    (Scalar.select (IntOp.cmpi CmpIPredicate.sge (BitVec.ofNat 32 t.val) (BitVec.ofNat 32 s.val)) (C t k - C s k) (Ideal.ofBits .f32 4048155338#32))

/-- A column picked from eight by its number, zero of any other number. -/
def ladder (a : Fin 8 → EReal) (e : ℕ) : EReal :=
  Scalar.select (IntOp.cmpi CmpIPredicate.eq (BitVec.ofNat 32 e) 7#32) (a 7) (Scalar.select (IntOp.cmpi CmpIPredicate.eq (BitVec.ofNat 32 e) 6#32) (a 6)
    (Scalar.select (IntOp.cmpi CmpIPredicate.eq (BitVec.ofNat 32 e) 5#32) (a 5) (Scalar.select (IntOp.cmpi CmpIPredicate.eq (BitVec.ofNat 32 e) 4#32) (a 4)
      (Scalar.select (IntOp.cmpi CmpIPredicate.eq (BitVec.ofNat 32 e) 3#32) (a 3) (Scalar.select (IntOp.cmpi CmpIPredicate.eq (BitVec.ofNat 32 e) 2#32) (a 2)
        (Scalar.select (IntOp.cmpi CmpIPredicate.eq (BitVec.ofNat 32 e) 1#32) (a 1) (Scalar.select (IntOp.cmpi CmpIPredicate.eq (BitVec.ofNat 32 e) 0#32) (a 0) 0)))))))

theorem ladder_at (a : Fin 8 → EReal) (s : Fin 8) : ladder a s.val = a s := by
  fin_cases s <;> rfl

/-- The same row as the kernel takes it: the columns padded by zero rows. -/
def padded (t : Fin 8) (Q : Fin 128 → EReal) (K C : Fin 8 → Fin 128 → EReal) (S : Fin 128 → EReal) (V : Fin 8 → EReal) : EReal :=
  let column (s : Fin 8) : EReal := ∑ k, Q k * K s k * Ideal.exp
    (Scalar.select (IntOp.cmpi CmpIPredicate.sge (BitVec.ofNat 32 t.val) (BitVec.ofNat 32 s.val)) (C t k - C s k) (Ideal.ofBits .f32 4048155338#32))
  ∑ k, Q k * Ideal.exp (C t k) * S k + (∑ s : Fin 8, ladder column s.val * V s + ∑ j : Fin 120, ladder column (8 + j.val) * 0)

theorem padded_eq (t : Fin 8) (Q : Fin 128 → EReal) (K C : Fin 8 → Fin 128 → EReal) (S : Fin 128 → EReal) (V : Fin 8 → EReal) :
    padded t Q K C S V = mixed t Q K C S V := by
  unfold padded mixed
  refine congrArg₂ (· + ·) (Finset.sum_congr rfl fun k _ => mul_comm _ _) ?_
  refine (congrArg (_ + ·) (Finset.sum_eq_zero fun j _ => mul_zero _)).trans ((add_zero _).trans (Finset.sum_congr rfl fun s _ => ?_))
  rw [ladder_at, mul_comm]

/-- A row of a head's outputs over its root mean square, weighted and gated. -/
def normal (o : Fin 256 → EReal) (d : Fin 256) (w z : EReal) : EReal :=
  o d * Ideal.rsqrt (Ideal.div (∑ x, o x * o x) (Ideal.ofBits .f32 1132462080#32) + Ideal.ofBits .f32 897988541#32) * w * (z * Ideal.div 1 (1 + Ideal.exp (-z)))

/-- The logarithm of a gate of preactivation `p`. -/
def gate (p : EReal) : EReal := Ideal.div (min p 0 - Ideal.log1p (Ideal.exp (0 - size p))) (Ideal.ofBits .f32 1098907648#32)

/-- One step of the running sum, as the kernel takes it: the sums `w` rows earlier are added from row `w` on. -/
theorem doubled {n : ℕ} (w : ℕ) (hw : w ≤ n := by decide) (hn : n ≤ 64 := by decide) (x : Fin n → EReal) (t u : Fin n) (hu : u.val = (t.val + n - w) % n) :
    window w x t + Scalar.select (IntOp.cmpi CmpIPredicate.sge (BitVec.ofNat 32 t.val) (BitVec.ofNat 32 w)) (window w x u) 0 = window (2 * w) x t := by
  rw [← window_double w x t u fun h => by
    rw [hu, show t.val + n - w = t.val - w + n by omega, Nat.add_mod_right, Nat.mod_eq_of_lt (by omega)]]
  have h1 : (BitVec.ofNat 32 t.val).toInt = t.val := by
    have e : (BitVec.ofNat 32 t.val).toNat = t.val := by rw [BitVec.toNat_ofNat]; exact Nat.mod_eq_of_lt (by omega)
    rw [BitVec.toInt_eq_toNat_of_lt (by omega), e]
  have h2 : (BitVec.ofNat 32 w).toInt = w := by
    have e : (BitVec.ofNat 32 w).toNat = w := by rw [BitVec.toNat_ofNat]; exact Nat.mod_eq_of_lt (by omega)
    rw [BitVec.toInt_eq_toNat_of_lt (by omega), e]
  by_cases h : w ≤ t.val
  · have hb : (BitVec.ofNat 32 w).sle (BitVec.ofNat 32 t.val) = true := by rw [BitVec.sle_iff_toInt_le, h1, h2]; omega
    rw [if_pos h]
    simp [IntOp.cmpi, Scalar.select, hb]
  · have hb : (BitVec.ofNat 32 w).sle (BitVec.ofNat 32 t.val) = false := by
      rw [Bool.eq_false_iff, ne_eq, BitVec.sle_iff_toInt_le, h1, h2]; omega
    rw [if_neg h]
    simp [IntOp.cmpi, Scalar.select, hb]

/-- The logarithm of the logistic function, as the layer writes it and as the kernel does. -/
theorem log_sigmoid (p : EReal) : -(max (-p) 0 + Ideal.log1p (Ideal.exp (-size (-p - 0)))) = min p 0 - Ideal.log1p (Ideal.exp (0 - size p)) := by
  have hsize : size (-p - 0) = size p := by
    rw [sub_zero]
    unfold size
    rw [neg_neg, max_comm]
  have hmin : max (-p) 0 = -min p 0 := by
    rcases le_total p 0 with h | h
    · rw [max_eq_left (EReal.le_neg_of_le_neg (by rwa [neg_zero])), min_eq_left h]
    · rw [max_eq_right (EReal.neg_le_of_neg_le (by rwa [neg_zero])), min_eq_right h, neg_zero]
  rw [hsize, hmin, zero_sub]
  obtain ⟨l, hl⟩ : ∃ l : ℝ, Ideal.log1p (Ideal.exp (-size p)) = (l : EReal) := by
    obtain ⟨r, hr, he⟩ : ∃ r : ℝ, 0 ≤ r ∧ Ideal.exp (-size p) = (r : EReal) := by
      unfold size
      induction p using EReal.rec with
      | bot => exact ⟨0, le_refl _, by simp [Ideal.exp]; rfl⟩
      | top => exact ⟨0, le_refl _, by simp [Ideal.exp]; rfl⟩
      | coe x => exact ⟨Real.exp (-max x (-x)), (Real.exp_pos _).le, by rw [← EReal.coe_neg, ← EReal.coe_strictMono.monotone.map_max, ← EReal.coe_neg]; rfl⟩
    refine ⟨Real.log (1 + r), ?_⟩
    rw [he]
    show Ideal.log (((1 : ℝ) : EReal) + (r : EReal)) = _
    rw [← EReal.coe_add]
    exact if_neg (by linarith)
  rw [hl, EReal.neg_add (.inr (EReal.coe_ne_top _)) (.inr (EReal.coe_ne_bot _)), neg_neg]

/-- The running sums of one feature's gates, over eight tokens. -/
def decays (a : (⟨3, ![32, 8, 16]⟩ : Shape).Idx → EReal) (w : (⟨3, ![1, 16, 512]⟩ : Shape).Idx → EReal) (β : (⟨2, ![1, 512]⟩ : Shape).Idx → EReal) (b : Fin 32) (e : Fin 512) :
    Fin 8 → EReal :=
  running fun s => gate (∑ r : Fin 16, a (ix3 b s r) * w (ix3 0 r e) + β (ix2 0 e))

end Cert.Proof.Gla
-- ==== Proof.GlaState.lean ====
/- The state of one head after a chunk of rows, as a point of either linear attention stores it. -/
module

public import Idealize.ShloMosaic.Lib.Pipeline.ReadBack
public import proofs.«01_k».proof.Proof.Gla

@[expose] public section

noncomputable section

namespace Cert.Proof.Gla.State

open Idealize.ShloMosaic Idealize.ShloMosaic.TcCoe

/-- The states of the four heads. -/
abbrev Heads : Shape := ⟨3, ![4, 128, 256]⟩

variable {n : ℕ} (last : Fin n)

/-- The state after the chunk's rows. -/
def state (C K : (⟨2, ![n, 512]⟩ : Shape).Idx → EReal) (V : (⟨2, ![n, 1024]⟩ : Shape).Idx → EReal) (S : Heads.Idx → EReal) : Heads.Idx → EReal := fun y =>
  carried last (fun s => C (ix2 s (key (y 0) (y 1)))) (fun s => K (ix2 s (key (y 0) (y 1)))) (fun s => V (ix2 s (value (y 0) (y 2)))) (S y)

/-- One head's part of the state. -/
abbrev slab (h : ℕ) (inb : ∀ a : Fin 3, (![h, 0, 0] : Fin 3 → ℕ) a + (![1, 128, 256] : Fin 3 → ℕ) a ≤ Heads.size a) : Rect Heads :=
  Rect.unit (s := Heads) ![h, 0, 0] ![1, 128, 256] inb

theorem emb_of (h : ℕ) (inb : ∀ a : Fin 3, (![h, 0, 0] : Fin 3 → ℕ) a + (![1, 128, 256] : Fin 3 → ℕ) a ≤ Heads.size a) (x : (slab h inb).shape.Idx)
    (hh : h < 4 := by decide) : @ix3 4 128 256 ⟨h, hh⟩ (x 1) (x 2) = (slab h inb).emb x := by
  have h0 : (x 0).val < 1 := (x 0).isLt
  funext a
  refine Fin.ext ?_
  match a with
  | ⟨0, _⟩ => show h = h + 1 * (x 0).val; omega
  | ⟨1, _⟩ => show (x 1).val = 0 + 1 * (x 1).val; omega
  | ⟨2, _⟩ => show (x 2).val = 0 + 1 * (x 2).val; omega

theorem state_of (P h : ℕ) (inb : ∀ a : Fin 3, (![h, 0, 0] : Fin 3 → ℕ) a + (![1, 128, 256] : Fin 3 → ℕ) a ≤ Heads.size a) (x : (slab h inb).shape.Idx)
    (C K : (⟨2, ![n, 512]⟩ : Shape).Idx → EReal) (V : (⟨2, ![n, 1024]⟩ : Shape).Idx → EReal) (S : Heads.Idx → EReal)
    (g : Fin 128 → Fin 512) (hg : ∀ j, (g j).val = 128 * h + j.val) (a : Fin 512) (ha : a.val = 128 * h + (x 1).val)
    (u : Fin 1024) (hu : u.val = 256 * h + (x 2).val) (v : EReal) (hv : v = S ((slab h inb).emb x)) :
    (∑ q : Fin 128, Scalar.select (IntOp.cmpi CmpIPredicate.eq (BitVec.ofNat 32 (x 1).val) (BitVec.ofNat 32 q.val)) (Ideal.exp (C (ix2 last (g q)))) 0) * v
        + (∑ s : Fin n, K (ix2 s a) * Ideal.exp (C (ix2 last a) - C (ix2 s a)) * V (ix2 s u) + ∑ _ : Fin P, (0 : EReal) * 0)
      = state last C K V S ((slab h inb).emb x) := by
  have h0 : (x 0).val < 1 := (x 0).isLt
  have hk : a = key ((slab h inb).emb x 0) ((slab h inb).emb x 1) :=
    Fin.ext (ha.trans (by show 128 * h + (x 1).val = 128 * (h + 1 * (x 0).val) + (0 + 1 * (x 1).val); omega))
  have hw : u = value ((slab h inb).emb x 0) ((slab h inb).emb x 2) :=
    Fin.ext (hu.trans (by show 256 * h + (x 2).val = 256 * (h + 1 * (x 0).val) + (0 + 1 * (x 2).val); omega))
  have hga : g (x 1) = a := Fin.ext ((hg _).trans ha.symm)
  refine (congrArg₂ (· + ·) (congrArg (· * v) (diagonal (x 1) _)) (congrArg (_ + ·) (Finset.sum_eq_zero fun _ _ => zero_mul 0))).trans ?_
  rw [add_zero, hga, hv]
  unfold state carried
  rw [← hk, ← hw]

theorem state_at (C K : (⟨2, ![n, 512]⟩ : Shape).Idx → EReal) (V : (⟨2, ![n, 1024]⟩ : Shape).Idx → EReal) (S : Heads.Idx → EReal) (h : Fin 4) (e : Fin 128) (d : Fin 256) :
    state last C K V S (ix3 h e d) = carried last (fun u => C (ix2 u (key h e))) (fun u => K (ix2 u (key h e))) (fun u => V (ix2 u (value h d))) (S (ix3 h e d)) := rfl

/-- A block of the states' array holds whole states. -/
theorem place4 {T : Fin 4 → ℕ} {B p : ℕ} (h : T = ![p, 0, 0, 0]) (u : Fin 1) (h' : Fin 4) (k' : Fin 128) (d : Fin 256) (b : Fin B) (hb : b.val = p)
    (j : (⟨4, ![B, 4, 128, 256]⟩ : Shape).Idx) (h0 : (j 0).val = T 0 * 1 + 1 * u.val) (h1 : (j 1).val = T 1 * 4 + 1 * h'.val) (h2 : (j 2).val = T 2 * 128 + 1 * k'.val)
    (h3 : (j 3).val = T 3 * 256 + 1 * d.val) : j = ix4 b h' k' d := by
  subst h
  have e0 : (j 0).val = p * 1 + 1 * u.val := h0
  have e1 : (j 1).val = 0 * 4 + 1 * h'.val := h1
  have e2 : (j 2).val = 0 * 128 + 1 * k'.val := h2
  have e3 : (j 3).val = 0 * 256 + 1 * d.val := h3
  exact funext fun a => Fin.ext (match a with
    | ⟨0, _⟩ => by show (j 0).val = b.val; omega
    | ⟨1, _⟩ => by show (j 1).val = h'.val; omega
    | ⟨2, _⟩ => by show (j 2).val = k'.val; omega
    | ⟨3, _⟩ => by show (j 3).val = d.val; omega)

/-- Row `s` of chunk `t` of the prompt. -/
abbrev row (t : Fin 128) (s : Fin 64) : Fin 8192 := ⟨64 * t.val + s.val, by omega⟩

/-- The running sums of one feature's gates, over the rows of a chunk. -/
def fades (a : (⟨3, ![1, 8192, 16]⟩ : Shape).Idx → EReal) (w : (⟨3, ![1, 16, 512]⟩ : Shape).Idx → EReal) (β : (⟨2, ![1, 512]⟩ : Shape).Idx → EReal) (t : Fin 128) (e : Fin 512) :
    Fin 64 → EReal :=
  running fun s => gate (∑ r : Fin 16, a (ix3 0 (row t s) r) * w (ix3 0 r e) + β (ix2 0 e))

/-- An entry of the state after the prompt's first `n` chunks. -/
def evolved (k : (⟨3, ![1, 8192, 512]⟩ : Shape).Idx → EReal) (v : (⟨3, ![1, 8192, 1024]⟩ : Shape).Idx → EReal) (a : (⟨3, ![1, 8192, 16]⟩ : Shape).Idx → EReal)
    (w : (⟨3, ![1, 16, 512]⟩ : Shape).Idx → EReal) (β : (⟨2, ![1, 512]⟩ : Shape).Idx → EReal) (h : Fin 4) (e : Fin 128) (d : Fin 256) : ℕ → EReal
  | 0 => 0
  | n + 1 => carried 63 (fades a w β ⟨n % 128, Nat.mod_lt _ (by decide)⟩ (key h e)) (fun s => k (ix3 0 (row ⟨n % 128, Nat.mod_lt _ (by decide)⟩ s) (key h e)))
      (fun s => v (ix3 0 (row ⟨n % 128, Nat.mod_lt _ (by decide)⟩ s) (value h d))) (evolved k v a w β h e d n)

theorem evolved_next (k : (⟨3, ![1, 8192, 512]⟩ : Shape).Idx → EReal) (v : (⟨3, ![1, 8192, 1024]⟩ : Shape).Idx → EReal) (a : (⟨3, ![1, 8192, 16]⟩ : Shape).Idx → EReal)
    (w : (⟨3, ![1, 16, 512]⟩ : Shape).Idx → EReal) (β : (⟨2, ![1, 512]⟩ : Shape).Idx → EReal) (h : Fin 4) (e : Fin 128) (d : Fin 256) (t : Fin 128) :
    evolved k v a w β h e d (t.val + 1) = carried 63 (fades a w β t (key h e)) (fun s => k (ix3 0 (row t s) (key h e)))
      (fun s => v (ix3 0 (row t s) (value h d))) (evolved k v a w β h e d t.val) := by
  have ht : (⟨t.val % 128, Nat.mod_lt _ (by decide)⟩ : Fin 128) = t := Fin.ext (Nat.mod_eq_of_lt t.isLt)
  rw [evolved, ht]

end Cert.Proof.Gla.State
-- ==== Proof.GlaSample.lean ====
/- What a point of the sample batch's linear attention leaves in the state and in the outputs. -/
module

public import Idealize.ShloMosaic.Lib.Pipeline.ReadBack
public import proofs.«01_k».proof.Proof.Merge
public import proofs.«01_k».proof.Proof.GlaState
public import proofs.«01_k».proof.Proof.Gen.Kernel7Ideal.Frame
public import proofs.«01_k».proof.Defs

@[expose] public section

noncomputable section

namespace Cert.Proof.Gla.Sample

open Idealize.ShloMosaic Idealize.ShloMosaic.TcCoe Cert.Kernel7Ideal Cert.Kernel7Ideal.Gen Cert.Proof.Gla.State

/-- The running sums of a point's gate. -/
abbrev sums (A : Vec Ideal S8x128 .f32) (W : Vec Ideal S128x512 .f32) (B : Vec Ideal S1x512 .f32) : FVec Ideal S8x512 .f32 :=
  k0_pay8 (iota Kind.tc S8x1 32 [0] iota_S8x1_d0_w32) (k0_pay4 A W B) (k0_pay5 A W B) k0_pay6 k0_pay7

/-- A gate's preactivation. -/
abbrev pre (A : Vec Ideal S8x128 .f32) (W : Vec Ideal S128x512 .f32) (B : Vec Ideal S1x512 .f32) (e : Fin 512) (t : Fin 8) : EReal :=
  ∑ j : Fin 128, A (ix2 t j) * W (ix2 j e) + B (ix2 0 e)

theorem once (A : Vec Ideal S8x128 .f32) (W : Vec Ideal S128x512 .f32) (B : Vec Ideal S1x512 .f32) (t : Fin 8) (e : Fin 512) :
    k0_pay4 A W B (ix2 t e) = window 2 (fun s => gate (pre A W B e s)) t := by
  unfold k0_pay4
  pointwise
  refine Eq.trans ?_ (doubled 1 (x := fun s => gate (pre A W B e s)) (t := t) (u := ⟨(t.val + 8 - 1) % 8, Nat.mod_lt _ (by decide)⟩) (hu := rfl))
  rw [window_one, window_one]
  rfl

theorem sums_at (A : Vec Ideal S8x128 .f32) (W : Vec Ideal S128x512 .f32) (B : Vec Ideal S1x512 .f32) (t : Fin 8) (e : Fin 512) :
    sums A W B (ix2 t e) = running (fun s => gate (pre A W B e s)) t := by
  have h (s : Fin 8) := once A W B s e
  unfold sums k0_pay8 k0_pay5 k0_pay6 k0_pay7
  generalize k0_pay4 A W B = C at h ⊢
  pointwise
  rw [h, h, h, h]
  refine (congrArg₂ (fun a b => a + Scalar.select (IntOp.cmpi CmpIPredicate.sge (BitVec.ofNat 32 t.val) 4#32) b 0)
    (doubled 2 (x := fun s => gate (pre A W B e s)) (t := t) (u := ⟨(t.val + 8 - 2) % 8, Nat.mod_lt _ (by decide)⟩) (hu := rfl))
    (doubled 2 (x := fun s => gate (pre A W B e s)) (t := ⟨(t.val + 8 - 4) % 8, Nat.mod_lt _ (by decide)⟩)
      (u := ⟨((t.val + 8 - 4) % 8 + 8 - 2) % 8, Nat.mod_lt _ (by decide)⟩) (hu := rfl))).trans ?_
  exact (doubled 4 (x := fun s => gate (pre A W B e s)) (t := t) (u := ⟨(t.val + 8 - 4) % 8, Nat.mod_lt _ (by decide)⟩) (hu := rfl)).trans
    (window_all _ _)

/-- The stores of the four heads' states, over what the buffer held. -/
theorem pieces (A : Vec Ideal S8x128 .f32) (W : Vec Ideal S128x512 .f32) (B : Vec Ideal S1x512 .f32) (K : Vec Ideal S8x512 .f32) (V : Vec Ideal S8x1024 .f32)
    (S : Vec Ideal S4x128x256 .f32) (L) (y : S4x128x256.Idx) :
    View.canon (Val := Elt Ideal) (s := S4x128x256) (e := .f32) ([⟨Rect.unit ![3, 0, 0] ![1, 128, 256] inb_S4x128x256_S1x128x256_3_0_0,
          k0_pay87 (k0_pay71 (View.ld K (Rect.unit ![0, 384] ![8, 128] inb_S8x512_S8x128_0_384))) (k0_pay72 (sums A W B))
            (k0_pay73 (View.ld S (Rect.unit ![3, 0, 0] ![1, 128, 256] inb_S4x128x256_S1x128x256_3_0_0)))
            (k0_pay74 (View.ld V (Rect.unit ![0, 768] ![8, 256] inb_S8x1024_S8x256_0_768)))⟩,
        ⟨Rect.unit ![2, 0, 0] ![1, 128, 256] inb_S4x128x256_S1x128x256_2_0_0,
          k0_pay67 (k0_pay51 (View.ld K (Rect.unit ![0, 256] ![8, 128] inb_S8x512_S8x128_0_256))) (k0_pay52 (sums A W B))
            (k0_pay53 (View.ld S (Rect.unit ![2, 0, 0] ![1, 128, 256] inb_S4x128x256_S1x128x256_2_0_0)))
            (k0_pay54 (View.ld V (Rect.unit ![0, 512] ![8, 256] inb_S8x1024_S8x256_0_512)))⟩,
        ⟨Rect.unit ![1, 0, 0] ![1, 128, 256] inb_S4x128x256_S1x128x256_1_0_0,
          k0_pay48 (k0_pay31 (View.ld S (Rect.unit ![1, 0, 0] ![1, 128, 256] inb_S4x128x256_S1x128x256_1_0_0)))
            (k0_pay32 (View.ld V (Rect.unit ![0, 256] ![8, 256] inb_S8x1024_S8x256_0_256)))
            (k0_pay45 (k0_pay29 (View.ld K (Rect.unit ![0, 128] ![8, 128] inb_S8x512_S8x128_0_128))) (k0_pay30 (sums A W B)))
            k0_pay46 (k0_pay47 (k0_pay30 (sums A W B))) (FloatOps.ofBits FTy.f32 0#32)⟩,
        ⟨Rect.unit ![0, 0, 0] ![1, 128, 256] inb_S4x128x256_S1x128x256_0_0_0,
          k0_pay26 (k0_pay25 (k0_pay10 (View.ld K (Rect.unit ![0, 0] ![8, 128] inb_S8x512_S8x128_0_0)))
            (k0_pay11 (iota Kind.tc S8x1 32 [0] iota_S8x1_d0_w32) (k0_pay4 A W B) (k0_pay5 A W B) k0_pay6 k0_pay7)
            (k0_pay12 (View.ld S (Rect.unit ![0, 0, 0] ![1, 128, 256] inb_S4x128x256_S1x128x256_0_0_0)))
            (k0_pay13 (View.ld V (Rect.unit ![0, 0] ![8, 256] inb_S8x1024_S8x256_0_0))))⟩] ++ L) y = state 7 (sums A W B) K V S y := by
  unfold sums
  refine View.canon_append_of_piecesOf (Val := Elt Ideal) (s := S4x128x256) (e := .f32) (state 7 (sums A W B) K V S) L _ ?_ y
    (View.cover_of_tiledBy _ ![1, 128, 256] (by sl_kernel_rfl) y)
  refine ⟨fun x => ?_, fun x => ?_, fun x => ?_, fun x => ?_, trivial⟩
  · unfold sums k0_pay87 k0_pay71 k0_pay72 k0_pay73 k0_pay74
    generalize k0_pay8 (iota Kind.tc S8x1 32 [0] iota_S8x1_d0_w32) (k0_pay4 A W B) (k0_pay5 A W B) k0_pay6 k0_pay7 = C
    pointwise
    exact state_of 7 _ _ _ x C K V S _ (fun j => rfl) _ rfl _ rfl _ (congrArg S (emb_of _ _ x))
  · unfold sums k0_pay67 k0_pay51 k0_pay52 k0_pay53 k0_pay54
    generalize k0_pay8 (iota Kind.tc S8x1 32 [0] iota_S8x1_d0_w32) (k0_pay4 A W B) (k0_pay5 A W B) k0_pay6 k0_pay7 = C
    pointwise
    exact state_of 7 _ _ _ x C K V S _ (fun j => rfl) _ rfl _ rfl _ (congrArg S (emb_of _ _ x))
  · unfold sums k0_pay48 k0_pay31 k0_pay32 k0_pay45 k0_pay29 k0_pay30 k0_pay46 k0_pay47 k0_pay44
    generalize k0_pay8 (iota Kind.tc S8x1 32 [0] iota_S8x1_d0_w32) (k0_pay4 A W B) (k0_pay5 A W B) k0_pay6 k0_pay7 = C
    pointwise
    exact state_of 7 _ _ _ x C K V S _ (fun j => rfl) _ rfl _ rfl _ (congrArg S (emb_of _ _ x))
  · unfold sums k0_pay26 k0_pay25 k0_pay10 k0_pay11 k0_pay12 k0_pay13
    generalize k0_pay8 (iota Kind.tc S8x1 32 [0] iota_S8x1_d0_w32) (k0_pay4 A W B) (k0_pay5 A W B) k0_pay6 k0_pay7 = C
    pointwise
    exact state_of 7 _ _ _ x C K V S _ (fun j => by dsimp only; omega) _ (by dsimp only; omega) _ (by dsimp only; omega) _ (congrArg S (emb_of _ _ x))

/-- The head and the feature of a value's number. -/
abbrev head (e : Fin 1024) : Fin 4 := ⟨e.val / 256, by omega⟩
abbrev feature (e : Fin 1024) : Fin 256 := ⟨e.val % 256, by omega⟩

/-- The outputs of the chunk's rows. -/
def output (C : FVec Ideal S8x512 .f32) (Q K : Vec Ideal S8x512 .f32) (V Z : Vec Ideal S8x1024 .f32) (N : Vec Ideal S1x256 .f32) (S : Vec Ideal S4x128x256 .f32) :
    Vec Ideal S8x1024 .f32 := fun y =>
  normal (fun d => mixed (y 0) (fun k => Q (ix2 (y 0) (key (head (y 1)) k)) * Ideal.ofBits .f32 1035273459#32) (fun s k => K (ix2 s (key (head (y 1)) k)))
    (fun s k => C (ix2 s (key (head (y 1)) k))) (fun k => S (ix3 (head (y 1)) k d)) (fun s => V (ix2 s (value (head (y 1)) d))))
    (feature (y 1)) (N (ix2 0 (feature (y 1)))) (Z (ix2 (y 0) (y 1)))

/-- One head's columns. -/
abbrev band (o : ℕ) (inb : ∀ a : Fin 2, (![0, o] : Fin 2 → ℕ) a + (![8, 256] : Fin 2 → ℕ) a ≤ S8x1024.size a) : Rect S8x1024 :=
  Rect.unit (s := S8x1024) ![0, o] ![8, 256] inb

theorem output_of (h : Fin 4) (o : ℕ) (ho : o = 256 * h.val) (inb : ∀ a : Fin 2, (![0, o] : Fin 2 → ℕ) a + (![8, 256] : Fin 2 → ℕ) a ≤ S8x1024.size a)
    (x : (band o inb).shape.Idx)
    (C : FVec Ideal S8x512 .f32) (Q K : Vec Ideal S8x512 .f32) (V Z : Vec Ideal S8x1024 .f32) (N : Vec Ideal S1x256 .f32) (S : Vec Ideal S4x128x256 .f32)
    (g : Fin 128 → Fin 512) (hg : ∀ k, (g k).val = 128 * h.val + k.val) (w : Fin 256 → Fin 1024) (hw : ∀ d, (w d).val = 256 * h.val + d.val) :
    normal (fun d => padded (x 0) (fun k => Q (ix2 (x 0) (g k)) * Ideal.ofBits .f32 1035273459#32) (fun s k => K (ix2 s (g k)))
      (fun s k => C (ix2 s (g k))) (fun k => S (ix3 h k d)) (fun s => V (ix2 s (w d)))) (x 1) (N (ix2 0 (x 1))) (Z (ix2 (x 0) (w (x 1))))
      = output C Q K V Z N S ((band o inb).emb x) := by
  have hk : g = key h := funext fun k => Fin.ext (hg k)
  have hv : w = value h := funext fun d => Fin.ext (hw d)
  have hx : (x 1).val < 256 := (x 1).isLt
  have e0 : (band o inb).emb x 0 = x 0 := Fin.ext (by show 0 + 1 * (x 0).val = (x 0).val; omega)
  have e1 : (band o inb).emb x 1 = value h (x 1) := Fin.ext (by show o + 1 * (x 1).val = 256 * h.val + (x 1).val; omega)
  have e2 : head (value h (x 1)) = h := Fin.ext (by show (256 * h.val + (x 1).val) / 256 = h.val; omega)
  have e3 : feature (value h (x 1)) = x 1 := Fin.ext (by show (256 * h.val + (x 1).val) % 256 = (x 1).val; omega)
  subst hk hv
  unfold output
  rw [e0, e1, e2, e3]
  exact congrArg (fun f => normal f (x 1) (N (ix2 0 (x 1))) (Z (ix2 (x 0) (value h (x 1))))) (funext fun d => padded_eq _ _ _ _ _ _)

variable (m : (ℓ : Loc nD τ sig) → Buf (Elt Ideal) ℓ) (c : Dev nD)

/-- What a point leaves in the two result blocks. -/
def left9 (t : Fin cfg0.N) : Vec Ideal S8x1024 .f32 := (outsAt0 m c t).1
def left10 (t : Fin cfg0.N) : Vec Ideal S1x4x128x256 .f32 := (outsAt0 m c t).2

set_option maxHeartbeats 1000000 in
theorem left9_eq (t : Fin cfg0.N) : left9 m c t = output (sums (iblk m c 3 t) (iblk m c 5 t) (iblk m c 6 t)) (iblk m c 0 t) (iblk m c 1 t) (iblk m c 2 t)
    (iblk m c 4 t) (iblk m c 7 t) (k0_pay3 (iblk m c 8 t)) := by
  funext y
  unfold left9 outsAt0 out0_A_9 sums
  frame_open
  frame_out
  simp (disch := decide) only [↓ View.readCov_skip, ↓ View.readCov_fill]
  generalize (iblk m c 0 t : Vec Ideal S8x512 .f32) = Q
  generalize (iblk m c 1 t : Vec Ideal S8x512 .f32) = K
  generalize (iblk m c 2 t : Vec Ideal S8x1024 .f32) = V
  generalize (iblk m c 4 t : Vec Ideal S8x1024 .f32) = Z
  generalize (iblk m c 7 t : Vec Ideal S1x256 .f32) = N
  generalize k0_pay3 (iblk m c 8 t) = S
  generalize (iblk m c 3 t : Vec Ideal S8x128 .f32) = A
  generalize (iblk m c 5 t : Vec Ideal S128x512 .f32) = W
  generalize (iblk m c 6 t : Vec Ideal S1x512 .f32) = B
  change View.canon (Val := Elt Ideal) (s := S8x1024) (e := .f32) ([_, _, _, _] ++ []) y = _
  refine View.canon_append_of_piecesOf (Val := Elt Ideal) (s := S8x1024) (e := .f32) _ [] _ ?_ y (View.cover_of_tiledBy _ ![8, 256] (by sl_kernel_rfl) y)
  refine ⟨fun x => ?_, fun x => ?_, fun x => ?_, fun x => ?_, trivial⟩
  · unfold k0_pay1 k0_pay88 k0_pay86 k0_pay85 k0_pay84 k0_pay83 k0_pay82 k0_pay81 k0_pay80 k0_pay79 k0_pay78 k0_pay77 k0_pay76 k0_pay75 k0_pay74 k0_pay73 k0_pay72 k0_pay71 k0_pay70
    generalize k0_pay8 (iota Kind.tc S8x1 32 [0] iota_S8x1_d0_w32) (k0_pay4 A W B) (k0_pay5 A W B) k0_pay6 k0_pay7 = C
    pointwise
    exact output_of 3 _ rfl _ x C Q K V Z N S (fun k => ⟨384 + k.val, by omega⟩) (fun k => rfl) (fun d => ⟨768 + d.val, by omega⟩) (fun k => rfl)
  · unfold k0_pay69 k0_pay68 k0_pay66 k0_pay65 k0_pay64 k0_pay63 k0_pay62 k0_pay61 k0_pay60 k0_pay59 k0_pay58 k0_pay57 k0_pay56 k0_pay55 k0_pay54 k0_pay53 k0_pay52 k0_pay51 k0_pay50
    generalize k0_pay8 (iota Kind.tc S8x1 32 [0] iota_S8x1_d0_w32) (k0_pay4 A W B) (k0_pay5 A W B) k0_pay6 k0_pay7 = C
    pointwise
    exact output_of 2 _ rfl _ x C Q K V Z N S (fun k => ⟨256 + k.val, by omega⟩) (fun k => rfl) (fun d => ⟨512 + d.val, by omega⟩) (fun k => rfl)
  · unfold k0_pay49 k0_pay43 k0_pay42 k0_pay41 k0_pay40 k0_pay39 k0_pay38 k0_pay37 k0_pay36 k0_pay35 k0_pay34 k0_pay33 k0_pay32 k0_pay31 k0_pay30 k0_pay29 k0_pay28
    generalize k0_pay8 (iota Kind.tc S8x1 32 [0] iota_S8x1_d0_w32) (k0_pay4 A W B) (k0_pay5 A W B) k0_pay6 k0_pay7 = C
    pointwise
    exact output_of 1 _ rfl _ x C Q K V Z N S (fun k => ⟨128 + k.val, by omega⟩) (fun k => rfl) (fun d => ⟨256 + d.val, by omega⟩) (fun k => rfl)
  · unfold k0_pay27 k0_pay24 k0_pay14 k0_pay16 k0_pay9 k0_pay10 k0_pay11 k0_pay12 k0_pay13 k0_pay15 k0_pay17 k0_pay18 k0_pay19 k0_pay20 k0_pay21 k0_pay22 k0_pay23
    generalize k0_pay8 (iota Kind.tc S8x1 32 [0] iota_S8x1_d0_w32) (k0_pay4 A W B) (k0_pay5 A W B) k0_pay6 k0_pay7 = C
    pointwise
    exact output_of 0 _ rfl _ x C Q K V Z N S (fun k => ⟨k.val, by omega⟩) (fun k => by dsimp only; omega) (fun d => ⟨d.val, by omega⟩) (fun k => by dsimp only; omega)

theorem left10_eq (t : Fin cfg0.N) (y : S1x4x128x256.Idx) : left10 m c t y = state 7 (sums (iblk m c 3 t) (iblk m c 5 t) (iblk m c 6 t)) (iblk m c 1 t) (iblk m c 2 t) (k0_pay3 (iblk m c 8 t)) (ix3 (y 1) (y 2) (y 3)) := by
  unfold left10 outsAt0 out0_A_10
  frame_open
  frame_out
  simp (disch := decide) only [↓ View.readCov_skip, ↓ View.readCov_fill]
  rw [View.readCov_eq_canon']
  have h := pieces (iblk m c 3 t) (iblk m c 5 t) (iblk m c 6 t) (iblk m c 1 t) (iblk m c 2 t) (k0_pay3 (iblk m c 8 t))
    [⟨Rect.unit ![0, 0, 0] ![4, 128, 256] inb_S4x128x256_S4x128x256_0_0_0, k0_pay3 (iblk m c 8 t)⟩]
  have h0 : (y 0).val < 1 := (y 0).isLt
  refine Eq.trans (b := k0_pay2 (fun j => state 7 (sums (iblk m c 3 t) (iblk m c 5 t) (iblk m c 6 t)) (iblk m c 1 t) (iblk m c 2 t) (k0_pay3 (iblk m c 8 t))
    ((Rect.unit (s := S4x128x256) ![0, 0, 0] ![4, 128, 256] inb_S4x128x256_S4x128x256_0_0_0).idx j)) y)
    (congrArg (fun f => k0_pay2 f y) (funext fun j => ?_)) ?_
  · exact h _
  unfold k0_pay2
  pointwise

end Cert.Proof.Gla.Sample
-- ==== Proof.GlaWeights.lean ====
/- The gates' weights of the linear attention, set in the first rows of a taller array. -/
module

public import Idealize.ShloMosaic.Lib.Pointwise
public import Idealize.ShloMosaic.Lib.Routing.OpsOne
public import proofs.«01_k».proof.Proof.Gen.Kernel7Ideal.Frame

@[expose] public section

noncomputable section

namespace Cert.Proof.Gla

open Idealize.ShloMosaic Idealize.ShloMosaic.TcCoe Cert.Kernel7Ideal Cert.Kernel7Ideal.Gen

/-- The weights, in the first sixteen of the rows. -/
def taller (w : Vec Ideal S1x16x512 .f32) : Vec Ideal S128x512 .f32 :=
  Host.scatter scatter_S128x512_S1_S16x512_01_n_0_0 (fun _ b => b) (broadcastInDim S128x512 ![] bcast_S_S128x512 (constant (F := Ideal) S_ .f32 0x00000000#32))
    (broadcastInDim S1 ![] bcast_S_S1 (constantI S_ 32 0#32)) (shapeCast S16x512 w shapeCasts_S1x16x512_S16x512)

theorem lands (p : Fin 16) (e : Fin 512) (r : Fin 128) (d : Fin 512) (idx : IVec S1 32) (h : (idx (ix1 0)).toInt = 0) :
    scatter_S128x512_S1_S16x512_01_n_0_0.resultIdx? (ix2 p e) idx = some (ix2 r d) ↔ p.val = r.val ∧ e.val = d.val := by
  have hw (x : Fin 2) : scatter_S128x512_S1_S16x512_01_n_0_0.window (ix2 p e) x = (ix2 p e x).val := by
    match x with
    | ⟨0, _⟩ => rfl
    | ⟨1, _⟩ => rfl
  have h0 : scatter_S128x512_S1_S16x512_01_n_0_0.start (ix2 p e) idx 0 = 0 := by
    refine Eq.trans ?_ h
    refine congrArg (fun i => (idx i).toInt) (funext fun b => ?_)
    match b with
    | ⟨0, _⟩ => exact Subsingleton.elim (α := Fin 1) _ _
  have h1 : scatter_S128x512_S1_S16x512_01_n_0_0.start (ix2 p e) idx 1 = 0 := rfl
  refine (Routing.resultIdx?_ix2 (R := 128) (C := 512) _ _ _ _ _).trans ?_
  rw [h0, h1, hw 0, hw 1]
  show (0 + (p.val : ℤ) = r.val ∧ 0 + (e.val : ℤ) = d.val) ↔ _
  omega

theorem taller_at (w : Vec Ideal S1x16x512 .f32) (p : Fin 16) (d : Fin 512) : taller w (ix2 ⟨p.val, by omega⟩ d) = w (ix3 0 p d) := by
  unfold taller
  refine Routing.scatter_set_hit _ _ _ _ _ _ (fun y hy => ?_) (ix2 p d) ((lands p d _ d _ rfl).2 ⟨rfl, rfl⟩)
  obtain ⟨p', d', rfl⟩ : ∃ p' d', y = ix2 p' d' := ⟨y 0, y 1, eq_ix2 y⟩
  have e := (lands p' d' _ d _ rfl).1 hy
  obtain rfl : p' = p := Fin.ext e.1
  obtain rfl : d' = d := Fin.ext e.2
  pointwise

theorem taller_zero (w : Vec Ideal S1x16x512 .f32) (r : Fin 128) (d : Fin 512) (h : 16 ≤ r.val) : taller w (ix2 r d) = 0 := by
  unfold taller
  refine (Routing.scatter_set_miss _ _ _ _ _ (fun y hy => ?_)).trans Ideal.ofBits_zero_f32
  obtain ⟨p', d', rfl⟩ : ∃ p' d', y = ix2 p' d' := ⟨y 0, y 1, eq_ix2 y⟩
  have e := ((lands p' d' _ d _ rfl).1 hy).1
  have := p'.isLt
  omega

end Cert.Proof.Gla
-- ==== Proof.GlaSampleBlocks.lean ====
/- The arrays the sample batch's linear attention reads, of the arguments, and its blocks of them. -/
module

public import proofs.«01_k».proof.Proof.GlaSample
public import proofs.«01_k».proof.Proof.GlaWeights

@[expose] public section

noncomputable section

namespace Cert.Proof.Gla.Sample

open Idealize.ShloMosaic Idealize.ShloMosaic.TcCoe Cert.Kernel7Ideal Cert.Kernel7Ideal.Gen Cert.Proof.Merge Cert.Proof.Gla.State

variable (m : (ℓ : Loc nD τ sig) → Buf (Elt Ideal) ℓ) (c : Dev nD)

abbrev q : Vec Ideal S32x8x512 .f32 := m ((c.tc : Thread nD τ).loc main_arg0)
abbrev k : Vec Ideal S32x8x512 .f32 := m ((c.tc : Thread nD τ).loc main_arg1)
abbrev v : Vec Ideal S32x8x1024 .f32 := m ((c.tc : Thread nD τ).loc main_arg2)
abbrev a : Vec Ideal S32x8x16 .f32 := m ((c.tc : Thread nD τ).loc main_arg3)
abbrev z : Vec Ideal S32x8x1024 .f32 := m ((c.tc : Thread nD τ).loc main_arg4)
abbrev wa : Vec Ideal S1x16x512 .f32 := m ((c.tc : Thread nD τ).loc main_arg5)
abbrev ba : Vec Ideal S1x512 .f32 := m ((c.tc : Thread nD τ).loc main_arg6)
abbrev wn : Vec Ideal S1x256 .f32 := m ((c.tc : Thread nD τ).loc main_arg7)
abbrev s₀ : Vec Ideal S1x32x4x128x256 .f32 := m ((c.tc : Thread nD τ).loc main_arg8)

/-- The columns the kernel reads, side by side. -/
def columns : Vec Ideal S256x9216 .f32 :=
  concatenate S256x9216 1 [⟨S256x5120, broadcastInDim S256x5120 ![] bcast_S_S256x5120 (constant (F := Ideal) S_ .f32 0x00000000#32)⟩,
    ⟨S256x1024, shapeCast S256x1024 (v m c) shapeCasts_S32x8x1024_S256x1024⟩,
    ⟨S256x1024, shapeCast S256x1024 (z m c) shapeCasts_S32x8x1024_S256x1024⟩,
    ⟨S256x512, shapeCast S256x512 (q m c) shapeCasts_S32x8x512_S256x512⟩,
    ⟨S256x512, shapeCast S256x512 (k m c) shapeCasts_S32x8x512_S256x512⟩,
    ⟨S256x16, shapeCast S256x16 (a m c) shapeCasts_S32x8x16_S256x16⟩,
    ⟨S256x1008, broadcastInDim S256x1008 ![] bcast_S_S256x1008 (constant (F := Ideal) S_ .f32 0x00000000#32)⟩]
    concatenates_S256x5120_S256x1024_S256x1024_S256x512_S256x512_S256x16_S256x1008_S256x9216_d1

/-- The gates' weights, in the first sixteen of their rows. -/
def weights : Vec Ideal S128x512 .f32 := taller (wa m c)

set_option maxRecDepth 65536 in
theorem arrays : V m c main_v11 = columns m c ∧ V m c main_v3 = weights m c
    ∧ V m c main_v15 = shapeCast S1x512 (shapeCast S512 (ba m c) shapeCasts_S1x512_S512) shapeCasts_S512_S1x512
    ∧ V m c main_v16 = shapeCast S1x256 (shapeCast S256 (wn m c) shapeCasts_S1x256_S256) shapeCasts_S256_S1x256
    ∧ V m c main_v14 = shapeCast S32x4x128x256 (s₀ m c) shapeCasts_S1x32x4x128x256_S32x4x128x256 := by
  unfold V V0 hostOps0
  refine ⟨?_, ?_, ?_, ?_, ?_⟩
  · after_results_simp; unfold columns; rfl
  · rw [List.flatten_singleton]
    after_results_simp
    rfl
  all_goals after_results_simp; rfl

/-- The point's block in each window: rows of a request, at the columns of an array. -/
theorem index : ∀ t : Fin grid0.N, cc0_transform_0 (grid0.coords t) = ![t.val, 14] ∧ cc0_transform_1 (grid0.coords t) = ![t.val, 15]
    ∧ cc0_transform_2 (grid0.coords t) = ![t.val, 5] ∧ cc0_transform_3 (grid0.coords t) = ![t.val, 64]
    ∧ cc0_transform_4 (grid0.coords t) = ![t.val, 6] ∧ cc0_transform_5 (grid0.coords t) = ![0, 0]
    ∧ cc0_transform_6 (grid0.coords t) = ![0, 0] ∧ cc0_transform_7 (grid0.coords t) = ![0, 0]
    ∧ cc0_transform_8 (grid0.coords t) = ![t.val, 0, 0, 0] ∧ cc0_transform_9 (grid0.coords t) = ![t.val, 0]
    ∧ cc0_transform_10 (grid0.coords t) = ![t.val, 0, 0, 0] := by
  decide +kernel

theorem weights_at (p : Fin 16) (d : Fin 512) : weights m c (ix2 ⟨p.val, by omega⟩ d) = wa m c (ix3 0 p d) := taller_at _ p d

theorem weights_zero (r : Fin 128) (d : Fin 512) (h : 16 ≤ r.val) : weights m c (ix2 r d) = 0 := taller_zero _ r d h

theorem v_at (b : Fin 32) (t : Fin 8) (e : Fin 1024) : columns m c (ix2 ⟨8 * b.val + t.val, by omega⟩ ⟨5120 + e.val, by omega⟩) = v m c (ix3 b t e) := by
  unfold columns
  pointwise

theorem z_at (b : Fin 32) (t : Fin 8) (e : Fin 1024) : columns m c (ix2 ⟨8 * b.val + t.val, by omega⟩ ⟨6144 + e.val, by omega⟩) = z m c (ix3 b t e) := by
  unfold columns
  pointwise
  rw [dif_neg (by omega), dif_neg (by omega), dif_pos (by omega)]
  exact congrArg (fun i => z m c (ix3 b t i)) (Fin.ext (by dsimp only <;> omega))

theorem q_at (b : Fin 32) (t : Fin 8) (e : Fin 512) : columns m c (ix2 ⟨8 * b.val + t.val, by omega⟩ ⟨7168 + e.val, by omega⟩) = q m c (ix3 b t e) := by
  unfold columns
  pointwise
  rw [dif_neg (by omega), dif_neg (by omega), dif_neg (by omega), dif_pos (by omega)]
  exact congrArg (fun i => q m c (ix3 b t i)) (Fin.ext (by dsimp only <;> omega))

theorem k_at (b : Fin 32) (t : Fin 8) (e : Fin 512) : columns m c (ix2 ⟨8 * b.val + t.val, by omega⟩ ⟨7680 + e.val, by omega⟩) = k m c (ix3 b t e) := by
  unfold columns
  pointwise
  rw [dif_neg (by omega), dif_neg (by omega), dif_neg (by omega), dif_neg (by omega), dif_pos (by omega)]
  exact congrArg (fun i => k m c (ix3 b t i)) (Fin.ext (by dsimp only <;> omega))

theorem a_at (b : Fin 32) (t : Fin 8) (e : Fin 16) : columns m c (ix2 ⟨8 * b.val + t.val, by omega⟩ ⟨8192 + e.val, by omega⟩) = a m c (ix3 b t e) := by
  unfold columns
  pointwise
  rw [dif_neg (by omega), dif_neg (by omega), dif_neg (by omega), dif_neg (by omega), dif_neg (by omega), dif_pos (by omega)]
  exact congrArg (fun i => a m c (ix3 b t i)) (Fin.ext (by dsimp only <;> omega))

/-- A point's request. -/
abbrev request (t : Fin cfg0.N) : Fin 32 := t

def blk0 (t : Fin cfg0.N) : Vec Ideal S8x512 .f32 := iblk m c 0 t
def blk1 (t : Fin cfg0.N) : Vec Ideal S8x512 .f32 := iblk m c 1 t
def blk2 (t : Fin cfg0.N) : Vec Ideal S8x1024 .f32 := iblk m c 2 t
def blk3 (t : Fin cfg0.N) : Vec Ideal S8x128 .f32 := iblk m c 3 t
def blk4 (t : Fin cfg0.N) : Vec Ideal S8x1024 .f32 := iblk m c 4 t
def blk5 (t : Fin cfg0.N) : Vec Ideal S128x512 .f32 := iblk m c 5 t
def blk6 (t : Fin cfg0.N) : Vec Ideal S1x512 .f32 := iblk m c 6 t
def blk7 (t : Fin cfg0.N) : Vec Ideal S1x256 .f32 := iblk m c 7 t
def blk8 (t : Fin cfg0.N) : Vec Ideal S1x4x128x256 .f32 := iblk m c 8 t

/-- A block that begins at the array's corner reads the array at its own places. -/
theorem corner {T : Fin 2 → ℕ} (h : T = ![0, 0]) (a b y z : ℕ) : T 0 * a + 1 * y = y ∧ T 1 * b + 1 * z = z :=
  ⟨(place h a b y z).1.trans (by omega), (place h a b y z).2.trans (by omega)⟩

/-- A block of eight rows of the columns, at the columns' own places. -/
theorem columns_read {T : Fin 2 → ℕ} {p w : ℕ} (t : Fin cfg0.N) (h : T = ![t.val, p]) (s : Fin 8) (e : ℕ) (o : Fin 9216) (ho : o.val = p * w + e) (j : S256x9216.Idx)
    (h0 : (j 0).val = T 0 * 8 + 1 * s.val) (h1 : (j 1).val = T 1 * w + 1 * e) :
    V m c main_v11 j = columns m c (ix2 ⟨8 * (request t).val + s.val, by have := (request t).isLt; omega⟩ o) := by
  have q := place h 8 w s.val e
  refine (read_at (V m c main_v11) j (ix2 ⟨8 * (request t).val + s.val, by have := (request t).isLt; omega⟩ o) (h0.trans (q.1.trans ?_)) (h1.trans (q.2.trans ho.symm))).trans
    (congrFun (arrays m c).1 _)
  show t.val * 8 + s.val = 8 * t.val + s.val
  omega

theorem blk0_at (t : Fin cfg0.N) (s : Fin 8) (e : Fin 512) : blk0 m c t (ix2 s e) = q m c (ix3 (request t) s e) :=
  (columns_read m c t (index t).1 s e.val _ rfl _ rfl rfl).trans (q_at m c (request t) s e)

theorem blk1_at (t : Fin cfg0.N) (s : Fin 8) (e : Fin 512) : blk1 m c t (ix2 s e) = k m c (ix3 (request t) s e) :=
  (columns_read m c t (index t).2.1 s e.val _ rfl _ rfl rfl).trans (k_at m c (request t) s e)

theorem blk2_at (t : Fin cfg0.N) (s : Fin 8) (e : Fin 1024) : blk2 m c t (ix2 s e) = v m c (ix3 (request t) s e) :=
  (columns_read m c t (index t).2.2.1 s e.val _ rfl _ rfl rfl).trans (v_at m c (request t) s e)

theorem blk3_at (t : Fin cfg0.N) (s : Fin 8) (e : Fin 16) : blk3 m c t (ix2 s ⟨e.val, by omega⟩) = a m c (ix3 (request t) s e) :=
  (columns_read m c t (index t).2.2.2.1 s e.val _ rfl _ rfl rfl).trans (a_at m c (request t) s e)

theorem blk4_at (t : Fin cfg0.N) (s : Fin 8) (e : Fin 1024) : blk4 m c t (ix2 s e) = z m c (ix3 (request t) s e) :=
  (columns_read m c t (index t).2.2.2.2.1 s e.val _ rfl _ rfl rfl).trans (z_at m c (request t) s e)

theorem blk5_at (t : Fin cfg0.N) (r : Fin 128) (e : Fin 512) : blk5 m c t (ix2 r e) = weights m c (ix2 r e) := by
  have h := corner (index t).2.2.2.2.2.1 128 512 r.val e.val
  exact (read_at (V m c main_v3) _ (ix2 r e) h.1 h.2).trans (congrFun (arrays m c).2.1 _)

theorem blk6_at (t : Fin cfg0.N) (e : Fin 512) : blk6 m c t (ix2 0 e) = ba m c (ix2 0 e) := by
  have h := corner (index t).2.2.2.2.2.2.1 1 512 0 e.val
  exact (read_at (V m c main_v15) _ (ix2 0 e) h.1 h.2).trans ((congrFun (arrays m c).2.2.1 _).trans (by pointwise))

theorem blk7_at (t : Fin cfg0.N) (e : Fin 256) : blk7 m c t (ix2 0 e) = wn m c (ix2 0 e) := by
  have h := corner (index t).2.2.2.2.2.2.2.1 1 256 0 e.val
  exact (read_at (V m c main_v16) _ (ix2 0 e) h.1 h.2).trans ((congrFun (arrays m c).2.2.2.1 _).trans (by pointwise))

theorem blk8_at (t : Fin cfg0.N) (h : Fin 4) (e : Fin 128) (d : Fin 256) : blk8 m c t (ix4 0 h e d) = s₀ m c (ix5 0 (request t) h e d) := by
  refine (congrArg (V m c main_v14) (place4 (index t).2.2.2.2.2.2.2.2.1 0 h e d (request t) rfl _ rfl rfl rfl rfl)).trans ((congrFun (arrays m c).2.2.2.2 _).trans (by pointwise))

end Cert.Proof.Gla.Sample
-- ==== Proof.GlaSampleReference.lean ====
/- The sample batch's linear attention as the reference has it: its one chunk, scanned once. -/
module

public import proofs.«01_k».proof.Proof.Gla
public import Idealize.ShloMosaic.Lib.Pointwise
public import proofs.«01_k».proof.Proof.Gen.Reference7Ideal.Run
public import proofs.«01_k».proof.Defs

@[expose] public section

noncomputable section

namespace Cert.Proof.Gla.SampleReference

open Cert.Reference7Ideal Cert.Reference7Ideal.Gen Cert.Reference7Ideal.Value
open Idealize.ShloMosaic Idealize.ShloMosaic.TcCoe Idealize.ShloMosaic.Tactic Idealize.ShloMosaic.StableHlo

/-- The chunks of an array of heads: there is one. -/
def chunks (x : FVec Ideal S32x8x4x128 .f32) : FVec Ideal S1x32x8x4x128 .f32 :=
  transpose S1x32x8x4x128 [1, 0, 2, 3, 4] (shapeCast S32x1x8x4x128
    (pad S32x8x4x128 ![0, 0, 0, 0] ![0, 0, 0, 0] ![0, 0, 0, 0] x (sitofp (F := Ideal) .f32 (constantI S_ 32 0#32)) pads_S32x8x4x128_S32x8x4x128_000_000_000_000 h_S_)
    shapeCasts_S32x8x4x128_S32x1x8x4x128) transposes_S32x1x8x4x128_S1x32x8x4x128_1_0_2_3_4

theorem chunks_at (x : FVec Ideal S32x8x4x128 .f32) (b : Fin 32) (t : Fin 8) (h : Fin 4) (k : Fin 128) : chunks x (ix5 0 b t h k) = x (ix4 b t h k) := by
  unfold chunks
  pointwise

/-- The same of the values. -/
def valueChunks (x : FVec Ideal S32x8x4x256 .f32) : FVec Ideal S1x32x8x4x256 .f32 :=
  transpose S1x32x8x4x256 [1, 0, 2, 3, 4] (shapeCast S32x1x8x4x256
    (pad S32x8x4x256 ![0, 0, 0, 0] ![0, 0, 0, 0] ![0, 0, 0, 0] x (sitofp (F := Ideal) .f32 (constantI S_ 32 0#32)) pads_S32x8x4x256_S32x8x4x256_000_000_000_000 h_S_)
    shapeCasts_S32x8x4x256_S32x1x8x4x256) transposes_S32x1x8x4x256_S1x32x8x4x256_1_0_2_3_4

theorem valueChunks_at (x : FVec Ideal S32x8x4x256 .f32) (b : Fin 32) (t : Fin 8) (h : Fin 4) (k : Fin 256) : valueChunks x (ix5 0 b t h k) = x (ix4 b t h k) := by
  unfold valueChunks
  pointwise

/-- The queries, scaled, by heads. -/
def queries (x : FVec Ideal S32x8x512 .f32) : FVec Ideal S32x8x4x128 .f32 :=
  mulf (shapeCast S32x8x4x128 x shapeCasts_S32x8x512_S32x8x4x128) (broadcastInDim S32x8x4x128 ![] bcast_S_S32x8x4x128 (constant S_ .f32 1035273459#32))

theorem queries_at (x : FVec Ideal S32x8x512 .f32) (b : Fin 32) (t : Fin 8) (h : Fin 4) (k : Fin 128) :
    queries x (ix4 b t h k) = x (ix3 b t (key h k)) * Ideal.ofBits .f32 1035273459#32 := by
  unfold queries
  pointwise
  exact congrArg (fun e => x (ix3 b t e) * _) (Fin.ext (show h.val * 128 + k.val = 128 * h.val + k.val by omega))

theorem keys_at (x : FVec Ideal S32x8x512 .f32) (b : Fin 32) (t : Fin 8) (h : Fin 4) (k : Fin 128) :
    shapeCast S32x8x4x128 x shapeCasts_S32x8x512_S32x8x4x128 (ix4 b t h k) = x (ix3 b t (key h k)) := by
  pointwise
  exact congrArg (fun e => x (ix3 b t e)) (Fin.ext (show h.val * 128 + k.val = 128 * h.val + k.val by omega))

theorem values_at (x : FVec Ideal S32x8x1024 .f32) (b : Fin 32) (t : Fin 8) (h : Fin 4) (k : Fin 256) :
    shapeCast S32x8x4x256 x shapeCasts_S32x8x1024_S32x8x4x256 (ix4 b t h k) = x (ix3 b t (value h k)) := by
  pointwise
  exact congrArg (fun e => x (ix3 b t e)) (Fin.ext (show h.val * 256 + k.val = 256 * h.val + k.val by omega))

/-- The preactivations of the gates. -/
def inputs (a : FVec Ideal S32x8x16 .f32) (w : FVec Ideal S1x16x512 .f32) (β : FVec Ideal S1x512 .f32) : FVec Ideal S32x8x512 .f32 :=
  addf (Host.dotGeneral dot_S32x8x16_S16x512_S32x8x512_2_0_01_1_n_n none a (shapeCast S16x512 w shapeCasts_S1x16x512_S16x512))
    (broadcastInDim S32x8x512 ![0, 1, 2] bcast_S1x1x512_S32x8x512_0_1_2
      (broadcastInDim S1x1x512 ![2] bcast_S512_S1x1x512_2 (shapeCast S512 β shapeCasts_S1x512_S512)))

theorem inputs_at (a : FVec Ideal S32x8x16 .f32) (w : FVec Ideal S1x16x512 .f32) (β : FVec Ideal S1x512 .f32) (b : Fin 32) (t : Fin 8) (e : Fin 512) :
    inputs a w β (ix3 b t e) = ∑ r : Fin 16, a (ix3 b t r) * w (ix3 0 r e) + β (ix2 0 e) := by
  unfold inputs
  pointwise

/-- The zero rows of a softplus. -/
abbrev zeros : FVec Ideal S32x8x512 .f32 := broadcastInDim S32x8x512 ![] bcast_S_S32x8x512 (constant S_ .f32 0x00000000#32)

/-- The gates' logarithms of their preactivations. -/
def gates (p : FVec Ideal S32x8x512 .f32) : FVec Ideal S32x8x512 .f32 :=
  Host.divf (Host.negf (select (cmpf .une (subf (Host.negf p) zeros) (subf (Host.negf p) zeros)) (addf (Host.negf p) zeros)
    (addf (maximumf (Host.negf p) zeros) (Host.log1p (Host.exp (Host.negf (Host.absf (subf (Host.negf p) zeros))))))))
    (broadcastInDim S32x8x512 ![] bcast_S_S32x8x512 (constant S_ .f32 1098907648#32))

theorem gates_at (p : FVec Ideal S32x8x512 .f32) (b : Fin 32) (t : Fin 8) (e : Fin 512) : gates p (ix3 b t e) = gate (p (ix3 b t e)) := by
  unfold gates
  pointwise
  rw [if_neg fun h => h rfl]
  have h := log_sigmoid (p (ix3 b t e))
  rw [sub_zero] at h
  exact congrArg (fun l => Ideal.div l _) h

/-- The tokens a token sees: itself and the earlier ones. -/
def mask : IVec S1x8x8x1x1 1 :=
  broadcastInDim S1x8x8x1x1 ![1, 2] bcast_S8x8_S1x8x8x1x1_1_2 (select (cmpi .sge (addi (iotaInDim S8x8 32 0) (broadcastInDim S8x8 ![] bcast_S_S8x8 (constantI S_ 32 0#32)))
    (iotaInDim S8x8 32 1)) (broadcastInDim S8x8 ![] bcast_S_S8x8 (constantI S_ 1 1#1)) (broadcastInDim S8x8 ![] bcast_S_S8x8 (constantI S_ 1 0#1)))

theorem mask_at (t s : Fin 8) : mask (ix5 0 t s 0 0) = IntOp.cmpi CmpIPredicate.sge (BitVec.ofNat 32 t.val) (BitVec.ofNat 32 s.val) := by
  revert t s
  decide +kernel

variable (m : (ℓ : Loc nD τ sig) → Buf (Elt Ideal) ℓ) (c : Dev nD)

set_option maxRecDepth 65536 in
set_option maxHeartbeats 400000 in
abbrev q : FVec Ideal S32x8x512 .f32 := m (c.tc.loc main_arg0)
abbrev k : FVec Ideal S32x8x512 .f32 := m (c.tc.loc main_arg1)
abbrev v : FVec Ideal S32x8x1024 .f32 := m (c.tc.loc main_arg2)
abbrev a : FVec Ideal S32x8x16 .f32 := m (c.tc.loc main_arg3)
abbrev z : FVec Ideal S32x8x1024 .f32 := m (c.tc.loc main_arg4)
abbrev wa : FVec Ideal S1x16x512 .f32 := m (c.tc.loc main_arg5)
abbrev ba : FVec Ideal S1x512 .f32 := m (c.tc.loc main_arg6)
abbrev wn : FVec Ideal S1x256 .f32 := m (c.tc.loc main_arg7)
abbrev s₀ : FVec Ideal S1x32x4x128x256 .f32 := m (c.tc.loc main_arg8)

set_option maxRecDepth 65536 in
set_option maxHeartbeats 400000 in
/-- What the loop finds. -/
theorem entry : entryContents preI m c (Proc.devRef .tc main_v32_0) = chunks (queries (q m c))
    ∧ entryContents preI m c (Proc.devRef .tc main_v32_1) = chunks (shapeCast S32x8x4x128 (k m c) shapeCasts_S32x8x512_S32x8x4x128)
    ∧ entryContents preI m c (Proc.devRef .tc main_v32_2) = valueChunks (shapeCast S32x8x4x256 (v m c) shapeCasts_S32x8x1024_S32x8x4x256)
    ∧ entryContents preI m c (Proc.devRef .tc main_v32_3) = chunks (shapeCast S32x8x4x128
        (gates (inputs (a m c) (wa m c) (ba m c))) shapeCasts_S32x8x512_S32x8x4x128)
    ∧ entryContents preI m c (Proc.devRef .tc main_v32_4) = mask
    ∧ entryContents preI m c (Proc.devRef .tc main_v32_6) = shapeCast S32x4x128x256 (s₀ m c) shapeCasts_S1x32x4x128x256_S32x4x128x256 := by
  refine ⟨?_, ?_, ?_, ?_, ?_, ?_⟩ <;> simp only [entryContents, afterL_cons, afterL_nil] <;> after_reads_simp <;> rfl

theorem front (x : FVec Ideal S1x32x8x4x128 .f32) (b : Fin 32) (t : Fin 8) (h : Fin 4) (k : Fin 128) :
    shapeCast S32x8x4x128 x shapeCasts_S1x32x8x4x128_S32x8x4x128 (ix4 b t h k) = x (ix5 0 b t h k) := by
  pointwise

theorem valueFront (x : FVec Ideal S1x32x8x4x256 .f32) (b : Fin 32) (t : Fin 8) (h : Fin 4) (k : Fin 256) :
    shapeCast S32x8x4x256 x shapeCasts_S1x32x8x4x256_S32x8x4x256 (ix4 b t h k) = x (ix5 0 b t h k) := by
  pointwise

section Step
variable (V : Valuation τ sig (Elt Ideal)) (hc : V (Proc.devRef .tc main_v32_5) = constantI S_ 32 0#32)
include hc

theorem counter : BitVec.toInt (V (Proc.devRef .tc main_v32_5) (Shape.Idx.first h_S_)) = ((0 : Fin 1).val : Int) := by rw [hc]; rfl

theorem queries_of (b : Fin 32) (t : Fin 8) (h : Fin 4) (k : Fin 128) :
    res_main_while0b_v53 V (ix4 b t h k) = V (Proc.devRef .tc main_v32_0) (ix5 0 b t h k) :=
  (front _ b t h k).trans (slice_chunk (n := 1) (V (Proc.devRef .tc main_v32_0)) _ _ 0 (counter V hc) b t h k)

theorem keys_of (b : Fin 32) (t : Fin 8) (h : Fin 4) (k : Fin 128) :
    res_main_while0b_v54 V (ix4 b t h k) = V (Proc.devRef .tc main_v32_1) (ix5 0 b t h k) :=
  (front _ b t h k).trans (slice_chunk (n := 1) (V (Proc.devRef .tc main_v32_1)) _ _ 0 (counter V hc) b t h k)

theorem values_of (b : Fin 32) (t : Fin 8) (h : Fin 4) (k : Fin 256) :
    res_main_while0b_v55 V (ix4 b t h k) = V (Proc.devRef .tc main_v32_2) (ix5 0 b t h k) :=
  (valueFront _ b t h k).trans (slice_chunk (n := 1) (V (Proc.devRef .tc main_v32_2)) _ _ 0 (counter V hc) b t h k)

theorem sums_of (b : Fin 32) (t : Fin 8) (h : Fin 4) (k : Fin 128) :
    res_main_while0b_v57 V (ix4 b t h k) = running (fun s => V (Proc.devRef .tc main_v32_3) (ix5 0 b s h k)) t := by
  refine (congrArg (fun z => Ideal.hostReduceWindowAdd _ _ _ _ reduceWindows_S32x8x4x128_S32x8x4x128_w1s1p0_0_w8s1p7_0_w1s1p0_0_w1s1p0_0 _ z _) Ideal.ofBits_zero_f32).trans ((window_sum (B := 32) (n := 8) (N := 7) rfl _ _ b t h k).trans ?_)
  exact congrArg (fun f => running f t) (funext fun s => (front _ b s h k).trans (slice_chunk (n := 1) (V (Proc.devRef .tc main_v32_3)) _ _ 0 (counter V hc) b s h k))

theorem last_of (b : Fin 32) (h : Fin 4) (k : Fin 128) : res_main_while0b_v80 V (ix3 b h k) = res_main_while0b_v57 V (ix4 b 7 h k) := by
  unfold res_main_while0b_v80
  pointwise

theorem state_of (b : Fin 32) (h : Fin 4) (k : Fin 128) (d : Fin 256) :
    step_main_v32_6 V (ix4 b h k d) = carried 7 (running (fun s => V (Proc.devRef .tc main_v32_3) (ix5 0 b s h k)))
      (fun s => V (Proc.devRef .tc main_v32_1) (ix5 0 b s h k)) (fun s => V (Proc.devRef .tc main_v32_2) (ix5 0 b s h d))
      (V (Proc.devRef .tc main_v32_6) (ix4 b h k d)) := by
  unfold step_main_v32_6 carried
  rw [id]
  pointwise
  simp only [last_of V hc, sums_of V hc, keys_of V hc, values_of V hc]

theorem outputs_of (hm : ∀ t s : Fin 8, V (Proc.devRef .tc main_v32_4) (ix5 0 t s 0 0) = IntOp.cmpi CmpIPredicate.sge (BitVec.ofNat 32 t.val) (BitVec.ofNat 32 s.val))
    (b : Fin 32) (h : Fin 4) (t : Fin 8) (d : Fin 256) :
    step_main_v32_7 V (ix5 0 b t h d) = mixed t (fun k => V (Proc.devRef .tc main_v32_0) (ix5 0 b t h k)) (fun s k => V (Proc.devRef .tc main_v32_1) (ix5 0 b s h k))
      (fun s k => running (fun s => V (Proc.devRef .tc main_v32_3) (ix5 0 b s h k)) s) (fun k => V (Proc.devRef .tc main_v32_6) (ix4 b h k d))
      (fun s => V (Proc.devRef .tc main_v32_2) (ix5 0 b s h d)) := by
  unfold step_main_v32_7 mixed
  rw [id, update_whole]
  pointwise
  simp only [sums_of V hc, keys_of V hc, values_of V hc, queries_of V hc, hm]
  rfl

end Step

abbrev V₀ : Valuation τ sig (Elt Ideal) := entryContents preI m c

theorem final_of (b : Fin 32) (h : Fin 4) (e : Fin 128) (d : Fin 256) :
    out_main_v52 (STEP^[1] (V₀ m c)) (ix5 0 b h e d) = carried 7 (decays (a m c) (wa m c) (ba m c) b (key h e))
      (fun s => k m c (ix3 b s (key h e))) (fun s => v m c (ix3 b s (value h d))) (s₀ m c (ix5 0 b h e d)) := by
  obtain ⟨-, e1, e2, e3, -, e6⟩ := entry m c
  refine Eq.trans (b := STEP (V₀ m c) (Proc.devRef .tc main_v32_6) (ix4 b h e d)) (by unfold out_main_v52; rw [Function.iterate_one]; pointwise) ?_
  refine (congrFun (STEP_main_v32_6 _) _).trans ((state_of _ (ctr_entry m c) b h e d).trans ?_)
  rw [e1, e2, e3, e6]
  unfold decays
  simp only [chunks_at, valueChunks_at, keys_at, values_at, gates_at, inputs_at]
  exact congrArg (carried _ _ _ _) (by pointwise)

theorem mixed_of (b : Fin 32) (h : Fin 4) (t : Fin 8) (d : Fin 256) :
    STEP^[1] (V₀ m c) (Proc.devRef .tc main_v32_7) (ix5 0 b t h d) = mixed t (fun e => q m c (ix3 b t (key h e)) * Ideal.ofBits .f32 1035273459#32)
      (fun s e => k m c (ix3 b s (key h e)))
      (fun s e => decays (a m c) (wa m c) (ba m c) b (key h e) s)
      (fun e => s₀ m c (ix5 0 b h e d)) (fun s => v m c (ix3 b s (value h d))) := by
  obtain ⟨e0, e1, e2, e3, e4, e6⟩ := entry m c
  refine (congrFun (STEP_main_v32_7 _) _).trans ((outputs_of _ (ctr_entry m c) (fun t s => by rw [e4]; exact mask_at t s) b h t d).trans ?_)
  rw [e0, e1, e2, e3, e6]
  unfold decays
  simp only [chunks_at, valueChunks_at, queries_at, keys_at, values_at, gates_at, inputs_at]
  refine congrArg (fun S => mixed _ _ _ _ S _) (funext fun e => ?_)
  pointwise

theorem normal_of (V : Valuation τ sig (Elt Ideal)) (b : Fin 32) (t : Fin 8) (h : Fin 4) (d : Fin 256) :
    out_main_v51 V (ix3 b t (value h d)) = normal (fun d => V (Proc.devRef .tc main_v32_7) (ix5 0 b t h d)) d
      (V (Proc.devRef .tc main_arg7) (ix2 0 d)) (V (Proc.devRef .tc main_arg4) (ix3 b t (value h d))) := by
  have hh : (256 * h.val + d.val) / 256 = h.val := by omega
  have hd : (256 * h.val + d.val) % 256 = d.val := by omega
  unfold out_main_v51 normal
  pointwise
  simp only [hh, hd]

theorem result_of (b : Fin 32) (t : Fin 8) (h : Fin 4) (d : Fin 256) :
    out_main_v51 (STEP^[1] (V₀ m c)) (ix3 b t (value h d))
      = normal (fun d => mixed t (fun e => q m c (ix3 b t (key h e)) * Ideal.ofBits .f32 1035273459#32) (fun s e => k m c (ix3 b s (key h e)))
        (fun s e => decays (a m c) (wa m c) (ba m c) b (key h e) s) (fun e => s₀ m c (ix5 0 b h e d)) (fun s => v m c (ix3 b s (value h d)))) d
      (wn m c (ix2 0 d)) (z m c (ix3 b t (value h d))) := by
  rw [normal_of, iter_main_arg7, iter_main_arg4]
  exact congrArg (fun o => normal o _ _ _) (funext fun d => mixed_of m c b h t d)

end Cert.Proof.Gla.SampleReference
-- ==== Proof.GlaSampleClaim.lean ====
/- The sample batch's linear attention: kernel and reference leave the same outputs and the same state. -/
module

public import proofs.«01_k».proof.Proof.GlaSampleBlocks
public import proofs.«01_k».proof.Proof.GlaSampleReference

@[expose] public section

noncomputable section

namespace Cert.Proof.Gla.Sample

open Idealize.ShloMosaic Idealize.ShloMosaic.TcCoe Cert.Kernel7Ideal Cert.Kernel7Ideal.Gen Cert.Proof.Merge Cert.Proof.Gla.State

variable (m : (ℓ : Loc nD τ sig) → Buf (Elt Ideal) ℓ) (c : Dev nD)

/-- The kernel's running sums. -/
def total (A : Vec Ideal S8x128 .f32) (W : Vec Ideal S128x512 .f32) (B : Vec Ideal S1x512 .f32) : FVec Ideal S8x512 .f32 := sums A W B

theorem total_at (A : Vec Ideal S8x128 .f32) (W : Vec Ideal S128x512 .f32) (B : Vec Ideal S1x512 .f32) (s : Fin 8) (e : Fin 512) :
    total A W B (ix2 s e) = running (fun u => gate (∑ j : Fin 128, A (ix2 u j) * W (ix2 j e) + B (ix2 0 e))) s := sums_at A W B s e

/-- They are those of the arguments. -/
theorem total_eq (t : Fin cfg0.N) (s : Fin 8) (e : Fin 512) :
    total (blk3 m c t) (blk5 m c t) (blk6 m c t) (ix2 s e) = decays (a m c) (wa m c) (ba m c) (request t) e s := by
  have h (u : Fin 8) : ∑ j : Fin 128, blk3 m c t (ix2 u j) * blk5 m c t (ix2 j e) = ∑ r : Fin 16, a m c (ix3 (request t) u r) * wa m c (ix3 0 r e) := by
    refine sum_padded (n := 16) (N := 128) (by omega) _ _ (fun r => ?_) (fun r hr => ?_)
    · rw [blk3_at, blk5_at, weights_at]
    · rw [blk5_at, weights_zero m c r e hr, mul_zero]
  rw [total_at]
  unfold decays
  simp only [h, blk6_at]

/-- The outputs, of the arguments. -/
def attended (b : Fin 32) (s : Fin 8) (h : Fin 4) (d : Fin 256) : EReal :=
  normal (fun d => mixed s (fun e => q m c (ix3 b s (key h e)) * Ideal.ofBits .f32 1035273459#32) (fun s e => k m c (ix3 b s (key h e)))
    (fun s e => decays (a m c) (wa m c) (ba m c) b (key h e) s) (fun e => s₀ m c (ix5 0 b h e d)) (fun s => v m c (ix3 b s (value h d)))) d
    (wn m c (ix2 0 d)) (z m c (ix3 b s (value h d)))

/-- The state, of the arguments. -/
def advanced (b : Fin 32) (h : Fin 4) (e : Fin 128) (d : Fin 256) : EReal :=
  carried 7 (decays (a m c) (wa m c) (ba m c) b (key h e)) (fun s => k m c (ix3 b s (key h e))) (fun s => v m c (ix3 b s (value h d))) (s₀ m c (ix5 0 b h e d))

theorem start_at (t : Fin cfg0.N) (h : Fin 4) (e : Fin 128) (d : Fin 256) : k0_pay3 (blk8 m c t) (ix3 h e d) = s₀ m c (ix5 0 (request t) h e d) := by
  refine Eq.trans ?_ (blk8_at m c t h e d)
  generalize blk8 m c t = X
  unfold k0_pay3
  pointwise

theorem value_eq (e : Fin 1024) : value (head e) (feature e) = e := Fin.ext (by show 256 * (e.val / 256) + e.val % 256 = e.val; omega)

theorem output_at (C : FVec Ideal S8x512 .f32) (Q K : Vec Ideal S8x512 .f32) (V Z : Vec Ideal S8x1024 .f32) (N : Vec Ideal S1x256 .f32) (S : Vec Ideal S4x128x256 .f32)
    (s : Fin 8) (e : Fin 1024) : output C Q K V Z N S (ix2 s e)
      = normal (fun d => mixed s (fun x => Q (ix2 s (key (head e) x)) * Ideal.ofBits .f32 1035273459#32) (fun u x => K (ix2 u (key (head e) x)))
        (fun u x => C (ix2 u (key (head e) x))) (fun x => S (ix3 (head e) x d)) (fun u => V (ix2 u (value (head e) d))))
        (feature e) (N (ix2 0 (feature e))) (Z (ix2 s e)) := rfl

theorem left9_of (t : Fin cfg0.N) : left9 m c t
    = output (total (blk3 m c t) (blk5 m c t) (blk6 m c t)) (blk0 m c t) (blk1 m c t) (blk2 m c t) (blk4 m c t) (blk7 m c t) (k0_pay3 (blk8 m c t)) := by
  unfold total blk0 blk1 blk2 blk3 blk4 blk5 blk6 blk7 blk8
  exact left9_eq m c t

theorem left9_at (t : Fin cfg0.N) (s : Fin 8) (e : Fin 1024) : left9 m c t (ix2 s e) = attended m c (request t) s (head e) (feature e) := by
  rw [left9_of]
  rw [output_at]
  unfold attended
  simp only [total_eq, blk0_at, blk1_at, blk2_at, blk4_at, blk7_at, start_at, value_eq]

theorem left10_of (t : Fin cfg0.N) (y : S1x4x128x256.Idx) : left10 m c t y
    = state 7 (total (blk3 m c t) (blk5 m c t) (blk6 m c t)) (blk1 m c t) (blk2 m c t) (k0_pay3 (blk8 m c t)) (ix3 (y 1) (y 2) (y 3)) := by
  unfold total blk1 blk2 blk3 blk5 blk6 blk8
  exact left10_eq m c t y

theorem left10_at (t : Fin cfg0.N) (h : Fin 4) (e : Fin 128) (d : Fin 256) : left10 m c t (ix4 0 h e d) = advanced m c (request t) h e d := by
  refine (left10_of m c t _).trans ((state_at 7 _ _ _ _ h e d).trans ?_)
  unfold advanced
  simp only [total_eq, blk1_at, blk2_at, start_at]

/-- The outputs' array, and the states'. -/
def outputs : Vec Ideal S256x1024 .f32 := fun i => attended m c ⟨(i 0).val / 8, by have h : (i 0).val < 256 := (i 0).isLt; omega⟩ ⟨(i 0).val % 8, by omega⟩ (head (i 1)) (feature (i 1))
def states : Vec Ideal S32x4x128x256 .f32 := fun i => advanced m c (i 0) (i 1) (i 2) (i 3)

theorem place9 (t : Fin cfg0.N) (s : Fin 8) (e : Fin 1024) : (((cfg0.win 9).blk t).view.emb (ix2 s e) : S256x1024.Idx)
    = ix2 ⟨8 * (request t).val + s.val, by have := (request t).isLt; omega⟩ e := by
  have h := place (index t).2.2.2.2.2.2.2.2.2.1 8 1024 s.val e.val
  refine funext fun a => Fin.ext (match a with
    | ⟨0, _⟩ => h.1.trans (show t.val * 8 + s.val = 8 * t.val + s.val by omega)
    | ⟨1, _⟩ => h.2.trans (Nat.zero_add _))

theorem put9 (t : Fin cfg0.N) (y : S8x1024.Idx) : left9 m c t y = outputs m c (((cfg0.win 9).blk t).view.emb y) := by
  obtain ⟨s, e, rfl⟩ : ∃ (s : Fin 8) (e : Fin 1024), y = ix2 s e := ⟨y 0, y 1, eq_ix2 y⟩
  refine (left9_at m c t s e).trans (Eq.trans ?_ (congrArg (outputs m c) (place9 t s e).symm))
  exact congrArg₂ (fun b u => attended m c b u (head e) (feature e)) (Fin.ext (show t.val = (8 * t.val + s.val) / 8 by omega)) (Fin.ext (show s.val = (8 * t.val + s.val) % 8 by omega))

theorem cover9 (i : S256x1024.Idx) : ∃ (t : Fin cfg0.N) (y : S8x1024.Idx), (((cfg0.win 9).blk t).view.emb y : S256x1024.Idx) = i := by
  obtain ⟨r, e, rfl⟩ : ∃ (r : Fin 256) (e : Fin 1024), i = ix2 r e := ⟨i 0, i 1, eq_ix2 i⟩
  refine ⟨(⟨r.val / 8, by omega⟩ : Fin 32), ix2 (⟨r.val % 8, by omega⟩ : Fin 8) e, (place9 _ _ e).trans ?_⟩
  exact congrArg (fun x => ix2 x e) (Fin.ext (show 8 * (r.val / 8) + r.val % 8 = r.val by omega))

theorem final9 : (dats m 0 c).arrAt 9 cfg0.N = outputs m c :=
  (dats m 0 c).arrAt_eq_of_emb 9 (outputs m c) (fun t _ y => (congrFun (after0_9 m c t) y).trans (put9 m c t y)) (fun i =>
    have ⟨t, y, h⟩ := cover9 i
    ⟨t, flush0_9 .., Finset.mem_map.mpr ⟨y, Finset.mem_univ _, h⟩⟩)

theorem place10 (t : Fin cfg0.N) (h : Fin 4) (e : Fin 128) (d : Fin 256) : (((cfg0.win 10).blk t).view.emb (ix4 (0 : Fin 1) h e d) : S32x4x128x256.Idx) = ix4 (request t) h e d :=
  place4 (index t).2.2.2.2.2.2.2.2.2.2 0 h e d (request t) rfl _ rfl rfl rfl rfl

theorem put10 (t : Fin cfg0.N) (y : S1x4x128x256.Idx) : left10 m c t y = states m c (((cfg0.win 10).blk t).view.emb y) := by
  obtain ⟨u, h, e, d, rfl⟩ : ∃ (u : Fin 1) (h : Fin 4) (e : Fin 128) (d : Fin 256), y = ix4 u h e d := ⟨y 0, y 1, y 2, y 3, eq_ix4 y⟩
  obtain rfl : u = 0 := Fin.ext (by omega)
  rw [left10_at m c t h e d, place10 t h e d]
  rfl

theorem cover10 (i : S32x4x128x256.Idx) : ∃ (t : Fin cfg0.N) (y : S1x4x128x256.Idx), (((cfg0.win 10).blk t).view.emb y : S32x4x128x256.Idx) = i := by
  obtain ⟨b, h, e, d, rfl⟩ : ∃ (b : Fin 32) (h : Fin 4) (e : Fin 128) (d : Fin 256), i = ix4 b h e d := ⟨i 0, i 1, i 2, i 3, eq_ix4 i⟩
  exact ⟨b, ix4 (0 : Fin 1) h e d, place10 b h e d⟩

theorem final10 : (dats m 0 c).arrAt 10 cfg0.N = states m c :=
  (dats m 0 c).arrAt_eq_of_emb 10 (states m c) (fun t _ y => (congrFun (after0_10 m c t) y).trans (put10 m c t y)) (fun i =>
    have ⟨t, y, h⟩ := cover10 i
    ⟨t, flush0_10 .., Finset.mem_map.mpr ⟨y, Finset.mem_univ _, h⟩⟩)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- A window's array after the region. -/
theorem found (w : Fin 11) : Pipeline.withArrays spec0 c (V0 m c) (fun w => (dats m 0 c).arrAt w cfg0.N) (Pipeline.arrRef spec0 w) = (dats m 0 c).arrAt w cfg0.N :=
  Pipeline.withArrays_arr_shared spec0 c (V0 m c) _
    (fun w w' hne e => ((dats m 0 c).arrAt_in w (shared w w' hne e) _).trans (A_eq m c w)) w

/-- The two results. -/
def expected0 : Vec Ideal S32x8x1024 .f32 := fun i => attended m c (i 0) (i 1) (head (i 2)) (feature (i 2))
def expected1 : Vec Ideal S1x32x4x128x256 .f32 := fun i => advanced m c (i 1) (i 2) (i 3) (i 4)

theorem last18 : Pipeline.afterTail₀ cfgs (dats m) 0 (V0 m) [hostOps1] c main_v18 = expected0 m c := by
  unfold Pipeline.afterTail₀
  rw [List.flatten_singleton]
  after_results_simp
  refine (congrArg (fun x => shapeCast S32x8x1024 x shapeCasts_S256x1024_S32x8x1024) ((found m c 9).trans (final9 m c))).trans (funext fun i => ?_)
  obtain ⟨b, s, e, rfl⟩ : ∃ (b : Fin 32) (s : Fin 8) (e : Fin 1024), i = ix3 b s e := ⟨i 0, i 1, i 2, eq_ix3 i⟩
  refine Eq.trans (b := outputs m c (ix2 ⟨8 * b.val + s.val, by omega⟩ e)) ?_ ?_
  · generalize outputs m c = X
    pointwise
    exact congrArg (fun x => X (ix2 x e)) (Fin.ext (show b.val * 8 + s.val = 8 * b.val + s.val by omega))
  · exact congrArg₂ (fun b u => attended m c b u (head e) (feature e)) (Fin.ext (show (8 * b.val + s.val) / 8 = b.val by omega)) (Fin.ext (show (8 * b.val + s.val) % 8 = s.val by omega))

theorem last19 : Pipeline.afterTail₀ cfgs (dats m) 0 (V0 m) [hostOps1] c main_v19 = expected1 m c := by
  unfold Pipeline.afterTail₀
  rw [List.flatten_singleton]
  after_results_simp
  refine (congrArg (fun x => broadcastInDim S1x32x4x128x256 ![1, 2, 3, 4] bcast_S32x4x128x256_S1x32x4x128x256_1_2_3_4 x) ((found m c 10).trans (final10 m c))).trans (funext fun i => ?_)
  obtain ⟨u, b, h, e, d, rfl⟩ : ∃ (u : Fin 1) (b : Fin 32) (h : Fin 4) (e : Fin 128) (d : Fin 256), i = ix5 u b h e d := ⟨i 0, i 1, i 2, i 3, i 4, eq_ix5 i⟩
  refine Eq.trans (b := states m c (ix4 b h e d)) ?_ rfl
  generalize states m c = X
  pointwise

/-- Both runs end with the same outputs and the same state. -/
theorem claim : Cert.algebraic_Kernel7Ideal_Reference7Ideal := by
  intro m g m' g' _ hargs
  refine ⟨fun c => expected0 m c, fun c => expected1 m c,
    (θ_run _ _ _).mono (fun _ h c => ?_) (θ_run_and (run_main m g) (unchanged m g)),
    (θ_run _ _ _).mono (fun _ h c => ?_) (Cert.Reference7Ideal.Value.run m' g')⟩
  · exact ⟨((h.1 c).2 main_v18 (by decide)).trans (last18 m c), ((h.1 c).2 main_v19 (by decide)).trans (last19 m c), h.2 c⟩
  · obtain ⟨a0, a1, a2, a3, a4, a5, a6, a7, a8⟩ := hargs c
    refine ⟨(h c).1.trans (funext fun i => ?_), (h c).2.1.trans (funext fun i => ?_), (h c).2.2⟩
    · obtain ⟨b, s, e, rfl⟩ : ∃ (b : Fin 32) (s : Fin 8) (e : Fin 1024), i = ix3 b s e := ⟨i 0, i 1, i 2, eq_ix3 i⟩
      refine (congrArg (fun e => Cert.Reference7Ideal.Value.out_main_v51 _ (ix3 b s e)) (value_eq e).symm).trans ((SampleReference.result_of m' c b s (head e) (feature e)).trans ?_)
      show _ = attended m c b s (head e) (feature e)
      unfold attended
      rw [show SampleReference.q m' c = q m c from a0, show SampleReference.k m' c = k m c from a1, show SampleReference.v m' c = v m c from a2, show SampleReference.a m' c = a m c from a3, show SampleReference.z m' c = z m c from a4, show SampleReference.wa m' c = wa m c from a5, show SampleReference.ba m' c = ba m c from a6, show SampleReference.wn m' c = wn m c from a7, show SampleReference.s₀ m' c = s₀ m c from a8]
    · obtain ⟨u, b, h, e, d, rfl⟩ : ∃ (u : Fin 1) (b : Fin 32) (h : Fin 4) (e : Fin 128) (d : Fin 256), i = ix5 u b h e d := ⟨i 0, i 1, i 2, i 3, i 4, eq_ix5 i⟩
      obtain rfl : u = 0 := Subsingleton.elim _ _
      refine (SampleReference.final_of m' c b h e d).trans ?_
      show _ = advanced m c b h e d
      unfold advanced
      rw [show SampleReference.k m' c = k m c from a1, show SampleReference.v m' c = v m c from a2, show SampleReference.a m' c = a m c from a3, show SampleReference.wa m' c = wa m c from a5, show SampleReference.ba m' c = ba m c from a6, show SampleReference.s₀ m' c = s₀ m c from a8]

end Cert.Proof.Gla.Sample
-- ==== Proof.GlaPrompt.lean ====
/- What a point of the prompt's linear attention leaves in the state it carries. -/
module

public import Idealize.ShloMosaic.Lib.Pipeline.ReadBack
public import proofs.«01_k».proof.Proof.GlaState
public import proofs.«01_k».proof.Proof.Gen.Kernel8Ideal.Frame

@[expose] public section

noncomputable section

namespace Cert.Proof.Gla.Prompt

open Idealize.ShloMosaic Idealize.ShloMosaic.TcCoe Cert.Kernel8Ideal Cert.Kernel8Ideal.Gen Cert.Proof.Gla.State

/-- The running sums of a point's gate. -/
abbrev sums (A : Vec Ideal S64x128 .f32) (W : Vec Ideal S128x512 .f32) (B : Vec Ideal S1x512 .f32) : FVec Ideal S64x512 .f32 :=
  k0_pay7 (iota Kind.tc S64x1 32 [0] iota_S64x1_d0_w32) (k0_pay3 A W B) (k0_pay4 A W B) k0_pay5 k0_pay6

/-- A gate's preactivation. -/
abbrev pre (A : Vec Ideal S64x128 .f32) (W : Vec Ideal S128x512 .f32) (B : Vec Ideal S1x512 .f32) (e : Fin 512) (t : Fin 64) : EReal :=
  ∑ j : Fin 128, A (ix2 t j) * W (ix2 j e) + B (ix2 0 e)

theorem once (A : Vec Ideal S64x128 .f32) (W : Vec Ideal S128x512 .f32) (B : Vec Ideal S1x512 .f32) (t : Fin 64) (e : Fin 512) :
    k0_pay3 A W B (ix2 t e) = window 2 (fun s => gate (pre A W B e s)) t := by
  unfold k0_pay3
  pointwise
  refine Eq.trans ?_ (doubled 1 (x := fun s => gate (pre A W B e s)) (t := t) (u := ⟨(t.val + 64 - 1) % 64, Nat.mod_lt _ (by decide)⟩) (hu := rfl))
  rw [window_one, window_one]
  rfl

/-- One step of the running sums: the sums `w` rows earlier are added. -/
def step (w : BitVec 32) (x : FVec Ideal S64x512 .f32) : FVec Ideal S64x512 .f32 :=
  addf x (select (broadcastTo S64x512 (shapeCast S64x1 (cmpi .sge (iota .tc S64x1 32 [0] iota_S64x1_d0_w32) (broadcast S64x1 w)) shapeCasts_S64x1_S64x1) broadcasts_S64x1_S64x512)
    (dynamicRotate 0 w none x rotates_S64x512_d0) (broadcast S64x512 (Scalar.ofBits .f32 0x00000000#32)))

theorem sums_steps (A : Vec Ideal S64x128 .f32) (W : Vec Ideal S128x512 .f32) (B : Vec Ideal S1x512 .f32) :
    sums A W B = step 32#32 (step 16#32 (step 8#32 (step 4#32 (step 2#32 (k0_pay3 A W B))))) := by
  unfold sums k0_pay7 k0_pay4 k0_pay5 k0_pay6
  rfl

theorem step_at (w : ℕ) (hw : w < 64) (x : FVec Ideal S64x512 .f32) (f : Fin 64 → EReal) (e : Fin 512) (hx : ∀ s, x (ix2 s e) = window w f s) (t : Fin 64) :
    step (BitVec.ofNat 32 w) x (ix2 t e) = window (2 * w) f t := by
  unfold step
  pointwise
  rw [hx, hx]
  refine doubled w hw.le (x := f) (t := t) (hu := ?_)
  show (t.val + 64 - (BitVec.ofNat 32 w).toNat % 64) % 64 = _
  rw [BitVec.toNat_ofNat, Nat.mod_eq_of_lt (show w < 2 ^ 32 by omega), Nat.mod_eq_of_lt hw]

theorem sums_at (A : Vec Ideal S64x128 .f32) (W : Vec Ideal S128x512 .f32) (B : Vec Ideal S1x512 .f32) (t : Fin 64) (e : Fin 512) :
    sums A W B (ix2 t e) = running (fun s => gate (pre A W B e s)) t := by
  rw [sums_steps]
  refine (step_at 32 (by decide) _ _ e (fun s => ?_) t).trans (window_all _ _)
  refine step_at 16 (by decide) _ _ e (fun s => ?_) s
  refine step_at 8 (by decide) _ _ e (fun s => ?_) s
  refine step_at 4 (by decide) _ _ e (fun s => ?_) s
  exact step_at 2 (by decide) _ _ e (fun s => once A W B s e) s

/-- The stores of the four heads' states, over what the buffer held. -/
theorem pieces (A : Vec Ideal S64x128 .f32) (W : Vec Ideal S128x512 .f32) (B : Vec Ideal S1x512 .f32) (K : Vec Ideal S64x512 .f32) (V : Vec Ideal S64x1024 .f32)
    (S : Vec Ideal S4x128x256 .f32) (L) (y : S4x128x256.Idx) :
    View.canon (Val := Elt Ideal) (s := S4x128x256) (e := .f32) ([⟨Rect.unit ![3, 0, 0] ![1, 128, 256] inb_S4x128x256_S1x128x256_3_0_0,
          k0_pay407 (k0_pay309 (View.ld S (Rect.unit ![3, 0, 0] ![1, 128, 256] inb_S4x128x256_S1x128x256_3_0_0)))
            (k0_pay310 (View.ld V (Rect.unit ![0, 768] ![64, 256] inb_S64x1024_S64x256_0_768)))
            (k0_pay404 (k0_pay307 (View.ld K (Rect.unit ![0, 384] ![64, 128] inb_S64x512_S64x128_0_384))) (k0_pay308 (sums A W B)))
            k0_pay405 (FloatOps.ofBits FTy.f32 0#32) (k0_pay406 (k0_pay308 (sums A W B)))⟩,
        ⟨Rect.unit ![2, 0, 0] ![1, 128, 256] inb_S4x128x256_S1x128x256_2_0_0,
          k0_pay304 (k0_pay209 (View.ld S (Rect.unit ![2, 0, 0] ![1, 128, 256] inb_S4x128x256_S1x128x256_2_0_0)))
            (k0_pay210 (View.ld V (Rect.unit ![0, 512] ![64, 256] inb_S64x1024_S64x256_0_512)))
            (k0_pay301 (k0_pay207 (View.ld K (Rect.unit ![0, 256] ![64, 128] inb_S64x512_S64x128_0_256))) (k0_pay208 (sums A W B)))
            k0_pay302 (FloatOps.ofBits FTy.f32 0#32) (k0_pay303 (k0_pay208 (sums A W B)))⟩,
        ⟨Rect.unit ![1, 0, 0] ![1, 128, 256] inb_S4x128x256_S1x128x256_1_0_0,
          k0_pay204 (k0_pay110 (View.ld S (Rect.unit ![1, 0, 0] ![1, 128, 256] inb_S4x128x256_S1x128x256_1_0_0)))
            (k0_pay111 (View.ld V (Rect.unit ![0, 256] ![64, 256] inb_S64x1024_S64x256_0_256)))
            (k0_pay200 (k0_pay108 (View.ld K (Rect.unit ![0, 128] ![64, 128] inb_S64x512_S64x128_0_128))) (k0_pay109 (sums A W B)))
            k0_pay201 (k0_pay202 (k0_pay109 (sums A W B))) k0_pay203⟩,
        ⟨Rect.unit ![0, 0, 0] ![1, 128, 256] inb_S4x128x256_S1x128x256_0_0_0,
          k0_pay105 (k0_pay11 (View.ld S (Rect.unit ![0, 0, 0] ![1, 128, 256] inb_S4x128x256_S1x128x256_0_0_0)))
            (k0_pay12 (View.ld V (Rect.unit ![0, 0] ![64, 256] inb_S64x1024_S64x256_0_0)))
            (k0_pay103 (k0_pay9 (View.ld K (Rect.unit ![0, 0] ![64, 128] inb_S64x512_S64x128_0_0))) (k0_pay10 (sums A W B)))
            (k0_pay104 (k0_pay10 (sums A W B)))⟩] ++ L) y = state 63 (sums A W B) K V S y := by
  generalize sums A W B = C
  refine View.canon_append_of_piecesOf (Val := Elt Ideal) (s := S4x128x256) (e := .f32) (state 63 C K V S) L _ ?_ y
    (View.cover_of_tiledBy _ ![1, 128, 256] (by sl_kernel_rfl) y)
  refine ⟨fun x => ?_, fun x => ?_, fun x => ?_, fun x => ?_, trivial⟩
  · unfold k0_pay407 k0_pay309 k0_pay310 k0_pay404 k0_pay405 k0_pay406 k0_pay403 k0_pay307 k0_pay308
    pointwise
    exact state_of 63 _ _ _ x C K V S _ (fun j => rfl) _ rfl _ rfl _ (congrArg S (emb_of _ _ x))
  · unfold k0_pay304 k0_pay209 k0_pay210 k0_pay301 k0_pay302 k0_pay303 k0_pay300 k0_pay207 k0_pay208
    pointwise
    exact state_of 63 _ _ _ x C K V S _ (fun j => rfl) _ rfl _ rfl _ (congrArg S (emb_of _ _ x))
  · unfold k0_pay204 k0_pay110 k0_pay111 k0_pay200 k0_pay201 k0_pay202 k0_pay203 k0_pay199 k0_pay108 k0_pay109
    pointwise
    exact state_of 63 _ _ _ x C K V S _ (fun j => rfl) _ rfl _ rfl _ (congrArg S (emb_of _ _ x))
  · unfold k0_pay105 k0_pay11 k0_pay12 k0_pay103 k0_pay104 k0_pay102 k0_pay9 k0_pay10
    pointwise
    exact state_of 63 _ _ _ x C K V S _ (fun j => by dsimp only; omega) _ (by dsimp only; omega) _ (by dsimp only; omega) _ (congrArg S (emb_of _ _ x))

variable (m : (ℓ : Loc nD τ sig) → Buf (Elt Ideal) ℓ) (c : Dev nD)

/-- The state a point leaves. -/
def kept (n : ℕ) (h : n < cfg0.N) : Vec Ideal S4x128x256 .f32 := (outsAt0 m c n h).2.2

/-- The state before a point that is not the first. -/
def before (t : Fin cfg0.N) : Vec Ideal S4x128x256 .f32 := kept m c (t.val - 1) (Nat.lt_of_le_of_lt (Nat.sub_le _ _) t.isLt)

theorem kept_first (t : Fin cfg0.N) (h0 : t.val % 128 = 0) (h1 : ¬t.val % 128 = 127) (y : S4x128x256.Idx) :
    kept m c t.val t.isLt y = state 63 (sums (iblk m c 3 t) (iblk m c 5 t) (iblk m c 6 t)) (iblk m c 1 t) (iblk m c 2 t) (k0_pay2 (iblk m c 8 t)) y := by
  unfold kept
  rw [outsAt0_A m c t h0 h1]
  dsimp only
  unfold sout0_A_0
  frame_open
  frame_out
  simp (disch := decide) only [↓ View.readCov_skip, ↓ View.readCov_fill]
  exact pieces (iblk m c 3 t) (iblk m c 5 t) (iblk m c 6 t) (iblk m c 1 t) (iblk m c 2 t) (k0_pay2 (iblk m c 8 t))
    [⟨Rect.unit ![0, 0, 0] ![4, 128, 256] inb_S4x128x256_S4x128x256_0_0_0, k0_pay2 (iblk m c 8 t)⟩] y

theorem kept_middle (t : Fin cfg0.N) (h0 : ¬t.val % 128 = 0) (h1 : ¬t.val % 128 = 127) (y : S4x128x256.Idx) :
    kept m c t.val t.isLt y = state 63 (sums (iblk m c 3 t) (iblk m c 5 t) (iblk m c 6 t)) (iblk m c 1 t) (iblk m c 2 t) (before m c t) y := by
  unfold before kept
  rw [outsAt0_B m c t h0 h1]
  dsimp only
  unfold sout0_B_0
  frame_open
  frame_out
  exact (pieces (iblk m c 3 t) (iblk m c 5 t) (iblk m c 6 t) (iblk m c 1 t) (iblk m c 2 t) _ [] y).trans
    (congrArg (fun S => state 63 _ _ _ S y) ((Memref.isWhole_whole cc0_scratch0).read_unread _))

theorem kept_last (t : Fin cfg0.N) (h0 : ¬t.val % 128 = 0) (h1 : t.val % 128 = 127) (y : S4x128x256.Idx) :
    kept m c t.val t.isLt y = state 63 (sums (iblk m c 3 t) (iblk m c 5 t) (iblk m c 6 t)) (iblk m c 1 t) (iblk m c 2 t) (before m c t) y := by
  unfold before kept
  rw [outsAt0_C m c t h0 h1]
  dsimp only
  unfold sout0_C_0
  frame_open
  frame_out
  exact (pieces (iblk m c 3 t) (iblk m c 5 t) (iblk m c 6 t) (iblk m c 1 t) (iblk m c 2 t) _ [] y).trans
    (congrArg (fun S => state 63 _ _ _ S y) ((Memref.isWhole_whole cc0_scratch0).read_unread _))

/-- The result block at the last point. -/
def left10 (t : Fin cfg0.N) : Vec Ideal S1x4x128x256 .f32 := (outsAt0 m c t.val t.isLt).2.1

theorem left10_eq (t : Fin cfg0.N) (h0 : ¬t.val % 128 = 0) (h1 : t.val % 128 = 127) (y : S1x4x128x256.Idx) :
    left10 m c t y = kept m c t.val t.isLt (ix3 (y 1) (y 2) (y 3)) := by
  rw [kept_last m c t h0 h1]
  unfold left10 before kept
  rw [outsAt0_C m c t h0 h1]
  dsimp only
  unfold out0_C_10
  frame_open
  frame_out
  rw [View.readCov_eq_canon']
  refine Eq.trans (b := k0_pay1 (fun j => state 63 (sums (iblk m c 3 t) (iblk m c 5 t) (iblk m c 6 t)) (iblk m c 1 t) (iblk m c 2 t)
    (outsAt0 m c (t.val - 1) (Nat.lt_of_le_of_lt (Nat.sub_le _ _) t.isLt)).2.2
    ((Rect.unit (s := S4x128x256) ![0, 0, 0] ![4, 128, 256] inb_S4x128x256_S4x128x256_0_0_0).idx j)) y)
    (congrArg (fun f => k0_pay1 f y) (funext fun j => ?_)) ?_
  · exact (pieces (iblk m c 3 t) (iblk m c 5 t) (iblk m c 6 t) (iblk m c 1 t) (iblk m c 2 t) _ [] _).trans
      (congrArg (fun S => state 63 _ _ _ S _) ((Memref.isWhole_whole cc0_scratch0).read_unread _))
  unfold k0_pay1
  pointwise

end Cert.Proof.Gla.Prompt
-- ==== Proof.GlaPromptBlocks.lean ====
/- The arrays the prompt's linear attention reads, of the arguments, and its blocks of them. -/
module

public import proofs.«01_k».proof.Proof.Merge
public import proofs.«01_k».proof.Proof.GlaPrompt
public import proofs.«01_k».proof.Proof.GlaWeights

@[expose] public section

noncomputable section

namespace Cert.Proof.Gla.Prompt

open Idealize.ShloMosaic Idealize.ShloMosaic.TcCoe Cert.Kernel8Ideal Cert.Kernel8Ideal.Gen Cert.Proof.Merge Cert.Proof.Gla.State

variable (m : (ℓ : Loc nD τ sig) → Buf (Elt Ideal) ℓ) (c : Dev nD)

abbrev q : Vec Ideal S1x8192x512 .f32 := m ((c.tc : Thread nD τ).loc main_arg0)
abbrev k : Vec Ideal S1x8192x512 .f32 := m ((c.tc : Thread nD τ).loc main_arg1)
abbrev v : Vec Ideal S1x8192x1024 .f32 := m ((c.tc : Thread nD τ).loc main_arg2)
abbrev a : Vec Ideal S1x8192x16 .f32 := m ((c.tc : Thread nD τ).loc main_arg3)
abbrev z : Vec Ideal S1x8192x1024 .f32 := m ((c.tc : Thread nD τ).loc main_arg4)
abbrev wa : Vec Ideal S1x16x512 .f32 := m ((c.tc : Thread nD τ).loc main_arg5)
abbrev ba : Vec Ideal S1x512 .f32 := m ((c.tc : Thread nD τ).loc main_arg6)

/-- The columns the kernel reads, side by side. -/
def columns : Vec Ideal S8192x9216 .f32 :=
  concatenate S8192x9216 1 [⟨S8192x5120, broadcastInDim S8192x5120 ![] bcast_S_S8192x5120 (constant (F := Ideal) S_ .f32 0x00000000#32)⟩,
    ⟨S8192x1024, shapeCast S8192x1024 (v m c) shapeCasts_S1x8192x1024_S8192x1024⟩,
    ⟨S8192x1024, shapeCast S8192x1024 (z m c) shapeCasts_S1x8192x1024_S8192x1024⟩,
    ⟨S8192x512, shapeCast S8192x512 (q m c) shapeCasts_S1x8192x512_S8192x512⟩,
    ⟨S8192x512, shapeCast S8192x512 (k m c) shapeCasts_S1x8192x512_S8192x512⟩,
    ⟨S8192x16, shapeCast S8192x16 (a m c) shapeCasts_S1x8192x16_S8192x16⟩,
    ⟨S8192x1008, broadcastInDim S8192x1008 ![] bcast_S_S8192x1008 (constant (F := Ideal) S_ .f32 0x00000000#32)⟩]
    concatenates_S8192x5120_S8192x1024_S8192x1024_S8192x512_S8192x512_S8192x16_S8192x1008_S8192x9216_d1

set_option maxRecDepth 65536 in
theorem arrays : V m c main_v12 = columns m c ∧ V m c main_v3 = taller (wa m c)
    ∧ V m c main_v15 = shapeCast S1x512 (shapeCast S512 (ba m c) shapeCasts_S1x512_S512) shapeCasts_S512_S1x512
    ∧ V m c main_v4 = broadcastInDim S1x4x128x256 ![] bcast_S_S1x4x128x256 (constant (F := Ideal) S_ .f32 0x00000000#32) := by
  unfold V V0 hostOps0
  refine ⟨?_, ?_, ?_, ?_⟩
  · after_results_simp; unfold columns; rfl
  · rw [List.flatten_singleton]
    after_results_simp
    unfold taller
    rfl
  all_goals after_results_simp; rfl

/-- The point's block in each window: rows of a chunk, at the columns of an array. -/
theorem index : ∀ t : Fin grid0.N, cc0_transform_1 (grid0.coords t) = ![t.val, 15]
    ∧ cc0_transform_2 (grid0.coords t) = ![t.val, 5] ∧ cc0_transform_3 (grid0.coords t) = ![t.val, 64]
    ∧ cc0_transform_5 (grid0.coords t) = ![0, 0] ∧ cc0_transform_6 (grid0.coords t) = ![0, 0]
    ∧ cc0_transform_8 (grid0.coords t) = ![0, 0, 0, 0] ∧ cc0_transform_10 (grid0.coords t) = ![0, 0, 0, 0] := by
  decide +kernel

theorem v_at (r : Fin 8192) (e : Fin 1024) : columns m c (ix2 r ⟨5120 + e.val, by omega⟩) = v m c (ix3 0 r e) := by
  unfold columns
  pointwise

theorem k_at (r : Fin 8192) (e : Fin 512) : columns m c (ix2 r ⟨7680 + e.val, by omega⟩) = k m c (ix3 0 r e) := by
  unfold columns
  pointwise
  rw [dif_neg (by omega), dif_neg (by omega), dif_neg (by omega), dif_neg (by omega), dif_pos (by omega)]
  exact congrArg (fun i => k m c (ix3 0 r i)) (Fin.ext (by dsimp only <;> omega))

theorem a_at (r : Fin 8192) (e : Fin 16) : columns m c (ix2 r ⟨8192 + e.val, by omega⟩) = a m c (ix3 0 r e) := by
  unfold columns
  pointwise
  rw [dif_neg (by omega), dif_neg (by omega), dif_neg (by omega), dif_neg (by omega), dif_neg (by omega), dif_pos (by omega)]
  exact congrArg (fun i => a m c (ix3 0 r i)) (Fin.ext (by dsimp only <;> omega))

/-- A point's chunk. -/
abbrev chunk (t : Fin cfg0.N) : Fin 128 := t

def blk1 (t : Fin cfg0.N) : Vec Ideal S64x512 .f32 := iblk m c 1 t
def blk2 (t : Fin cfg0.N) : Vec Ideal S64x1024 .f32 := iblk m c 2 t
def blk3 (t : Fin cfg0.N) : Vec Ideal S64x128 .f32 := iblk m c 3 t
def blk5 (t : Fin cfg0.N) : Vec Ideal S128x512 .f32 := iblk m c 5 t
def blk6 (t : Fin cfg0.N) : Vec Ideal S1x512 .f32 := iblk m c 6 t
def blk8 (t : Fin cfg0.N) : Vec Ideal S1x4x128x256 .f32 := iblk m c 8 t

/-- A block of a chunk's rows of the columns, at the columns' own places. -/
theorem columns_read {T : Fin 2 → ℕ} {p w : ℕ} (t : Fin cfg0.N) (h : T = ![t.val, p]) (s : Fin 64) (e : ℕ) (o : Fin 9216) (ho : o.val = p * w + e) (j : S8192x9216.Idx)
    (h0 : (j 0).val = T 0 * 64 + 1 * s.val) (h1 : (j 1).val = T 1 * w + 1 * e) :
    V m c main_v12 j = columns m c (ix2 (row (chunk t) s) o) := by
  have q := place h 64 w s.val e
  refine (read_at (V m c main_v12) j (ix2 (row (chunk t) s) o) (h0.trans (q.1.trans ?_)) (h1.trans (q.2.trans ho.symm))).trans
    (congrFun (arrays m c).1 _)
  show t.val * 64 + s.val = 64 * t.val + s.val
  omega

theorem blk1_at (t : Fin cfg0.N) (s : Fin 64) (e : Fin 512) : blk1 m c t (ix2 s e) = k m c (ix3 0 (row (chunk t) s) e) :=
  (columns_read m c t (index t).1 s e.val _ rfl _ rfl rfl).trans (k_at m c _ e)

theorem blk2_at (t : Fin cfg0.N) (s : Fin 64) (e : Fin 1024) : blk2 m c t (ix2 s e) = v m c (ix3 0 (row (chunk t) s) e) :=
  (columns_read m c t (index t).2.1 s e.val _ rfl _ rfl rfl).trans (v_at m c _ e)

theorem blk3_at (t : Fin cfg0.N) (s : Fin 64) (e : Fin 16) : blk3 m c t (ix2 s ⟨e.val, by omega⟩) = a m c (ix3 0 (row (chunk t) s) e) :=
  (columns_read m c t (index t).2.2.1 s e.val _ rfl _ rfl rfl).trans (a_at m c _ e)

theorem corner {T : Fin 2 → ℕ} (h : T = ![0, 0]) (a b y z : ℕ) : T 0 * a + 1 * y = y ∧ T 1 * b + 1 * z = z :=
  ⟨(place h a b y z).1.trans (by omega), (place h a b y z).2.trans (by omega)⟩

theorem blk5_at (t : Fin cfg0.N) (r : Fin 128) (e : Fin 512) : blk5 m c t (ix2 r e) = taller (wa m c) (ix2 r e) := by
  have h := corner (index t).2.2.2.1 128 512 r.val e.val
  exact (read_at (V m c main_v3) _ (ix2 r e) h.1 h.2).trans (congrFun (arrays m c).2.1 _)

theorem blk6_at (t : Fin cfg0.N) (e : Fin 512) : blk6 m c t (ix2 0 e) = ba m c (ix2 0 e) := by
  have h := corner (index t).2.2.2.2.1 1 512 0 e.val
  exact (read_at (V m c main_v15) _ (ix2 0 e) h.1 h.2).trans ((congrFun (arrays m c).2.2.1 _).trans (by pointwise))

/-- The state the prompt begins with: zero. -/
theorem blk8_at (t : Fin cfg0.N) (y : S1x4x128x256.Idx) : blk8 m c t y = 0 := by
  have h (j : S1x4x128x256.Idx) : V m c main_v4 j = (0 : EReal) := (congrFun (arrays m c).2.2.2 j).trans Ideal.ofBits_zero_f32
  exact h _

end Cert.Proof.Gla.Prompt
-- ==== Proof.GlaPromptReference.lean ====
/- The prompt's linear attention as the reference has it: its chunks scanned in order, each carrying the state on. -/
module

public import proofs.«01_k».proof.Proof.GlaState
public import Idealize.ShloMosaic.Lib.Pointwise
public import proofs.«01_k».proof.Proof.Gen.Reference8Ideal.Run
public import proofs.«01_k».proof.Defs

@[expose] public section

noncomputable section

namespace Cert.Proof.Gla.PromptReference

open Cert.Reference8Ideal Cert.Reference8Ideal.Gen Cert.Reference8Ideal.Value
open Idealize.ShloMosaic Idealize.ShloMosaic.TcCoe Idealize.ShloMosaic.Tactic Idealize.ShloMosaic.StableHlo Cert.Proof.Gla.State

/-- The chunks of an array of heads. -/
def chunks (x : FVec Ideal S1x8192x4x128 .f32) : FVec Ideal S128x1x64x4x128 .f32 :=
  transpose S128x1x64x4x128 [1, 0, 2, 3, 4] (shapeCast S1x128x64x4x128
    (pad S1x8192x4x128 ![0, 0, 0, 0] ![0, 0, 0, 0] ![0, 0, 0, 0] x (sitofp (F := Ideal) .f32 (constantI S_ 32 0#32)) pads_S1x8192x4x128_S1x8192x4x128_000_000_000_000 h_S_)
    shapeCasts_S1x8192x4x128_S1x128x64x4x128) transposes_S1x128x64x4x128_S128x1x64x4x128_1_0_2_3_4

theorem chunks_at (x : FVec Ideal S1x8192x4x128 .f32) (n : Fin 128) (t : Fin 64) (h : Fin 4) (k : Fin 128) : chunks x (ix5 n 0 t h k) = x (ix4 0 (row n t) h k) := by
  unfold chunks
  pointwise
  rw [dif_pos (by omega)]
  exact congrArg (fun i => x (ix4 0 i h k)) (Fin.ext (by dsimp only <;> omega))

/-- The same of the values. -/
def valueChunks (x : FVec Ideal S1x8192x4x256 .f32) : FVec Ideal S128x1x64x4x256 .f32 :=
  transpose S128x1x64x4x256 [1, 0, 2, 3, 4] (shapeCast S1x128x64x4x256
    (pad S1x8192x4x256 ![0, 0, 0, 0] ![0, 0, 0, 0] ![0, 0, 0, 0] x (sitofp (F := Ideal) .f32 (constantI S_ 32 0#32)) pads_S1x8192x4x256_S1x8192x4x256_000_000_000_000 h_S_)
    shapeCasts_S1x8192x4x256_S1x128x64x4x256) transposes_S1x128x64x4x256_S128x1x64x4x256_1_0_2_3_4

theorem valueChunks_at (x : FVec Ideal S1x8192x4x256 .f32) (n : Fin 128) (t : Fin 64) (h : Fin 4) (k : Fin 256) : valueChunks x (ix5 n 0 t h k) = x (ix4 0 (row n t) h k) := by
  unfold valueChunks
  pointwise
  rw [dif_pos (by omega)]
  exact congrArg (fun i => x (ix4 0 i h k)) (Fin.ext (by dsimp only <;> omega))

theorem keys_at (x : FVec Ideal S1x8192x512 .f32) (t : Fin 8192) (h : Fin 4) (k : Fin 128) :
    shapeCast S1x8192x4x128 x shapeCasts_S1x8192x512_S1x8192x4x128 (ix4 0 t h k) = x (ix3 0 t (key h k)) := by
  pointwise
  exact congrArg (fun e => x (ix3 0 t e)) (Fin.ext (show h.val * 128 + k.val = 128 * h.val + k.val by omega))

theorem values_at (x : FVec Ideal S1x8192x1024 .f32) (t : Fin 8192) (h : Fin 4) (k : Fin 256) :
    shapeCast S1x8192x4x256 x shapeCasts_S1x8192x1024_S1x8192x4x256 (ix4 0 t h k) = x (ix3 0 t (value h k)) := by
  pointwise
  exact congrArg (fun e => x (ix3 0 t e)) (Fin.ext (show h.val * 256 + k.val = 256 * h.val + k.val by omega))

/-- The preactivations of the gates. -/
def inputs (a : FVec Ideal S1x8192x16 .f32) (w : FVec Ideal S1x16x512 .f32) (β : FVec Ideal S1x512 .f32) : FVec Ideal S1x8192x512 .f32 :=
  addf (Host.dotGeneral dot_S1x8192x16_S16x512_S1x8192x512_2_0_01_1_n_n none a (shapeCast S16x512 w shapeCasts_S1x16x512_S16x512))
    (broadcastInDim S1x8192x512 ![0, 1, 2] bcast_S1x1x512_S1x8192x512_0_1_2
      (broadcastInDim S1x1x512 ![2] bcast_S512_S1x1x512_2 (shapeCast S512 β shapeCasts_S1x512_S512)))

theorem inputs_at (a : FVec Ideal S1x8192x16 .f32) (w : FVec Ideal S1x16x512 .f32) (β : FVec Ideal S1x512 .f32) (t : Fin 8192) (e : Fin 512) :
    inputs a w β (ix3 0 t e) = ∑ r : Fin 16, a (ix3 0 t r) * w (ix3 0 r e) + β (ix2 0 e) := by
  unfold inputs
  pointwise

/-- The zero rows of a softplus. -/
abbrev zeros : FVec Ideal S1x8192x512 .f32 := broadcastInDim S1x8192x512 ![] bcast_S_S1x8192x512 (constant S_ .f32 0x00000000#32)

/-- The gates' logarithms of their preactivations. -/
def gates (p : FVec Ideal S1x8192x512 .f32) : FVec Ideal S1x8192x512 .f32 :=
  Host.divf (Host.negf (select (cmpf .une (subf (Host.negf p) zeros) (subf (Host.negf p) zeros)) (addf (Host.negf p) zeros)
    (addf (maximumf (Host.negf p) zeros) (Host.log1p (Host.exp (Host.negf (Host.absf (subf (Host.negf p) zeros))))))))
    (broadcastInDim S1x8192x512 ![] bcast_S_S1x8192x512 (constant S_ .f32 1098907648#32))

theorem gates_at (p : FVec Ideal S1x8192x512 .f32) (t : Fin 8192) (e : Fin 512) : gates p (ix3 0 t e) = gate (p (ix3 0 t e)) := by
  unfold gates
  pointwise
  rw [if_neg fun h => h rfl]
  have h := log_sigmoid (p (ix3 0 t e))
  rw [sub_zero] at h
  exact congrArg (fun l => Ideal.div l _) h

variable (m : (ℓ : Loc nD τ sig) → Buf (Elt Ideal) ℓ) (c : Dev nD)

abbrev k : FVec Ideal S1x8192x512 .f32 := m (c.tc.loc main_arg1)
abbrev v : FVec Ideal S1x8192x1024 .f32 := m (c.tc.loc main_arg2)
abbrev a : FVec Ideal S1x8192x16 .f32 := m (c.tc.loc main_arg3)
abbrev wa : FVec Ideal S1x16x512 .f32 := m (c.tc.loc main_arg5)
abbrev ba : FVec Ideal S1x512 .f32 := m (c.tc.loc main_arg6)

set_option maxRecDepth 65536 in
set_option maxHeartbeats 400000 in
/-- What the loop finds. -/
theorem entry : entryContents preI m c (Proc.devRef .tc main_v32_1) = chunks (shapeCast S1x8192x4x128 (k m c) shapeCasts_S1x8192x512_S1x8192x4x128)
    ∧ entryContents preI m c (Proc.devRef .tc main_v32_2) = valueChunks (shapeCast S1x8192x4x256 (v m c) shapeCasts_S1x8192x1024_S1x8192x4x256)
    ∧ entryContents preI m c (Proc.devRef .tc main_v32_3) = chunks (shapeCast S1x8192x4x128
        (gates (inputs (a m c) (wa m c) (ba m c))) shapeCasts_S1x8192x512_S1x8192x4x128)
    ∧ entryContents preI m c (Proc.devRef .tc main_v32_6) = broadcastInDim S1x4x128x256 ![] bcast_S_S1x4x128x256 (constant (F := Ideal) S_ .f32 0x00000000#32) := by
  refine ⟨?_, ?_, ?_, ?_⟩ <;> simp only [entryContents, afterL_cons, afterL_nil] <;> after_reads_simp <;> rfl

theorem front (x : FVec Ideal S1x1x64x4x128 .f32) (t : Fin 64) (h : Fin 4) (k : Fin 128) :
    shapeCast S1x64x4x128 x shapeCasts_S1x1x64x4x128_S1x64x4x128 (ix4 0 t h k) = x (ix5 0 0 t h k) := by
  pointwise

theorem valueFront (x : FVec Ideal S1x1x64x4x256 .f32) (t : Fin 64) (h : Fin 4) (k : Fin 256) :
    shapeCast S1x64x4x256 x shapeCasts_S1x1x64x4x256_S1x64x4x256 (ix4 0 t h k) = x (ix5 0 0 t h k) := by
  pointwise

theorem count : ∀ n : Fin 128, BitVec.toInt (Scf.iv 0#32 1#32 n.val) = (n.val : Int) := by decide +kernel

section Step
variable (V : Valuation τ sig (Elt Ideal)) (n : Fin 128) (hc : V (Proc.devRef .tc main_v32_5) = fun _ => Scf.iv 0#32 1#32 n.val)
include hc

theorem counter : BitVec.toInt (V (Proc.devRef .tc main_v32_5) (Shape.Idx.first h_S_)) = (n.val : Int) := by rw [hc]; exact count n

theorem keys_of (t : Fin 64) (h : Fin 4) (k : Fin 128) :
    res_main_while0b_v37 V (ix4 0 t h k) = V (Proc.devRef .tc main_v32_1) (ix5 n 0 t h k) :=
  (front _ t h k).trans (slice_chunk (n := 128) (V (Proc.devRef .tc main_v32_1)) _ _ n (counter V n hc) 0 t h k)

theorem values_of (t : Fin 64) (h : Fin 4) (k : Fin 256) :
    res_main_while0b_v38 V (ix4 0 t h k) = V (Proc.devRef .tc main_v32_2) (ix5 n 0 t h k) :=
  (valueFront _ t h k).trans (slice_chunk (n := 128) (V (Proc.devRef .tc main_v32_2)) _ _ n (counter V n hc) 0 t h k)

theorem sums_of (t : Fin 64) (h : Fin 4) (k : Fin 128) :
    res_main_while0b_v40 V (ix4 0 t h k) = running (fun s => V (Proc.devRef .tc main_v32_3) (ix5 n 0 s h k)) t := by
  refine (congrArg (fun z => Ideal.hostReduceWindowAdd _ _ _ _ reduceWindows_S1x64x4x128_S1x64x4x128_w1s1p0_0_w64s1p63_0_w1s1p0_0_w1s1p0_0 _ z _) Ideal.ofBits_zero_f32).trans ((window_sum (B := 1) (n := 64) (N := 63) rfl _ _ 0 t h k).trans ?_)
  exact congrArg (fun f => running f t) (funext fun s => (front _ s h k).trans (slice_chunk (n := 128) (V (Proc.devRef .tc main_v32_3)) _ _ n (counter V n hc) 0 s h k))

theorem last_of (h : Fin 4) (k : Fin 128) : res_main_while0b_v63 V (ix3 0 h k) = res_main_while0b_v40 V (ix4 0 63 h k) := by
  unfold res_main_while0b_v63
  pointwise

theorem state_of (h : Fin 4) (k : Fin 128) (d : Fin 256) :
    step_main_v32_6 V (ix4 0 h k d) = carried 63 (running (fun s => V (Proc.devRef .tc main_v32_3) (ix5 n 0 s h k)))
      (fun s => V (Proc.devRef .tc main_v32_1) (ix5 n 0 s h k)) (fun s => V (Proc.devRef .tc main_v32_2) (ix5 n 0 s h d))
      (V (Proc.devRef .tc main_v32_6) (ix4 0 h k d)) := by
  unfold step_main_v32_6 carried
  rw [id]
  pointwise
  simp only [last_of V n hc, sums_of V n hc, keys_of V n hc, values_of V n hc]

end Step

abbrev V₀ : Valuation τ sig (Elt Ideal) := entryContents preI m c

/-- The arrays the loop reads stay. -/
theorem stays (n : ℕ) : STEP^[n] (V₀ m c) (Proc.devRef .tc main_v32_1) = V₀ m c (Proc.devRef .tc main_v32_1)
    ∧ STEP^[n] (V₀ m c) (Proc.devRef .tc main_v32_2) = V₀ m c (Proc.devRef .tc main_v32_2)
    ∧ STEP^[n] (V₀ m c) (Proc.devRef .tc main_v32_3) = V₀ m c (Proc.devRef .tc main_v32_3) := by
  induction n with
  | zero => exact ⟨rfl, rfl, rfl⟩
  | succ n ih =>
    rw [Function.iterate_succ_apply', STEP_main_v32_1, STEP_main_v32_2, STEP_main_v32_3]
    exact ih

theorem counts (n : ℕ) : STEP^[n] (V₀ m c) (Proc.devRef .tc main_v32_5) = fun _ => Scf.iv 0#32 1#32 n :=
  (atK_agree m c n main_v32_5 (by decide)).symm.trans (atK_ctr m c n)

/-- The state after the first chunks. -/
theorem after_of (n : ℕ) (hn : n ≤ 128) (h : Fin 4) (e : Fin 128) (d : Fin 256) :
    STEP^[n] (V₀ m c) (Proc.devRef .tc main_v32_6) (ix4 0 h e d) = evolved (k m c) (v m c) (a m c) (wa m c) (ba m c) h e d n := by
  obtain ⟨e1, e2, e3, e6⟩ := entry m c
  induction n with
  | zero => exact (congrFun e6 _).trans Ideal.ofBits_zero_f32
  | succ n ih =>
    have hl : n < 128 := hn
    rw [Function.iterate_succ_apply', STEP_main_v32_6]
    refine (state_of _ ⟨n, hl⟩ (counts m c n) h e d).trans (Eq.trans ?_ (evolved_next _ _ _ _ _ h e d ⟨n, hl⟩).symm)
    rw [ih hl.le, (stays m c n).1, (stays m c n).2.1, (stays m c n).2.2]
    show carried _ (running fun s => entryContents preI m c (Proc.devRef .tc main_v32_3) _) (fun s => entryContents preI m c (Proc.devRef .tc main_v32_1) _)
      (fun s => entryContents preI m c (Proc.devRef .tc main_v32_2) _) _ = _
    rw [e1, e2, e3]
    unfold fades
    simp only [chunks_at, valueChunks_at, keys_at, values_at, gates_at, inputs_at]

theorem final_of (h : Fin 4) (e : Fin 128) (d : Fin 256) :
    out_main_v35 (STEP^[128] (V₀ m c)) (ix5 0 0 h e d) = evolved (k m c) (v m c) (a m c) (wa m c) (ba m c) h e d 128 := by
  refine Eq.trans ?_ (after_of m c 128 le_rfl h e d)
  unfold out_main_v35
  generalize STEP^[128] (V₀ m c) = X
  pointwise

end Cert.Proof.Gla.PromptReference
-- ==== Proof.GlaPromptClaim.lean ====
/- The prompt's linear attention: kernel and reference leave the same state. -/
module

public import proofs.«01_k».proof.Defs
public import proofs.«01_k».proof.Proof.GlaPromptBlocks
public import proofs.«01_k».proof.Proof.GlaPromptReference

@[expose] public section

noncomputable section

namespace Cert.Proof.Gla.Prompt

open Idealize.ShloMosaic Idealize.ShloMosaic.TcCoe Cert.Kernel8Ideal Cert.Kernel8Ideal.Gen Cert.Proof.Merge Cert.Proof.Gla.State

variable (m : (ℓ : Loc nD τ sig) → Buf (Elt Ideal) ℓ) (c : Dev nD)

/-- The kernel's running sums. -/
def total (A : Vec Ideal S64x128 .f32) (W : Vec Ideal S128x512 .f32) (B : Vec Ideal S1x512 .f32) : FVec Ideal S64x512 .f32 := sums A W B

theorem total_at (A : Vec Ideal S64x128 .f32) (W : Vec Ideal S128x512 .f32) (B : Vec Ideal S1x512 .f32) (s : Fin 64) (e : Fin 512) :
    total A W B (ix2 s e) = running (fun u => gate (∑ j : Fin 128, A (ix2 u j) * W (ix2 j e) + B (ix2 0 e))) s := sums_at A W B s e

/-- They are those of the arguments. -/
theorem total_eq (t : Fin cfg0.N) (s : Fin 64) (e : Fin 512) :
    total (blk3 m c t) (blk5 m c t) (blk6 m c t) (ix2 s e) = fades (a m c) (wa m c) (ba m c) (chunk t) e s := by
  have h (u : Fin 64) : ∑ j : Fin 128, blk3 m c t (ix2 u j) * blk5 m c t (ix2 j e) = ∑ r : Fin 16, a m c (ix3 0 (row (chunk t) u) r) * wa m c (ix3 0 r e) := by
    refine sum_padded (n := 16) (N := 128) (by omega) _ _ (fun r => ?_) (fun r hr => ?_)
    · rw [blk3_at, blk5_at, taller_at]
    · rw [blk5_at, taller_zero _ r e hr, mul_zero]
  rw [total_at]
  unfold fades
  simp only [h, blk6_at]

theorem start_at (t : Fin cfg0.N) (h : Fin 4) (e : Fin 128) (d : Fin 256) : k0_pay2 (blk8 m c t) (ix3 h e d) = (0 : EReal) := by
  refine Eq.trans ?_ (blk8_at m c t (ix4 0 h e d))
  generalize blk8 m c t = X
  unfold k0_pay2
  pointwise

/-- The state after the first `n` chunks, of the arguments. -/
def reached (n : ℕ) (h : Fin 4) (e : Fin 128) (d : Fin 256) : EReal := evolved (k m c) (v m c) (a m c) (wa m c) (ba m c) h e d n

theorem advance (t : Fin cfg0.N) (S : Vec Ideal S4x128x256 .f32) (h : Fin 4) (e : Fin 128) (d : Fin 256) (hS : S (ix3 h e d) = reached m c t.val h e d) :
    state 63 (total (blk3 m c t) (blk5 m c t) (blk6 m c t)) (blk1 m c t) (blk2 m c t) S (ix3 h e d) = reached m c (t.val + 1) h e d := by
  refine (state_at 63 _ _ _ _ h e d).trans (Eq.trans ?_ (evolved_next _ _ _ _ _ h e d (chunk t)).symm)
  rw [hS]
  simp only [total_eq, blk1_at, blk2_at]
  rfl

theorem first_of (t : Fin cfg0.N) (h0 : t.val % 128 = 0) (h1 : ¬t.val % 128 = 127) (y : S4x128x256.Idx) : kept m c t.val t.isLt y
    = state 63 (total (blk3 m c t) (blk5 m c t) (blk6 m c t)) (blk1 m c t) (blk2 m c t) (k0_pay2 (blk8 m c t)) y := by
  unfold total blk1 blk2 blk3 blk5 blk6 blk8
  exact kept_first m c t h0 h1 y

theorem later_of (t : Fin cfg0.N) (h0 : ¬t.val % 128 = 0) (y : S4x128x256.Idx) : kept m c t.val t.isLt y
    = state 63 (total (blk3 m c t) (blk5 m c t) (blk6 m c t)) (blk1 m c t) (blk2 m c t) (before m c t) y := by
  unfold total blk1 blk2 blk3 blk5 blk6
  by_cases h1 : t.val % 128 = 127
  · exact kept_last m c t h0 h1 y
  · exact kept_middle m c t h0 h1 y

/-- What the kernel carries from chunk to chunk. -/
theorem kept_at (n : ℕ) (hn : n < cfg0.N) (h : Fin 4) (e : Fin 128) (d : Fin 256) : kept m c n hn (ix3 h e d) = reached m c (n + 1) h e d := by
  have hN : n < 128 := hn
  induction n with
  | zero => exact (first_of m c ⟨0, hn⟩ rfl (by show ¬0 % 128 = 127; omega) _).trans (advance m c ⟨0, hn⟩ _ h e d (start_at m c _ h e d))
  | succ n ih =>
    exact (later_of m c ⟨n + 1, hn⟩ (by show ¬(n + 1) % 128 = 0; omega) _).trans (advance m c ⟨n + 1, hn⟩ _ h e d (ih (by omega) (by omega)))

theorem left10_at (t : Fin cfg0.N) (ht : t.val % 128 = 127) (h : Fin 4) (e : Fin 128) (d : Fin 256) : left10 m c t (ix4 0 h e d) = reached m c 128 h e d := by
  have hN : t.val < 128 := t.isLt
  refine (left10_eq m c t (by omega) ht _).trans ((kept_at m c t.val t.isLt h e d).trans ?_)
  exact congrArg (fun n => reached m c n h e d) (show t.val + 1 = 128 by omega)

/-- The states' array. -/
def states : Vec Ideal S1x4x128x256 .f32 := fun i => reached m c 128 (i 1) (i 2) (i 3)

theorem place10 (t : Fin cfg0.N) (h : Fin 4) (e : Fin 128) (d : Fin 256) : (((cfg0.win 10).blk t).view.emb (ix4 (0 : Fin 1) h e d) : S1x4x128x256.Idx) = ix4 0 h e d :=
  place4 (index t).2.2.2.2.2.2 0 h e d 0 rfl _ rfl rfl rfl rfl

theorem put10 (t : Fin cfg0.N) (ht : t.val % 128 = 127) (y : S1x4x128x256.Idx) : left10 m c t y = states m c (((cfg0.win 10).blk t).view.emb y) := by
  obtain ⟨u, h, e, d, rfl⟩ : ∃ (u : Fin 1) (h : Fin 4) (e : Fin 128) (d : Fin 256), y = ix4 u h e d := ⟨y 0, y 1, y 2, y 3, eq_ix4 y⟩
  obtain rfl : u = 0 := Fin.ext (by omega)
  rw [left10_at m c t ht h e d, place10 t h e d]
  rfl

theorem cover10 (i : S1x4x128x256.Idx) : ∃ (t : Fin cfg0.N) (y : S1x4x128x256.Idx), t.val % 128 = 127 ∧ (((cfg0.win 10).blk t).view.emb y : S1x4x128x256.Idx) = i := by
  obtain ⟨u, h, e, d, rfl⟩ : ∃ (u : Fin 1) (h : Fin 4) (e : Fin 128) (d : Fin 256), i = ix4 u h e d := ⟨i 0, i 1, i 2, i 3, eq_ix4 i⟩
  obtain rfl : u = 0 := Subsingleton.elim _ _
  exact ⟨(127 : Fin 128), ix4 (0 : Fin 1) h e d, rfl, place10 (127 : Fin 128) h e d⟩

theorem final10 : (dats m 0 c).arrAt 10 cfg0.N = states m c :=
  (dats m 0 c).arrAt_eq_of_emb 10 (states m c) (fun t ht y => (congrFun (after0_10 m c t) y).trans (put10 m c t ((flush0_10 t).mp ht) y)) (fun i =>
    have ⟨t, y, ht, h⟩ := cover10 i
    ⟨t, (flush0_10 t).mpr ht, Finset.mem_map.mpr ⟨y, Finset.mem_univ _, h⟩⟩)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- A window's array after the region. -/
theorem found (w : Fin 11) : Pipeline.withArrays spec0 c (V0 m c) (fun w => (dats m 0 c).arrAt w cfg0.N) (Pipeline.arrRef spec0 w) = (dats m 0 c).arrAt w cfg0.N :=
  Pipeline.withArrays_arr_shared spec0 c (V0 m c) _
    (fun w w' hne e => ((dats m 0 c).arrAt_in w (shared w w' hne e) _).trans (A_eq m c w)) w

/-- The result. -/
def expected : Vec Ideal S1x1x4x128x256 .f32 := fun i => reached m c 128 (i 2) (i 3) (i 4)

theorem last18 : Pipeline.afterTail₀ cfgs (dats m) 0 (V0 m) [hostOps1] c main_v18 = expected m c := by
  unfold Pipeline.afterTail₀
  rw [List.flatten_singleton]
  after_results_simp
  refine (congrArg (fun x => broadcastInDim S1x1x4x128x256 ![1, 2, 3, 4] bcast_S1x4x128x256_S1x1x4x128x256_1_2_3_4 x) ((found m c 10).trans (final10 m c))).trans (funext fun i => ?_)
  obtain ⟨u, b, h, e, d, rfl⟩ : ∃ (u b : Fin 1) (h : Fin 4) (e : Fin 128) (d : Fin 256), i = ix5 u b h e d := ⟨i 0, i 1, i 2, i 3, i 4, eq_ix5 i⟩
  refine Eq.trans (b := states m c (ix4 0 h e d)) ?_ rfl
  generalize states m c = X
  pointwise

/-- Both runs end with the same state. -/
theorem claim : Cert.algebraic_Kernel8Ideal_Reference8Ideal := by
  intro m g m' g' _ hargs
  refine ⟨fun c => expected m c,
    (θ_run _ _ _).mono (fun _ h c => ?_) (θ_run_and (run_main m g) (unchanged m g)),
    (θ_run _ _ _).mono (fun _ h c => ?_) (Cert.Reference8Ideal.Value.run m' g')⟩
  · exact ⟨((h.1 c).2 main_v18 (by decide)).trans (last18 m c), h.2 c⟩
  · obtain ⟨-, a1, a2, a3, -, a5, a6, -⟩ := hargs c
    refine ⟨(h c).1.trans (funext fun i => ?_), (h c).2⟩
    obtain ⟨u, b, h, e, d, rfl⟩ : ∃ (u b : Fin 1) (h : Fin 4) (e : Fin 128) (d : Fin 256), i = ix5 u b h e d := ⟨i 0, i 1, i 2, i 3, i 4, eq_ix5 i⟩
    obtain rfl : u = 0 := Subsingleton.elim _ _
    obtain rfl : b = 0 := Subsingleton.elim _ _
    refine (PromptReference.final_of m' c h e d).trans ?_
    show _ = reached m c 128 h e d
    unfold reached
    rw [show PromptReference.k m' c = k m c from a1, show PromptReference.v m' c = v m c from a2, show PromptReference.a m' c = a m c from a3, show PromptReference.wa m' c = wa m c from a5, show PromptReference.ba m' c = ba m c from a6]

end Cert.Proof.Gla.Prompt
-- ==== Proof.Modulation.lean ====
/- The modulation of both batches, a block of its columns at a point: the prompt's condition and the sample batch's
   stand in one array, one behind the other. -/
module

public import Idealize.ShloMosaic.Lib.Routing.OpsOne
public import proofs.«01_k».proof.Proof.Merge
public import proofs.«01_k».proof.Proof.Gen.Kernel9Ideal.Frame
public import proofs.«01_k».proof.Proof.Gen.Reference9Ideal.Read
public import proofs.«01_k».proof.Defs

@[expose] public section

noncomputable section

namespace Cert.Proof.Modulation

open Idealize.ShloMosaic Idealize.ShloMosaic.TcCoe Cert.Kernel9Ideal Cert.Kernel9Ideal.Gen Cert.Reference9Ideal.Read Cert.Proof.Merge

/-- An entry of the modulation of a condition. -/
def entry (x : Fin 2048 → EReal) (w : Fin 2048 → Fin 6144 → EReal) (b : Fin 6144 → EReal) (e : Fin 6144) : EReal := ∑ d, x d * w d e + b e

/-- What the body computes from its blocks. -/
theorem body_apply (x : Vec Ideal S40x2048 .f32) (w : Vec Ideal S2048x512 .f32) (b : Vec Ideal S1x512 .f32) (i : S40x512.Idx) :
    k0_pay1 x w b i = ∑ d : Fin 2048, x (ix2 (i 0) d) * w (ix2 d (i 1)) + b (ix2 0 (i 1)) := by
  unfold k0_pay1
  pointwise

variable (m : (ℓ : Loc nD τ sig) → Buf (Elt Ideal) ℓ) (c : Dev nD)

abbrev cp : Vec Ideal S1x2048 .f32 := m ((c.tc : Thread nD τ).loc main_arg0)
abbrev cs : Vec Ideal S32x2048 .f32 := m ((c.tc : Thread nD τ).loc main_arg1)
abbrev wm : Vec Ideal S1x2048x6144 .f32 := m ((c.tc : Thread nD τ).loc main_arg2)
abbrev bm : Vec Ideal S1x6144 .f32 := m ((c.tc : Thread nD τ).loc main_arg3)

/-- The prompt's condition in the first row of an array of zeros. -/
def first : Vec Ideal S40x2048 .f32 :=
  Host.scatter scatter_S40x2048_S1_S1x2048_01_n_0_0 (fun _ b => b) (broadcastInDim S40x2048 ![] bcast_S_S40x2048 (constant (F := Ideal) S_ .f32 0x00000000#32))
    (broadcastInDim S1 ![] bcast_S_S1 (constantI S_ 32 0#32)) (cp m c)

/-- The sample batch's in the rows behind it. -/
def conditions : Vec Ideal S40x2048 .f32 :=
  Host.scatter scatter_S40x2048_S1_S32x2048_01_n_0_0 (fun _ b => b) (first m c) (broadcastInDim S1 ![] bcast_S_S1 (constantI S_ 32 1#32)) (cs m c)

theorem first_lands (p : Fin 1) (e : Fin 2048) (r : Fin 40) (d : Fin 2048) (idx : IVec S1 32) (h : (idx (ix1 0)).toInt = 0) :
    scatter_S40x2048_S1_S1x2048_01_n_0_0.resultIdx? (ix2 p e) idx = some (ix2 r d) ↔ p.val = r.val ∧ e.val = d.val := by
  have hw (x : Fin 2) : scatter_S40x2048_S1_S1x2048_01_n_0_0.window (ix2 p e) x = (ix2 p e x).val := by
    match x with
    | ⟨0, _⟩ => rfl
    | ⟨1, _⟩ => rfl
  have h0 : scatter_S40x2048_S1_S1x2048_01_n_0_0.start (ix2 p e) idx 0 = 0 := by
    refine Eq.trans ?_ h
    refine congrArg (fun i => (idx i).toInt) (funext fun b => ?_)
    match b with
    | ⟨0, _⟩ => exact Subsingleton.elim (α := Fin 1) _ _
  have h1 : scatter_S40x2048_S1_S1x2048_01_n_0_0.start (ix2 p e) idx 1 = 0 := rfl
  refine (Routing.resultIdx?_ix2 (R := 40) (C := 2048) _ _ _ _ _).trans ?_
  rw [h0, h1, hw 0, hw 1]
  show (0 + (p.val : ℤ) = r.val ∧ 0 + (e.val : ℤ) = d.val) ↔ _
  omega

theorem lands (p : Fin 32) (e : Fin 2048) (r : Fin 40) (d : Fin 2048) (idx : IVec S1 32) (h : (idx (ix1 0)).toInt = 1) :
    scatter_S40x2048_S1_S32x2048_01_n_0_0.resultIdx? (ix2 p e) idx = some (ix2 r d) ↔ 1 + p.val = r.val ∧ e.val = d.val := by
  have hw (x : Fin 2) : scatter_S40x2048_S1_S32x2048_01_n_0_0.window (ix2 p e) x = (ix2 p e x).val := by
    match x with
    | ⟨0, _⟩ => rfl
    | ⟨1, _⟩ => rfl
  have h0 : scatter_S40x2048_S1_S32x2048_01_n_0_0.start (ix2 p e) idx 0 = 1 := by
    refine Eq.trans ?_ h
    refine congrArg (fun i => (idx i).toInt) (funext fun b => ?_)
    match b with
    | ⟨0, _⟩ => exact Subsingleton.elim (α := Fin 1) _ _
  have h1 : scatter_S40x2048_S1_S32x2048_01_n_0_0.start (ix2 p e) idx 1 = 0 := rfl
  refine (Routing.resultIdx?_ix2 (R := 40) (C := 2048) _ _ _ _ _).trans ?_
  rw [h0, h1, hw 0, hw 1]
  show (1 + (p.val : ℤ) = r.val ∧ 0 + (e.val : ℤ) = d.val) ↔ _
  omega

theorem first_at (d : Fin 2048) : first m c (ix2 0 d) = cp m c (ix2 0 d) := by
  unfold first
  refine Routing.scatter_set_hit _ _ _ _ _ _ (fun y hy => ?_) (ix2 0 d) ((first_lands 0 d 0 d _ rfl).2 ⟨rfl, rfl⟩)
  obtain ⟨p', d', rfl⟩ : ∃ p' d', y = ix2 p' d' := ⟨y 0, y 1, ValueIdx.eq_ix2 y⟩
  have e := (first_lands p' d' 0 d _ rfl).1 hy
  obtain rfl : p' = 0 := Fin.ext e.1
  obtain rfl : d' = d := Fin.ext e.2
  rfl

theorem prompt_at (d : Fin 2048) : conditions m c (ix2 0 d) = cp m c (ix2 0 d) := by
  unfold conditions
  refine (Routing.scatter_set_miss _ _ _ _ _ (fun y hy => ?_)).trans (first_at m c d)
  obtain ⟨p', d', rfl⟩ : ∃ p' d', y = ix2 p' d' := ⟨y 0, y 1, ValueIdx.eq_ix2 y⟩
  have e := ((lands p' d' 0 d _ rfl).1 hy).1
  have h : 1 + p'.val = 0 := e
  omega

theorem sample_at (p : Fin 32) (d : Fin 2048) : conditions m c (ix2 ⟨1 + p.val, by omega⟩ d) = cs m c (ix2 p d) := by
  unfold conditions
  refine Routing.scatter_set_hit _ _ _ _ _ _ (fun y hy => ?_) (ix2 p d) ((lands p d _ d _ rfl).2 ⟨rfl, rfl⟩)
  obtain ⟨p', d', rfl⟩ : ∃ p' d', y = ix2 p' d' := ⟨y 0, y 1, ValueIdx.eq_ix2 y⟩
  have e := (lands p' d' _ d _ rfl).1 hy
  obtain rfl : p' = p := Fin.ext (Nat.add_left_cancel e.1)
  obtain rfl : d' = d := Fin.ext e.2
  rfl

/-- The arrays the region reads, of the arguments. -/
theorem arrays : V m c main_v4 = conditions m c
    ∧ V m c main_v5 = shapeCast S2048x6144 (wm m c) shapeCasts_S1x2048x6144_S2048x6144
    ∧ V m c main_v7 = shapeCast S1x6144 (shapeCast S6144 (bm m c) shapeCasts_S1x6144_S6144) shapeCasts_S6144_S1x6144 := by
  unfold V V0 hostOps0
  refine ⟨?_, ?_, ?_⟩ <;> (try rw [List.flatten_singleton]) <;> after_results_simp <;> rfl

/-- A point's block of columns, in the weights, the bias and the result. -/
theorem index : ∀ t : Fin grid0.N, cc0_transform_1 (grid0.coords t) = ![0, t.val] ∧ cc0_transform_2 (grid0.coords t) = ![0, t.val]
    ∧ cc0_transform_3 (grid0.coords t) = ![0, t.val] := by
  decide +kernel

/-- The array's column that a column of a point's block is. -/
def colOf (t : Fin cfg0.N) (y : Fin 512) : Fin 6144 :=
  ⟨512 * t.val + y.val, by have h : t.val < 12 := lt_of_lt_of_eq t.isLt N_0; omega⟩

theorem col {T : Fin 2 → ℕ} (t : Fin cfg0.N) (h : T = ![0, t.val]) (a y : ℕ) (z : Fin 512) : T 0 * a + 1 * y = y ∧ T 1 * 512 + 1 * z.val = (colOf t z).val :=
  ⟨(place h a 512 y z.val).1.trans (by omega), (place h a 512 y z.val).2.trans (by show t.val * 512 + z.val = 512 * t.val + z.val; omega)⟩

def blk0 (t : Fin cfg0.N) : Vec Ideal S40x2048 .f32 := iblk m c 0 t
def blk1 (t : Fin cfg0.N) : Vec Ideal S2048x512 .f32 := iblk m c 1 t
def blk2 (t : Fin cfg0.N) : Vec Ideal S1x512 .f32 := iblk m c 2 t

/-- What a point leaves in the result block. -/
def left (t : Fin cfg0.N) : Vec Ideal S40x512 .f32 := out0_3 (iblk m c 0 t) (iblk m c 1 t) (iblk m c 2 t)

theorem left_eq (t : Fin cfg0.N) : left m c t = k0_pay1 (blk0 m c t) (blk1 m c t) (blk2 m c t) := by
  unfold left out0_3
  frame_out
  rfl

theorem blk0_at (t : Fin cfg0.N) (r : Fin 40) (d : Fin 2048) : blk0 m c t (ix2 r d) = conditions m c (ix2 r d) :=
  have h := place (T := cc0_transform_0 (grid0.coords t)) rfl 40 2048 r.val d.val
  (read_at (V m c main_v4) _ (ix2 r d) (h.1.trans (by show 0 * 40 + r.val = r.val; omega)) (h.2.trans (by show 0 * 2048 + d.val = d.val; omega))).trans (congrFun (arrays m c).1 _)

theorem blk1_at (t : Fin cfg0.N) (d : Fin 2048) (e : Fin 512) : blk1 m c t (ix2 d e) = wm m c (ix3 0 d (colOf t e)) :=
  have h := col t (index t).1 2048 d.val e
  (read_at (V m c main_v5) _ (ix2 d (colOf t e)) h.1 h.2).trans (by rw [(arrays m c).2.1]; pointwise)

theorem blk2_at (t : Fin cfg0.N) (e : Fin 512) : blk2 m c t (ix2 0 e) = bm m c (ix2 0 (colOf t e)) :=
  have h := col t (index t).2.1 1 (0 : Fin 1).val e
  (read_at (V m c main_v7) _ (ix2 0 (colOf t e)) h.1 h.2).trans (by rw [(arrays m c).2.2]; pointwise)

/-- The result array: the modulation of each row of conditions. -/
def result : Vec Ideal S40x6144 .f32 := fun i =>
  entry (fun d => conditions m c (ix2 (i 0) d)) (fun d e => wm m c (ix3 0 d e)) (fun e => bm m c (ix2 0 e)) (i 1)

theorem left_apply (t : Fin cfg0.N) (y : S40x512.Idx) : left m c t y = result m c (ix2 (y 0) (colOf t (y 1))) := by
  rw [left_eq, body_apply]
  simp only [blk0_at m c t (y 0), fun d => blk1_at m c t d (y 1), blk2_at m c t (y 1)]
  rfl

/-- The result array after the run. -/
theorem final : (dats m 0 c).arrAt 3 cfg0.N = result m c := by
  refine (dats m 0 c).arrAt_eq_of_emb 3 (result m c) (fun t _ y => ?_) (fun i => ?_)
  · have h := col t (index t).2.2 40 (y 0).val (y 1)
    refine (congrFun (after0_3 m c t) y).trans ((left_apply m c t y).trans ?_)
    exact (read_at (result m c) (((cfg0.win 3).blk t).view.emb y : S40x6144.Idx) (ix2 (y 0) (colOf t (y 1))) h.1 h.2).symm
  · change S40x6144.Idx at i
    have h1 : (i 1).val < 6144 := (i 1).isLt
    have hN : cfg0.N = 12 := N_0
    let t : Fin cfg0.N := ⟨(i 1).val / 512, by omega⟩
    have h := col t (index t).2.2 40 (i 0).val ⟨(i 1).val % 512, by omega⟩
    refine ⟨t, flush0_3 .., Finset.mem_map.mpr ⟨(ix2 (i 0) ⟨(i 1).val % 512, by omega⟩ : S40x512.Idx), Finset.mem_univ _, ?_⟩⟩
    refine funext fun a => Fin.ext ?_
    match a with
    | ⟨0, _⟩ => exact h.1
    | ⟨1, _⟩ => exact h.2.trans (by show 512 * ((i 1).val / 512) + (i 1).val % 512 = (i 1).val; omega)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

theorem found : Pipeline.withArrays spec0 c (V0 m c) (fun w => (dats m 0 c).arrAt w cfg0.N) (Proc.devRef .tc main_v8) = result m c :=
  (Pipeline.withArrays_arr_shared spec0 c (V0 m c) _
    (fun w w' hne e => ((dats m 0 c).arrAt_in w (shared w w' hne e) _).trans (A_eq m c w)) 3).trans (final m c)

/-- The reference's results, of the kernel's arguments. -/
abbrev expected0 : Vec Ideal S1x6144 .f32 := val_main_v4 (F := Ideal) (cp m c) (wm m c) (bm m c)
abbrev expected1 : Vec Ideal S32x6144 .f32 := val_main_v10 (F := Ideal) (cs m c) (wm m c) (bm m c)

theorem prompt_eq (e : Fin 6144) : result m c (ix2 0 e) = expected0 m c (ix2 0 e) := by
  unfold result entry
  simp only [show ∀ d : Fin 2048, conditions m c (ix2 (ix2 (0 : Fin 40) e 0) d) = cp m c (ix2 0 d) from prompt_at m c]
  unfold expected0 val_main_v4 val_main_v3 val_main_v2 val_main_v1 val_main_v0
  pointwise

theorem sample_eq (p : Fin 32) (e : Fin 6144) : result m c (ix2 ⟨1 + p.val, by omega⟩ e) = expected1 m c (ix2 p e) := by
  unfold result entry
  simp only [show ∀ d : Fin 2048, conditions m c (ix2 (ix2 (⟨1 + p.val, by omega⟩ : Fin 40) e 0) d) = cs m c (ix2 p d) from sample_at m c p]
  unfold expected1 val_main_v10 val_main_v9 val_main_v8 val_main_v7 val_main_v6 val_main_v5
  pointwise

theorem last9 : Pipeline.afterTail₀ cfgs (dats m) 0 (V0 m) [hostOps1] c main_v9 = expected0 m c := by
  unfold Pipeline.afterTail₀
  rw [List.flatten_singleton]
  after_results_simp
  refine (congrArg (fun x => extractStridedSlice S1x6144 ![0, 0] x slices_S40x6144_S1x6144_0_0) (found m c)).trans (funext fun i => ?_)
  obtain ⟨u, e, rfl⟩ : ∃ (u : Fin 1) (e : Fin 6144), i = ix2 u e := ⟨i 0, i 1, ValueIdx.eq_ix2 i⟩
  obtain rfl : u = 0 := Subsingleton.elim _ _
  refine Eq.trans ?_ (prompt_eq m c e)
  generalize result m c = X
  pointwise

theorem last10 : Pipeline.afterTail₀ cfgs (dats m) 0 (V0 m) [hostOps1] c main_v10 = expected1 m c := by
  unfold Pipeline.afterTail₀
  rw [List.flatten_singleton]
  after_results_simp
  refine (congrArg (fun x => extractStridedSlice S32x6144 ![1, 0] x slices_S40x6144_S32x6144_1_0) (found m c)).trans (funext fun i => ?_)
  obtain ⟨p, e, rfl⟩ : ∃ (p : Fin 32) (e : Fin 6144), i = ix2 p e := ⟨i 0, i 1, ValueIdx.eq_ix2 i⟩
  refine Eq.trans ?_ (sample_eq m c p e)
  generalize result m c = X
  pointwise

/-- Both runs end with the same arrays. -/
theorem claim : Cert.algebraic_Kernel9Ideal_Reference9Ideal := by
  intro m g m' g' _ hargs
  refine ⟨fun c => expected0 m c, fun c => expected1 m c,
    (θ_run _ _ _).mono (fun _ h c => ?_) (θ_run_and (run_main m g) (unchanged m g)),
    (θ_run _ _ _).mono (fun _ h c => ?_) (Cert.Reference9Ideal.Value.run m' g')⟩
  · exact ⟨((h.1 c).2 main_v9 (by decide)).trans (last9 m c), ((h.1 c).2 main_v10 (by decide)).trans (last10 m c), h.2 c⟩
  · obtain ⟨a0, a1, a2, a3⟩ := hargs c
    exact ⟨(h c).1.trans ((val_main_v4_eq _ _ _).trans (by rw [a0, a2, a3])), (h c).2.1.trans ((val_main_v10_eq _ _ _).trans (by rw [a1, a2, a3])), (h c).2.2⟩

end Cert.Proof.Modulation
-- ==== Proof.Norm.lean ====
/- A row of the layer's input, normed by its mean square and modulated. -/
module

public import Idealize.ShloMosaic.Lib.Pointwise

@[expose] public section

noncomputable section

namespace Cert.Proof.Norm

open Idealize.ShloMosaic

/-- The row, normed, weighted, scaled and shifted. -/
def modulated (x w scale shift : Fin 2048 → EReal) (e : Fin 2048) : EReal :=
  x e * Ideal.rsqrt (Ideal.div (∑ d, x d * x d) (Ideal.ofBits FTy.f32 0x45000000#32) + Ideal.ofBits FTy.f32 0x358637BD#32) * w e
    * (Ideal.ofBits FTy.f32 0x3F800000#32 + scale e) + shift e

/-- The columns of the modulation that shift, and those that scale. -/
abbrev shifts (e : Fin 2048) : Fin 6144 := ⟨e.val, by omega⟩
abbrev scales (e : Fin 2048) : Fin 6144 := ⟨2048 + e.val, by omega⟩

end Cert.Proof.Norm
-- ==== Proof.NormPrompt.lean ====
/- The norm of the prompt, a block of its rows at a point. -/
module

public import proofs.«01_k».proof.Proof.Merge
public import proofs.«01_k».proof.Proof.Norm
public import proofs.«01_k».proof.Proof.Gen.Kernel10Ideal.Frame
public import proofs.«01_k».proof.Proof.Gen.Reference10Ideal.Read
public import proofs.«01_k».proof.Defs

@[expose] public section

noncomputable section

namespace Cert.Proof.Norm.Prompt

open Idealize.ShloMosaic Idealize.ShloMosaic.TcCoe Cert.Kernel10Ideal Cert.Kernel10Ideal.Gen Cert.Reference10Ideal.Read Cert.Proof.Merge

/-- What the body computes from its blocks, at a row. -/
theorem body_apply (x : Vec Ideal S512x2048 .f32) (w : Vec Ideal S1x2048 .f32) (scale shift : Vec Ideal S1x2048 .f32) (i : S512x2048.Idx) :
    k0_pay1 x w scale shift i = modulated (fun e => x (ix2 (i 0) e)) (fun e => w (ix2 0 e)) (fun e => scale (ix2 0 e)) (fun e => shift (ix2 0 e)) (i 1) := by
  unfold k0_pay1 modulated
  pointwise

variable (m : (ℓ : Loc nD τ sig) → Buf (Elt Ideal) ℓ) (c : Dev nD)

abbrev xs : Vec Ideal S1x8192x2048 .f32 := m ((c.tc : Thread nD τ).loc main_arg0)
abbrev mods : Vec Ideal S1x6144 .f32 := m ((c.tc : Thread nD τ).loc main_arg1)
abbrev nw : Vec Ideal S1x2048 .f32 := m ((c.tc : Thread nD τ).loc main_arg2)

/-- A point's block of rows, in the input and in the result; the other windows are whole arrays. -/
theorem index : ∀ t : Fin grid0.N, cc0_transform_0 (grid0.coords t) = ![t.val, 0] ∧ cc0_transform_4 (grid0.coords t) = ![t.val, 0] := by
  decide +kernel

theorem corner {T : Fin 2 → ℕ} (h : T = ![0, 0]) (a b y z : ℕ) : T 0 * a + 1 * y = y ∧ T 1 * b + 1 * z = z :=
  ⟨(place h a b y z).1.trans (by omega), (place h a b y z).2.trans (by omega)⟩

/-- The arrays the region reads, of the arguments. -/
theorem arrays : V m c main_v2 = shapeCast S8192x2048 (xs m c) shapeCasts_S1x8192x2048_S8192x2048
    ∧ V m c main_v1 = extractStridedSlice S1x2048 ![0, 2048] (mods m c) slices_S1x6144_S1x2048_0_2048
    ∧ V m c main_v0 = extractStridedSlice S1x2048 ![0, 0] (mods m c) slices_S1x6144_S1x2048_0_0
    ∧ V m c main_v4 = shapeCast S1x2048 (shapeCast S2048 (nw m c) shapeCasts_S1x2048_S2048) shapeCasts_S2048_S1x2048 := by
  unfold V V0 hostOps0
  refine ⟨?_, ?_, ?_, ?_⟩ <;> after_results_simp <;> rfl

def blk0 (t : Fin cfg0.N) : Vec Ideal S512x2048 .f32 := iblk m c 0 t
def blk1 (t : Fin cfg0.N) : Vec Ideal S1x2048 .f32 := iblk m c 1 t
def blk2 (t : Fin cfg0.N) : Vec Ideal S1x2048 .f32 := iblk m c 2 t
def blk3 (t : Fin cfg0.N) : Vec Ideal S1x2048 .f32 := iblk m c 3 t

/-- What a point leaves in the result block. -/
def left (t : Fin cfg0.N) : Vec Ideal S512x2048 .bf16 := out0_4 (iblk m c 0 t) (iblk m c 1 t) (iblk m c 2 t) (iblk m c 3 t)

theorem left_eq (t : Fin cfg0.N) : left m c t = k0_pay1 (blk0 m c t) (blk3 m c t) (blk1 m c t) (blk2 m c t) := by
  unfold left out0_4
  frame_out
  rfl

/-- The array's row that a row of a point's block is. -/
def rowOf (t : Fin cfg0.N) (y : Fin 512) : Fin 8192 :=
  ⟨512 * t.val + y.val, by have h : t.val < 16 := lt_of_lt_of_eq t.isLt N_0; omega⟩

theorem blk0_at (t : Fin cfg0.N) (y : Fin 512) (e : Fin 2048) : blk0 m c t (ix2 y e) = xs m c (ix3 0 (rowOf t y) e) :=
  have h := place (index t).1 512 2048 y.val e.val
  (read_at (V m c main_v2) _ (ix2 (rowOf t y) e) (h.1.trans (by show t.val * 512 + y.val = 512 * t.val + y.val; omega)) (h.2.trans (by show 0 * 2048 + e.val = e.val; omega))).trans
    (by rw [(arrays m c).1]; pointwise)

theorem blk1_at (t : Fin cfg0.N) (e : Fin 2048) : blk1 m c t (ix2 0 e) = mods m c (ix2 0 (scales e)) :=
  have h := corner (T := cc0_transform_1 (grid0.coords t)) rfl 1 2048 (0 : Fin 1).val e.val
  (read_at (V m c main_v1) _ (ix2 0 e) h.1 h.2).trans (by rw [(arrays m c).2.1]; pointwise)

theorem blk2_at (t : Fin cfg0.N) (e : Fin 2048) : blk2 m c t (ix2 0 e) = mods m c (ix2 0 (shifts e)) :=
  have h := corner (T := cc0_transform_2 (grid0.coords t)) rfl 1 2048 (0 : Fin 1).val e.val
  (read_at (V m c main_v0) _ (ix2 0 e) h.1 h.2).trans (by rw [(arrays m c).2.2.1]; pointwise)

theorem blk3_at (t : Fin cfg0.N) (e : Fin 2048) : blk3 m c t (ix2 0 e) = nw m c (ix2 0 e) :=
  have h := corner (T := cc0_transform_3 (grid0.coords t)) rfl 1 2048 (0 : Fin 1).val e.val
  (read_at (V m c main_v4) _ (ix2 0 e) h.1 h.2).trans (by rw [(arrays m c).2.2.2]; pointwise)

/-- A row of the result, of the arguments. -/
def row (r : Fin 8192) (e : Fin 2048) : EReal :=
  modulated (fun e => xs m c (ix3 0 r e)) (fun e => nw m c (ix2 0 e)) (fun e => mods m c (ix2 0 (scales e))) (fun e => mods m c (ix2 0 (shifts e))) e

theorem left_apply (t : Fin cfg0.N) (y : S512x2048.Idx) : left m c t y = row m c (rowOf t (y 0)) (y 1) := by
  rw [left_eq, body_apply]
  simp only [blk0_at m c t (y 0), blk1_at, blk2_at, blk3_at]
  rfl

/-- The result array before its rows are returned. -/
def result : Vec Ideal S8192x2048 .bf16 := fun i => row m c (i 0) (i 1)

/-- The result array after the run. -/
theorem final : (dats m 0 c).arrAt 4 cfg0.N = result m c := by
  refine (dats m 0 c).arrAt_eq_of_emb 4 (result m c) (fun t _ y => ?_) (fun i => ?_)
  · have h := place (index t).2 512 2048 (y 0).val (y 1).val
    refine (congrFun (after0_4 m c t) y).trans ((left_apply m c t y).trans ?_)
    exact (read_at (result m c) (((cfg0.win 4).blk t).view.emb y : S8192x2048.Idx) (ix2 (rowOf t (y 0)) (y 1))
      (h.1.trans (by show t.val * 512 + (y 0).val = 512 * t.val + (y 0).val; omega)) (h.2.trans (Nat.zero_add _))).symm
  · change S8192x2048.Idx at i
    have h0 : (i 0).val < 8192 := (i 0).isLt
    have hN : cfg0.N = 16 := N_0
    let t : Fin cfg0.N := ⟨(i 0).val / 512, by omega⟩
    have h := place (index t).2 512 2048 ((i 0).val % 512) (i 1).val
    refine ⟨t, flush0_4 .., Finset.mem_map.mpr ⟨(ix2 ⟨(i 0).val % 512, by omega⟩ (i 1) : S512x2048.Idx), Finset.mem_univ _, ?_⟩⟩
    refine funext fun a => Fin.ext ?_
    match a with
    | ⟨0, _⟩ => exact h.1.trans (by show (i 0).val / 512 * 512 + (i 0).val % 512 = (i 0).val; omega)
    | ⟨1, _⟩ => exact h.2.trans (Nat.zero_add _)

/-- The result as it is returned. -/
def returned : Vec Ideal S1x8192x2048 .f32 := fun i => row m c (i 1) (i 2)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- The result's buffer after the lines that follow the region. -/
theorem last : Pipeline.afterTail₀ cfgs (dats m) 0 (V0 m) [hostOps1] c main_v7 = returned m c := by
  have found : Pipeline.withArrays spec0 c (V0 m c) (fun w => (dats m 0 c).arrAt w cfg0.N) (Proc.devRef .tc main_v5) = result m c :=
    (Pipeline.withArrays_arr_shared spec0 c (V0 m c) _
      (fun w w' hne e => ((dats m 0 c).arrAt_in w (shared w w' hne e) _).trans (A_eq m c w)) 4).trans (final m c)
  unfold Pipeline.afterTail₀
  rw [List.flatten_singleton]
  after_results_simp
  refine (congrArg (fun x => shapeCast S1x8192x2048 (extf (F := Ideal) (φ := .bf16) .f32 x bitsLt_bf16_f32) shapeCasts_S8192x2048_S1x8192x2048) found).trans (funext fun i => ?_)
  obtain ⟨b, r, e, rfl⟩ : ∃ (b : Fin 1) (r : Fin 8192) (e : Fin 2048), i = ix3 b r e := ⟨i 0, i 1, i 2, ValueIdx.eq_ix3 i⟩
  refine Eq.trans (b := result m c (ix2 r e)) ?_ rfl
  generalize result m c = X
  pointwise

/-- The reference's result, of the kernel's arguments. -/
abbrev expected : Vec Ideal S1x8192x2048 .f32 := val_main_v24 (F := Ideal) (xs m c) (mods m c) (nw m c)

theorem expected_eq : returned m c = expected m c := by
  funext i
  rw [one_batch i]
  unfold returned row modulated expected val_main_v24 val_main_v23 val_main_v22 val_main_v21 val_main_v20 val_main_v19 val_main_v18 val_main_cst_2 val_main_v17 val_main_v16
    val_main_v15 val_main_v14 val_main_v13 val_main_v12 val_main_v11 val_main_v10 val_main_v9 val_main_cst_1 val_main_v8 val_main_v7 val_main_cst_0
    val_main_v6 val_main_v5 val_main_cst val_main_v4 val_main_v3 val_main_v1 val_main_v0
  pointwise

/-- Both runs end with the same array. -/
theorem claim : Cert.algebraic_Kernel10Ideal_Reference10Ideal := by
  intro m g m' g' _ hargs
  refine ⟨fun c => expected m c,
    (θ_run _ _ _).mono (fun _ h c => ?_) (θ_run_and (run_main m g) (unchanged m g)),
    (θ_run _ _ _).mono (fun _ h c => ?_) (Cert.Reference10Ideal.Value.run m' g')⟩
  · exact ⟨((h.1 c).2 main_v7 (by decide)).trans ((last m c).trans (expected_eq m c)), h.2 c⟩
  · obtain ⟨a0, a1, a2⟩ := hargs c
    exact ⟨(h c).1.trans ((val_main_v24_eq _ _ _).trans (by rw [a0, a1, a2])), (h c).2⟩

end Cert.Proof.Norm.Prompt
-- ==== Proof.NormSample.lean ====
/- The norm of the sample batch, in one point. -/
module

public import proofs.«01_k».proof.Proof.Merge
public import proofs.«01_k».proof.Proof.Norm
public import proofs.«01_k».proof.Proof.Gen.Kernel11Ideal.Frame
public import proofs.«01_k».proof.Proof.Gen.Reference11Ideal.Read
public import proofs.«01_k».proof.Defs

@[expose] public section

noncomputable section

namespace Cert.Proof.Norm.Sample

open Idealize.ShloMosaic Idealize.ShloMosaic.TcCoe Cert.Kernel11Ideal Cert.Kernel11Ideal.Gen Cert.Reference11Ideal.Read Cert.Proof.Merge

/-- What the body computes from its blocks, at a row. -/
theorem body_apply (x : Vec Ideal S256x2048 .f32) (w : Vec Ideal S1x2048 .f32) (scale shift : Vec Ideal S256x2048 .f32) (i : S256x2048.Idx) :
    k0_pay1 x w scale shift i = modulated (fun e => x (ix2 (i 0) e)) (fun e => w (ix2 0 e)) (fun e => scale (ix2 (i 0) e)) (fun e => shift (ix2 (i 0) e)) (i 1) := by
  unfold k0_pay1 modulated
  pointwise

variable (m : (ℓ : Loc nD τ sig) → Buf (Elt Ideal) ℓ) (c : Dev nD)

abbrev xs : Vec Ideal S32x8x2048 .f32 := m ((c.tc : Thread nD τ).loc main_arg0)
abbrev mods : Vec Ideal S32x6144 .f32 := m ((c.tc : Thread nD τ).loc main_arg1)
abbrev nw : Vec Ideal S1x2048 .f32 := m ((c.tc : Thread nD τ).loc main_arg2)

theorem corner {T : Fin 2 → ℕ} (h : T = ![0, 0]) (a b y z : ℕ) : T 0 * a + 1 * y = y ∧ T 1 * b + 1 * z = z :=
  ⟨(place h a b y z).1.trans (by omega), (place h a b y z).2.trans (by omega)⟩

/-- Every window's block begins at the array's corner. -/
theorem index : ∀ t : Fin grid0.N, cc0_transform_0 (grid0.coords t) = ![0, 0] ∧ cc0_transform_1 (grid0.coords t) = ![0, 0]
    ∧ cc0_transform_2 (grid0.coords t) = ![0, 0] ∧ cc0_transform_4 (grid0.coords t) = ![0, 0] := by
  decide +kernel

/-- The arrays the region reads, of the arguments. -/
theorem arrays : V m c main_v6 = shapeCast S256x2048 (xs m c) shapeCasts_S32x8x2048_S256x2048
    ∧ V m c main_v5 = shapeCast S256x2048 (broadcastInDim S32x8x2048 ![0, 2] bcast_S32x2048_S32x8x2048_0_2
        (extractStridedSlice S32x2048 ![0, 2048] (mods m c) slices_S32x6144_S32x2048_0_2048)) shapeCasts_S32x8x2048_S256x2048
    ∧ V m c main_v3 = shapeCast S256x2048 (broadcastInDim S32x8x2048 ![0, 2] bcast_S32x2048_S32x8x2048_0_2
        (extractStridedSlice S32x2048 ![0, 0] (mods m c) slices_S32x6144_S32x2048_0_0)) shapeCasts_S32x8x2048_S256x2048
    ∧ V m c main_v8 = shapeCast S1x2048 (shapeCast S2048 (nw m c) shapeCasts_S1x2048_S2048) shapeCasts_S2048_S1x2048 := by
  unfold V V0 hostOps0
  refine ⟨?_, ?_, ?_, ?_⟩ <;> after_results_simp <;> rfl

/-- The request and the token of a row. -/
abbrev request (r : Fin 256) : Fin 32 := ⟨r.val / 8, by omega⟩
abbrev token (r : Fin 256) : Fin 8 := ⟨r.val % 8, by omega⟩

def blk0 (t : Fin cfg0.N) : Vec Ideal S256x2048 .f32 := iblk m c 0 t
def blk1 (t : Fin cfg0.N) : Vec Ideal S256x2048 .f32 := iblk m c 1 t
def blk2 (t : Fin cfg0.N) : Vec Ideal S256x2048 .f32 := iblk m c 2 t
def blk3 (t : Fin cfg0.N) : Vec Ideal S1x2048 .f32 := iblk m c 3 t

/-- What the point leaves in the result block. -/
def left (t : Fin cfg0.N) : Vec Ideal S256x2048 .bf16 := out0_4 (iblk m c 0 t) (iblk m c 1 t) (iblk m c 2 t) (iblk m c 3 t)

theorem left_eq (t : Fin cfg0.N) : left m c t = k0_pay1 (blk0 m c t) (blk3 m c t) (blk1 m c t) (blk2 m c t) := by
  unfold left out0_4
  frame_out
  rfl

theorem blk0_at (t : Fin cfg0.N) (y : Fin 256) (e : Fin 2048) : blk0 m c t (ix2 y e) = xs m c (ix3 (request y) (token y) e) :=
  have h := corner (index t).1 256 2048 y.val e.val
  (read_at (V m c main_v6) _ (ix2 y e) h.1 h.2).trans (by rw [(arrays m c).1]; pointwise)

theorem blk1_at (t : Fin cfg0.N) (y : Fin 256) (e : Fin 2048) : blk1 m c t (ix2 y e) = mods m c (ix2 (request y) (scales e)) :=
  have h := corner (index t).2.1 256 2048 y.val e.val
  (read_at (V m c main_v5) _ (ix2 y e) h.1 h.2).trans (by rw [(arrays m c).2.1]; pointwise)

theorem blk2_at (t : Fin cfg0.N) (y : Fin 256) (e : Fin 2048) : blk2 m c t (ix2 y e) = mods m c (ix2 (request y) (shifts e)) :=
  have h := corner (index t).2.2.1 256 2048 y.val e.val
  (read_at (V m c main_v3) _ (ix2 y e) h.1 h.2).trans (by rw [(arrays m c).2.2.1]; pointwise)

theorem blk3_at (t : Fin cfg0.N) (e : Fin 2048) : blk3 m c t (ix2 0 e) = nw m c (ix2 0 e) :=
  have h := corner (T := cc0_transform_3 (grid0.coords t)) rfl 1 2048 (0 : Fin 1).val e.val
  (read_at (V m c main_v8) _ (ix2 0 e) h.1 h.2).trans (by rw [(arrays m c).2.2.2]; pointwise)

/-- A row of the result, of the arguments. -/
def row (b : Fin 32) (t : Fin 8) (e : Fin 2048) : EReal :=
  modulated (fun e => xs m c (ix3 b t e)) (fun e => nw m c (ix2 0 e)) (fun e => mods m c (ix2 b (scales e))) (fun e => mods m c (ix2 b (shifts e))) e

/-- The result array before its rows are split by request. -/
def result : Vec Ideal S256x2048 .bf16 := fun i => row m c (request (i 0)) (token (i 0)) (i 1)

theorem left_apply (t : Fin cfg0.N) (y : S256x2048.Idx) : left m c t y = result m c y := by
  rw [left_eq, body_apply]
  simp only [blk0_at m c t (y 0), blk1_at m c t (y 0), blk2_at m c t (y 0), blk3_at]
  rfl

/-- The result array after the run. -/
theorem final : (dats m 0 c).arrAt 4 cfg0.N = result m c := by
  have placed (t : Fin cfg0.N) (y : S256x2048.Idx) : (((cfg0.win 4).blk t).view.emb y : S256x2048.Idx) = y := by
    have h := corner (index t).2.2.2 256 2048 (y 0).val (y 1).val
    refine funext fun a => Fin.ext ?_
    match a with
    | ⟨0, _⟩ => exact h.1
    | ⟨1, _⟩ => exact h.2
  refine (dats m 0 c).arrAt_eq_of_emb 4 (result m c) (fun t _ y => ?_) (fun i => ?_)
  · exact (congrFun (after0_4 m c t) y).trans ((left_apply m c t y).trans (congrArg (result m c) (placed t y).symm))
  · exact ⟨t0_0, flush0_4 .., Finset.mem_map.mpr ⟨i, Finset.mem_univ _, placed t0_0 i⟩⟩

/-- The result as it is returned. -/
def returned : Vec Ideal S32x8x2048 .f32 := fun i => row m c (i 0) (i 1) (i 2)

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- The result's buffer after the lines that follow the region. -/
theorem last : Pipeline.afterTail₀ cfgs (dats m) 0 (V0 m) [hostOps1] c main_v11 = returned m c := by
  have found : Pipeline.withArrays spec0 c (V0 m c) (fun w => (dats m 0 c).arrAt w cfg0.N) (Proc.devRef .tc main_v9) = result m c :=
    (Pipeline.withArrays_arr_shared spec0 c (V0 m c) _
      (fun w w' hne e => ((dats m 0 c).arrAt_in w (shared w w' hne e) _).trans (A_eq m c w)) 4).trans (final m c)
  unfold Pipeline.afterTail₀
  rw [List.flatten_singleton]
  after_results_simp
  refine (congrArg (fun x => shapeCast S32x8x2048 (extf (F := Ideal) (φ := .bf16) .f32 x bitsLt_bf16_f32) shapeCasts_S256x2048_S32x8x2048) found).trans (funext fun i => ?_)
  obtain ⟨b, t, e, rfl⟩ : ∃ (b : Fin 32) (t : Fin 8) (e : Fin 2048), i = ix3 b t e := ⟨i 0, i 1, i 2, ValueIdx.eq_ix3 i⟩
  refine Eq.trans (b := result m c (ix2 ⟨b.val * 8 + t.val, by omega⟩ e)) ?_ ?_
  · generalize result m c = X
    pointwise
  · exact congrArg₂ (fun b t => row m c b t e) (Fin.ext (show (b.val * 8 + t.val) / 8 = b.val by omega)) (Fin.ext (show (b.val * 8 + t.val) % 8 = t.val by omega))

/-- The reference's result, of the kernel's arguments. -/
abbrev expected : Vec Ideal S32x8x2048 .f32 := val_main_v24 (F := Ideal) (xs m c) (mods m c) (nw m c)

theorem expected_eq : returned m c = expected m c := by
  funext i
  rw [ValueIdx.eq_ix3 i]
  unfold returned row modulated expected val_main_v24 val_main_v23 val_main_v22 val_main_v21 val_main_v20 val_main_v19 val_main_v18 val_main_cst_2 val_main_v17 val_main_v16
    val_main_v15 val_main_v14 val_main_v13 val_main_v12 val_main_v11 val_main_v10 val_main_v9 val_main_cst_1 val_main_v8 val_main_v7 val_main_cst_0
    val_main_v6 val_main_v5 val_main_cst val_main_v4 val_main_v3 val_main_v1 val_main_v0
  pointwise

/-- Both runs end with the same array. -/
theorem claim : Cert.algebraic_Kernel11Ideal_Reference11Ideal := by
  intro m g m' g' _ hargs
  refine ⟨fun c => expected m c,
    (θ_run _ _ _).mono (fun _ h c => ?_) (θ_run_and (run_main m g) (unchanged m g)),
    (θ_run _ _ _).mono (fun _ h c => ?_) (Cert.Reference11Ideal.Value.run m' g')⟩
  · exact ⟨((h.1 c).2 main_v11 (by decide)).trans ((last m c).trans (expected_eq m c)), h.2 c⟩
  · obtain ⟨a0, a1, a2⟩ := hargs c
    exact ⟨(h c).1.trans ((val_main_v24_eq _ _ _).trans (by rw [a0, a1, a2])), (h c).2⟩

end Cert.Proof.Norm.Sample
-- ==== Proof.PosBias.lean ====
/- The bias the positions of a compressed block give its hidden units: the positions' vector, as one row, through the
   first weight. The call places the row above seven rows of zeros. -/
module

public import Idealize.ShloMosaic.Lib.Routing.OpsOne
public import Idealize.ShloMosaic.Lib.TwoAxisContraction
public import proofs.«01_k».proof.Proof.Merge
public import proofs.«01_k».proof.Proof.Gen.Kernel12Ideal.Frame
public import proofs.«01_k».proof.Proof.Gen.Reference12Ideal.Read
public import proofs.«01_k».proof.Defs

@[expose] public section

noncomputable section

namespace Cert.Proof.PosBias

open Idealize.ShloMosaic Idealize.ShloMosaic.TcCoe Cert.Kernel12Ideal Cert.Kernel12Ideal.Gen Cert.Reference12Ideal.Read Cert.Proof.Merge

/-- An entry of what the body leaves: of the keys' half or the values', a row through its weight. -/
theorem block (P : Vec Ideal S2x8x2048 .f32) (W : Vec Ideal S2x2048x128 .f32) (B : Vec Ideal S2x1x128 .f32) (y : S2x8x128.Idx) :
    out0_3 P W B y = ∑ k : Fin 2048, P (ix3 (y 0) (y 1) k) * W (ix3 (y 0) k (y 2)) + B (ix3 (y 0) 0 (y 2)) := by
  unfold out0_3
  canon_tiles x h using cover0_3 _ _ y
  · unfold k0_pay2
    pointwise
    rw [show y 0 = (1 : Fin 2) from Fin.ext (h0.trans (by show _ = 1; omega)), show y 1 = x 1 from Fin.ext h1, show y 2 = x 2 from Fin.ext h2]
  · unfold k0_pay1
    pointwise
    rw [show y 0 = (0 : Fin 2) from Fin.ext (h0.trans (by show _ = 0; omega)), show y 1 = x 1 from Fin.ext h1, show y 2 = x 2 from Fin.ext h2]

variable (m : (ℓ : Loc nD τ sig) → Buf (Elt Ideal) ℓ) (c : Dev nD)

abbrev pos : Vec Ideal S1x2x32x64 .f32 := m ((c.tc : Thread nD τ).loc main_arg0)
abbrev w1 : Vec Ideal S1x2x32x64x128 .f32 := m ((c.tc : Thread nD τ).loc main_arg1)
abbrev b1 : Vec Ideal S1x2x128 .f32 := m ((c.tc : Thread nD τ).loc main_arg2)

/-- The positions' row above rows of zeros. -/
def rows : Vec Ideal S2x8x2048 .f32 :=
  Host.scatter scatter_S2x8x2048_S1_S2x2048_01_1_1_0 (fun _ b => b) (broadcastInDim S2x8x2048 ![] bcast_S_S2x8x2048 (constant (F := Ideal) S_ .f32 0x00000000#32))
    (broadcastInDim S1 ![] bcast_S_S1 (constantI S_ 32 0#32)) (shapeCast S2x2048 (shapeCast S2x32x64 (pos m c) shapeCasts_S1x2x32x64_S2x32x64) shapeCasts_S2x32x64_S2x2048)

theorem lands (p : Fin 2) (k : Fin 2048) (q : Fin 2) (d : Fin 2048) (idx : IVec S1 32) (h : (idx (ix1 0)).toInt = 0) :
    scatter_S2x8x2048_S1_S2x2048_01_1_1_0.resultIdx? (ix2 p k) idx = some (ix3 q 0 d) ↔ p.val = q.val ∧ k.val = d.val := by
  have hw0 : scatter_S2x8x2048_S1_S2x2048_01_1_1_0.window (ix2 p k) 0 = p.val := rfl
  have hw1 : scatter_S2x8x2048_S1_S2x2048_01_1_1_0.window (ix2 p k) 1 = 0 := rfl
  have hw2 : scatter_S2x8x2048_S1_S2x2048_01_1_1_0.window (ix2 p k) 2 = k.val := rfl
  have h1 : scatter_S2x8x2048_S1_S2x2048_01_1_1_0.start (ix2 p k) idx 1 = 0 := by
    refine Eq.trans ?_ h
    refine congrArg (fun i => (idx i).toInt) (funext fun b => ?_)
    match b with
    | ⟨0, _⟩ => exact Subsingleton.elim (α := Fin 1) _ _
  have h0 : scatter_S2x8x2048_S1_S2x2048_01_1_1_0.start (ix2 p k) idx 0 = 0 := rfl
  have h2 : scatter_S2x8x2048_S1_S2x2048_01_1_1_0.start (ix2 p k) idx 2 = 0 := rfl
  rw [Routing.resultIdx?_eq_some]
  refine Iff.trans (b := (0 + (p.val : ℤ) = q.val ∧ 0 + (k.val : ℤ) = d.val)) ⟨fun e => ?_, fun e a => ?_⟩ (by omega)
  · have e0 := e 0
    have e2 := e 2
    rw [h0, hw0] at e0
    rw [h2, hw2] at e2
    exact ⟨e0, e2⟩
  · match a with
    | ⟨0, _⟩ => exact (congrArg₂ (fun a (b : ℕ) => a + (b : ℤ)) h0 hw0).trans e.1
    | ⟨1, _⟩ => exact (congrArg₂ (fun a (b : ℕ) => a + (b : ℤ)) h1 hw1).trans rfl
    | ⟨2, _⟩ => exact (congrArg₂ (fun a (b : ℕ) => a + (b : ℤ)) h2 hw2).trans e.2

theorem rows_at (p : Fin 2) (k : Fin 2048) : rows m c (ix3 p 0 k) = pos m c (ix4 0 p ⟨k.val / 64, by omega⟩ ⟨k.val % 64, by omega⟩) := by
  unfold rows
  refine Routing.scatter_set_hit _ _ _ _ _ _ (fun y hy => ?_) (ix2 p k) ((lands p k p k _ rfl).2 ⟨rfl, rfl⟩)
  obtain ⟨p', k', rfl⟩ : ∃ p' k', y = ix2 p' k' := ⟨y 0, y 1, ValueIdx.eq_ix2 y⟩
  have e := (lands p' k' p k _ rfl).1 hy
  obtain rfl : p' = p := Fin.ext e.1
  obtain rfl : k' = k := Fin.ext e.2
  pointwise

/-- The arrays the region reads, of the arguments. -/
theorem arrays : V m c main_v6 = rows m c
    ∧ V m c main_v7 = shapeCast S2x2048x128 (shapeCast S2x32x64x128 (w1 m c) shapeCasts_S1x2x32x64x128_S2x32x64x128) shapeCasts_S2x32x64x128_S2x2048x128
    ∧ V m c main_v8 = shapeCast S2x1x128 (shapeCast S2x128 (b1 m c) shapeCasts_S1x2x128_S2x128) shapeCasts_S2x128_S2x1x128 := by
  unfold V V0 hostOps0
  refine ⟨?_, ?_, ?_⟩ <;> (try rw [List.flatten_singleton]) <;> after_results_simp <;> rfl

/-- The point's blocks are the whole arrays. -/
theorem whole0 (t : Fin cfg0.N) (y : S2x8x2048.Idx) : (((cfg0.win 0).blk t).view.emb y : S2x8x2048.Idx) = y :=
  funext fun a => Fin.ext (by show 0 * _ + 1 * (y a).val = (y a).val; omega)

theorem whole1 (t : Fin cfg0.N) (y : S2x2048x128.Idx) : (((cfg0.win 1).blk t).view.emb y : S2x2048x128.Idx) = y :=
  funext fun a => Fin.ext (by show 0 * _ + 1 * (y a).val = (y a).val; omega)

theorem whole2 (t : Fin cfg0.N) (y : S2x1x128.Idx) : (((cfg0.win 2).blk t).view.emb y : S2x1x128.Idx) = y :=
  funext fun a => Fin.ext (by show 0 * _ + 1 * (y a).val = (y a).val; omega)

theorem whole3 (t : Fin cfg0.N) (y : S2x8x128.Idx) : (((cfg0.win 3).blk t).view.emb y : S2x8x128.Idx) = y :=
  funext fun a => Fin.ext (by show 0 * _ + 1 * (y a).val = (y a).val; omega)

theorem blk0_eq (t : Fin cfg0.N) : (iblk m c 0 t : Vec Ideal S2x8x2048 .f32) = rows m c :=
  funext fun y => (congrArg (V m c main_v6) (whole0 t y)).trans (congrFun (arrays m c).1 y)

theorem blk1_eq (t : Fin cfg0.N) : (iblk m c 1 t : Vec Ideal S2x2048x128 .f32) = V m c main_v7 :=
  funext fun y => congrArg (V m c main_v7) (whole1 t y)

theorem blk2_eq (t : Fin cfg0.N) : (iblk m c 2 t : Vec Ideal S2x1x128 .f32) = V m c main_v8 :=
  funext fun y => congrArg (V m c main_v8) (whole2 t y)

theorem weight_at (p : Fin 2) (k : Fin 2048) (e : Fin 128) :
    (V m c main_v7 : Vec Ideal S2x2048x128 .f32) (ix3 p k e) = w1 m c (ix5 0 p ⟨k.val / 64, by omega⟩ ⟨k.val % 64, by omega⟩ e) := by
  rw [(arrays m c).2.1]
  pointwise

theorem bias_at (p : Fin 2) (e : Fin 128) : (V m c main_v8 : Vec Ideal S2x1x128 .f32) (ix3 p 0 e) = b1 m c (ix3 0 p e) := by
  rw [(arrays m c).2.2]
  pointwise

/-- The result array, of the arrays the region reads. -/
def result : Vec Ideal S2x8x128 .f32 := out0_3 (rows m c) (V m c main_v7) (V m c main_v8)

/-- The result array after the run. -/
theorem final : (dats m 0 c).arrAt 3 cfg0.N = result m c := by
  refine (dats m 0 c).arrAt_eq_of_emb 3 (result m c) (fun t _ y => ?_) (fun i => ?_)
  · refine (congrFun (after0_3 m c t) y).trans ?_
    rw [blk0_eq, blk1_eq, blk2_eq]
    exact congrArg (result m c) (whole3 t y).symm
  · exact ⟨t0_0, flush0_3 .., Finset.mem_map.mpr ⟨i, Finset.mem_univ _, whole3 t0_0 i⟩⟩

/-- The reference's result, of the kernel's arguments. -/
abbrev expected : Vec Ideal S2x128 .f32 := val_main_v4 (F := Ideal) (pos m c) (w1 m c) (b1 m c)

/-- A sum over a row of positions, by the position and the place in it. -/
theorem by_position (f : Fin 32 → Fin 64 → EReal) :
    ∑ k : Fin 2048, f ⟨k.val / 64, by omega⟩ ⟨k.val % 64, by omega⟩ = ∑ d, ∑ l, f l d := by
  rw [Finset.sum_comm, ← Fintype.sum_prod_type', ← Equiv.sum_comp (finProdFinEquiv (m := 32) (n := 64)).symm]
  exact Finset.sum_congr rfl fun k _ => rfl

theorem row_eq (p : Fin 2) (e : Fin 128) : result m c (ix3 p 0 e) = expected m c (ix2 p e) := by
  refine (block _ _ _ _).trans ?_
  refine Eq.trans (b := ∑ k : Fin 2048, pos m c (ix4 0 p ⟨k.val / 64, by omega⟩ ⟨k.val % 64, by omega⟩) * w1 m c (ix5 0 p ⟨k.val / 64, by omega⟩ ⟨k.val % 64, by omega⟩ e)
      + b1 m c (ix3 0 p e)) ?_ ?_
  · exact congrArg₂ (· + ·) (Finset.sum_congr rfl fun k _ => congrArg₂ (· * ·) (rows_at m c p k) (weight_at m c p k e)) (bias_at m c p e)
  · rw [by_position fun l d => pos m c (ix4 0 p l d) * w1 m c (ix5 0 p l d e)]
    unfold expected val_main_v4 val_main_v3 val_main_v2 val_main_v1 val_main_v0
    pointwise

/-- An array several windows stage is only read. -/
theorem shared : ∀ w w', w ≠ w' → Pipeline.arrRef spec0 w = Pipeline.arrRef spec0 w' → (cfg0.win w).isOut = false :=
  (by decide : ∀ w w', w ≠ w' → Pipeline.arrRef spec0 w = Pipeline.arrRef spec0 w' → (win0 w).isOut = false)

/-- The result's buffer after the lines that follow the region. -/
theorem last : Pipeline.afterTail₀ cfgs (dats m) 0 (V0 m) [hostOps1] c main_v11 = expected m c := by
  have found : Pipeline.withArrays spec0 c (V0 m c) (fun w => (dats m 0 c).arrAt w cfg0.N) (Proc.devRef .tc main_v9) = result m c :=
    (Pipeline.withArrays_arr_shared spec0 c (V0 m c) _
      (fun w w' hne e => ((dats m 0 c).arrAt_in w (shared w w' hne e) _).trans (A_eq m c w)) 3).trans (final m c)
  unfold Pipeline.afterTail₀
  rw [List.flatten_singleton]
  after_results_simp
  refine (congrArg (fun x => shapeCast S2x128 (extractStridedSlice S2x1x128 ![0, 0, 0] x slices_S2x8x128_S2x1x128_0_0_0) shapeCasts_S2x1x128_S2x128) found).trans
    (funext fun i => ?_)
  obtain ⟨p, e, rfl⟩ : ∃ (p : Fin 2) (e : Fin 128), i = ix2 p e := ⟨i 0, i 1, ValueIdx.eq_ix2 i⟩
  refine Eq.trans ?_ (row_eq m c p e)
  generalize result m c = X
  pointwise

/-- Both runs end with the same array. -/
theorem claim : Cert.algebraic_Kernel12Ideal_Reference12Ideal := by
  intro m g m' g' _ hargs
  refine ⟨fun c => expected m c,
    (θ_run _ _ _).mono (fun _ h c => ?_) (θ_run_and (run_main m g) (unchanged m g)),
    (θ_run _ _ _).mono (fun _ h c => ?_) (Cert.Reference12Ideal.Value.run m' g')⟩
  · exact ⟨((h.1 c).2 main_v11 (by decide)).trans (last m c), h.2 c⟩
  · obtain ⟨a0, a1, a2⟩ := hargs c
    exact ⟨(h c).1.trans ((val_main_v4_eq _ _ _).trans (by rw [a0, a1, a2])), (h c).2⟩

end Cert.Proof.PosBias
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Read
public import proofs.«01_k».proof.Proof.Gen.Reference2Ideal.Read
public import proofs.«01_k».proof.Proof.Gen.Kernel3.Frame
public import proofs.«01_k».proof.Proof.Gen.Kernel4.Frame
public import proofs.«01_k».proof.Proof.Gen.Kernel3Ideal.Frame
public import proofs.«01_k».proof.Proof.Gen.Kernel4Ideal.Frame
public import proofs.«01_k».proof.Proof.Gen.Kernel7.Frame
public import proofs.«01_k».proof.Proof.Gen.Kernel7Ideal.Frame
public import proofs.«01_k».proof.Proof.Gen.Reference7Ideal.Run
public import proofs.«01_k».proof.Proof.RowsClaim
public import proofs.«01_k».proof.Proof.Gen.Reference3Ideal.Read
public import proofs.«01_k».proof.Proof.Gen.Reference4Ideal.Read
public import proofs.«01_k».proof.Proof.ColsClaim
public import proofs.«01_k».proof.Proof.Gen.Kernel5.Frame
public import proofs.«01_k».proof.Proof.Gen.Kernel6.Frame
public import proofs.«01_k».proof.Proof.Gen.Kernel5Ideal.Frame
public import proofs.«01_k».proof.Proof.Gen.Kernel6Ideal.Frame
public import proofs.«01_k».proof.Proof.Gen.Reference5Ideal.Read
public import proofs.«01_k».proof.Proof.Gen.Reference6Ideal.Read
public import proofs.«01_k».proof.Proof.MergeClaim
public import proofs.«01_k».proof.Proof.MergeSample
public import proofs.«01_k».proof.Proof.RotatePrompt
public import proofs.«01_k».proof.Proof.RotateSample
public import proofs.«01_k».proof.Proof.GlaSampleClaim
public import proofs.«01_k».proof.Proof.GlaPromptClaim
public import proofs.«01_k».proof.Proof.Gen.Kernel8.Frame
public import proofs.«01_k».proof.Proof.Gen.Kernel8Ideal.Frame
public import proofs.«01_k».proof.Proof.Gen.Reference8Ideal.Run
public import proofs.«01_k».proof.Proof.Modulation
public import proofs.«01_k».proof.Proof.NormPrompt
public import proofs.«01_k».proof.Proof.NormSample
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Read
public import proofs.«01_k».proof.Proof.PosBias
public import proofs.«01_k».proof.Proof.Gen.Kernel12.Frame
public import proofs.«01_k».proof.Proof.Gen.Kernel12Ideal.Frame
public import proofs.«01_k».proof.Proof.Gen.Reference12Ideal.Read
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The row-major projection ends without fault, its arguments unchanged and its counters at zero. -/
theorem rowsFrame : Cert.quiescent_Kernel := fun m ρ _ => Cert.Kernel.Gen.frame m ρ (Rows.ok_bits m)

/-- The same of its idealization. -/
theorem rowsIdealFrame : Cert.quiescent_KernelIdeal := fun m ρ _ => Cert.KernelIdeal.Gen.frame m ρ (Rows.ok m)

/-- The same of its reference, a program with no semaphore. -/
theorem rowsReferenceFrame : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run m ρ)

/-- The feature-major projection ends without fault, its arguments unchanged and its counters at zero. -/
theorem colsFrame : Cert.quiescent_Kernel2 := fun m ρ _ => Cert.Kernel2.Gen.frame m ρ (Cols.ok_bits m)

/-- The same of its idealization. -/
theorem colsIdealFrame : Cert.quiescent_Kernel2Ideal := fun m ρ _ => Cert.Kernel2Ideal.Gen.frame m ρ (Cols.ok m)

/-- The same of its reference. -/
theorem colsReferenceFrame : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run m ρ)

/-- The prompt's output projection ends without fault, its arguments unchanged and its counters at zero. -/
theorem mergeFrame : Cert.quiescent_Kernel3 := fun m ρ _ => Cert.Kernel3.Gen.frame m ρ

/-- The same of its idealization. -/
theorem mergeIdealFrame : Cert.quiescent_Kernel3Ideal := fun m ρ _ => Cert.Kernel3Ideal.Gen.frame m ρ

/-- The same of its reference. -/
theorem mergeReferenceFrame : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- The sample batch's output projection ends without fault, its arguments unchanged and its counters at zero. -/
theorem sampleFrame : Cert.quiescent_Kernel4 := fun m ρ _ => Cert.Kernel4.Gen.frame m ρ

/-- The same of its idealization. -/
theorem sampleIdealFrame : Cert.quiescent_Kernel4Ideal := fun m ρ _ => Cert.Kernel4Ideal.Gen.frame m ρ

/-- The same of its reference. -/
theorem sampleReferenceFrame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

/-- The prompt's rotation ends without fault, its arguments unchanged and its counters at zero. -/
theorem rotateFrame : Cert.quiescent_Kernel5 := fun m ρ _ => Cert.Kernel5.Gen.frame m ρ

/-- The same of its idealization. -/
theorem rotateIdealFrame : Cert.quiescent_Kernel5Ideal := fun m ρ _ => Cert.Kernel5Ideal.Gen.frame m ρ

/-- The same of its reference. -/
theorem rotateReferenceFrame : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run m ρ)

/-- The sample batch's rotation ends without fault, its arguments unchanged and its counters at zero. -/
theorem rotateSampleFrame : Cert.quiescent_Kernel6 := fun m ρ _ => Cert.Kernel6.Gen.frame m ρ

/-- The same of its idealization. -/
theorem rotateSampleIdealFrame : Cert.quiescent_Kernel6Ideal := fun m ρ _ => Cert.Kernel6Ideal.Gen.frame m ρ

/-- The same of its reference. -/
theorem rotateSampleReferenceFrame : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run m ρ)

/-- The sample batch's linear attention ends without fault, its arguments unchanged and its counters at zero. -/
theorem glaSampleFrame : Cert.quiescent_Kernel7 := fun m ρ _ => Cert.Kernel7.Gen.frame m ρ

/-- The same of its idealization. -/
theorem glaSampleIdealFrame : Cert.quiescent_Kernel7Ideal := fun m ρ _ => Cert.Kernel7Ideal.Gen.frame m ρ

/-- The same of its reference. -/
theorem glaSampleReferenceFrame : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run m ρ)

/-- The prompt's linear attention ends without fault, its arguments unchanged and its counters at zero. -/
theorem glaFrame : Cert.quiescent_Kernel8 := fun m ρ _ => Cert.Kernel8.Gen.frame m ρ

/-- The same of its idealization. -/
theorem glaIdealFrame : Cert.quiescent_Kernel8Ideal := fun m ρ _ => Cert.Kernel8Ideal.Gen.frame m ρ

/-- The same of its reference. -/
theorem glaReferenceFrame : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

/-- The modulation of both batches ends without fault, its arguments unchanged and its counters at zero. -/
theorem modulationFrame : Cert.quiescent_Kernel9 := fun m ρ _ => Cert.Kernel9.Gen.frame m ρ

/-- The same of its idealization. -/
theorem modulationIdealFrame : Cert.quiescent_Kernel9Ideal := fun m ρ _ => Cert.Kernel9Ideal.Gen.frame m ρ

/-- The same of its reference. -/
theorem modulationReferenceFrame : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run m ρ)

/-- The prompt's first norm ends without fault, its arguments unchanged and its counters at zero. -/
theorem normFrame : Cert.quiescent_Kernel10 := fun m ρ _ => Cert.Kernel10.Gen.frame m ρ

/-- The same of its idealization. -/
theorem normIdealFrame : Cert.quiescent_Kernel10Ideal := fun m ρ _ => Cert.Kernel10Ideal.Gen.frame m ρ

/-- The same of its reference. -/
theorem normReferenceFrame : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

/-- The sample batch's first norm ends without fault, its arguments unchanged and its counters at zero. -/
theorem normSampleFrame : Cert.quiescent_Kernel11 := fun m ρ _ => Cert.Kernel11.Gen.frame m ρ

/-- The same of its idealization. -/
theorem normSampleIdealFrame : Cert.quiescent_Kernel11Ideal := fun m ρ _ => Cert.Kernel11Ideal.Gen.frame m ρ

/-- The same of its reference. -/
theorem normSampleReferenceFrame : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

/-- The compression's position bias ends without fault, its arguments unchanged and its counters at zero. -/
theorem posBiasFrame : Cert.quiescent_Kernel12 := fun m ρ _ => Cert.Kernel12.Gen.frame m ρ

/-- The same of its idealization. -/
theorem posBiasIdealFrame : Cert.quiescent_Kernel12Ideal := fun m ρ _ => Cert.Kernel12Ideal.Gen.frame m ρ

/-- The same of its reference. -/
theorem posBiasReferenceFrame : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run m ρ)

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, by
  exact ⟨rowsFrame, rowsIdealFrame, rowsReferenceFrame, colsFrame, colsIdealFrame, colsReferenceFrame,
    mergeFrame, mergeIdealFrame, mergeReferenceFrame, sampleFrame, sampleIdealFrame, sampleReferenceFrame,
    rotateFrame, rotateIdealFrame, rotateReferenceFrame, rotateSampleFrame, rotateSampleIdealFrame, rotateSampleReferenceFrame,
    glaSampleFrame, glaSampleIdealFrame, glaSampleReferenceFrame,
    glaFrame, glaIdealFrame, glaReferenceFrame,
    modulationFrame, modulationIdealFrame, modulationReferenceFrame,
    normFrame, normIdealFrame, normReferenceFrame,
    normSampleFrame, normSampleIdealFrame, normSampleReferenceFrame,
    posBiasFrame, posBiasIdealFrame, posBiasReferenceFrame,
    trivial, Rows.claim, trivial, Cols.claim, trivial, Merge.Prompt.claim, trivial, Merge.Sample.claim,
    trivial, Rotate.Prompt.claim, trivial, Rotate.Sample.claim,
    trivial, Gla.Sample.claim, trivial, Gla.Prompt.claim,
    trivial, Modulation.claim, trivial, Norm.Prompt.claim, trivial, Norm.Sample.claim,
    trivial, PosBias.claim⟩⟩

end Cert.Proof

end
